-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_448" .f32 0x3B124925#32 ((1 / 448 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S8x256x4096 : Shape := ⟨3, ![8, 256, 4096]⟩
abbrev S16x8x128 : Shape := ⟨3, ![16, 8, 128]⟩
abbrev S8x2 : Shape := ⟨2, ![8, 2]⟩
abbrev S16 : Shape := ⟨1, ![16]⟩
abbrev S_ : Shape := ⟨0, ![]⟩
abbrev S1x1 : Shape := ⟨2, ![1, 1]⟩
abbrev S1x128x4096 : Shape := ⟨3, ![1, 128, 4096]⟩
abbrev S128x4096 : Shape := ⟨2, ![128, 4096]⟩
abbrev S256x128 : Shape := ⟨2, ![256, 128]⟩
abbrev S1x256x128 : Shape := ⟨3, ![1, 256, 128]⟩
abbrev S1 : Shape := ⟨1, ![1]⟩
abbrev S1x1x1 : Shape := ⟨3, ![1, 1, 1]⟩
abbrev S1x256x4096 : Shape := ⟨3, ![1, 256, 4096]⟩
abbrev S1x64x4096 : Shape := ⟨3, ![1, 64, 4096]⟩
abbrev S64x4096 : Shape := ⟨2, ![64, 4096]⟩
abbrev S128x128 : Shape := ⟨2, ![128, 128]⟩
abbrev S1x128x128 : Shape := ⟨3, ![1, 128, 128]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S256x4096, .bf16⟩
  | .hbm, ⟨1, _⟩ => ⟨S4096x128, .bf16⟩
  | .hbm, ⟨2, _⟩ => ⟨S4096x128, .f32⟩
  | .local _ .vmem, ⟨0, _⟩ => ⟨S256x4096, .bf16⟩
  | .local _ .vmem, ⟨1, _⟩ => ⟨S4096x128, .bf16⟩
  | .local _ .vmem, ⟨2, _⟩ => ⟨S4096x128, .f32⟩
  | .local _ .vmem, ⟨3, _⟩ => ⟨S256x4096, .bf16⟩
  | .local _ .vmem, ⟨4, _⟩ => ⟨S4096x128, .bf16⟩
  | .local _ .vmem, ⟨5, _⟩ => ⟨S8x256x4096, .bf16⟩
  | .local _ .vmem, ⟨6, _⟩ => ⟨S8x256x4096, .bf16⟩
  | .local _ .vmem, ⟨7, _⟩ => ⟨S16x8x128, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_82 : BitVec 32 := 1#32
  let v99 : BitVec 32 := Scalar.muli v92 c1_i32_82
  let v100 : BitVec 32 := Scalar.addi c0_i32_83 v99
  v100.toNat
def k0_dev2 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_85 : BitVec 32 := 1#32
  let v101 : BitVec 32 := Scalar.muli v62 c1_i32_85
  let v102 : BitVec 32 := Scalar.addi c0_i32_86 v101
  v102.toNat
def k0_dev3 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_93 : BitVec 32 := 1#32
  let v103 : BitVec 32 := Scalar.muli v62 c1_i32_93
  let v104 : BitVec 32 := Scalar.addi c0_i32_94 v103
  v104.toNat
def k0_dev4 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_104 : BitVec 32 := 1#32
  let v112 : BitVec 32 := Scalar.muli v92 c1_i32_104
  let v113 : BitVec 32 := Scalar.addi c0_i32_105 v112
  v113.toNat
def k0_dev5 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_114 : BitVec 32 := 1#32
  let v121 : BitVec 32 := Scalar.muli v62 c1_i32_114
  let v122 : BitVec 32 := Scalar.addi c0_i32_115 v121
  v122.toNat
def k0_dev6 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_125 : BitVec 32 := 1#32
  let v130 : BitVec 32 := Scalar.muli v92 c1_i32_125
  let v131 : BitVec 32 := Scalar.addi c0_i32_126 v130
  v131.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v145 : BitVec 32 := Scalar.muli v2 c256_i32
  let v150 : Index := Scalar.indexCast v145
  let c0_140 : Index := 0#32
  ![v150.toNat, 0]
def k0_dev7 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_160 : BitVec 32 := 1#32
  let v164 : BitVec 32 := Scalar.muli v62 c1_i32_160
  let v165 : BitVec 32 := Scalar.addi c0_i32_161 v164
  v165.toNat
def k0_dev8 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_184 : BitVec 32 := 1#32
  let v182 : BitVec 32 := Scalar.muli v92 c1_i32_184
  let v183 : BitVec 32 := Scalar.addi c0_i32_185 v182
  v183.toNat
def k0_dev9 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_208 : BitVec 32 := 1#32
  let v200 : BitVec 32 := Scalar.muli v62 c1_i32_208
  let v201 : BitVec 32 := Scalar.addi c0_i32_209 v200
  v201.toNat
def k0_dev10 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_232 : BitVec 32 := 1#32
  let v218 : BitVec 32 := Scalar.muli v92 c1_i32_232
  let v219 : BitVec 32 := Scalar.addi c0_i32_233 v218
  v219.toNat
def k0_off2 (d0 : Dev nD) (c0_i32_240 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_238 : BitVec 32 := 16#32
  let v228 : BitVec 32 := Scalar.addi v32 c16_i32_238
  let c1_i32_239 : BitVec 32 := 1#32
  let v229 : BitVec 32 := Scalar.subi v228 c1_i32_239
  let v230 : BitVec 32 := Scalar.subi v229 c0_i32_240
  let c16_i32_241 : BitVec 32 := 16#32
  let c0_i32_242 : BitVec 32 := 0#32
  let v231 : BitVec 1 := Scalar.cmpi .eq c16_i32_241 c0_i32_242
  let c1_i32_243 : BitVec 32 := 1#32
  let v232 : BitVec 32 := Scalar.select v231 c1_i32_243 c16_i32_241
  let v233 : BitVec 32 := Scalar.remsi v230 v232
  let c0_i32_245 : BitVec 32 := 0#32
  let v235 : BitVec 1 := Scalar.cmpi .slt v233 c0_i32_245
  let c0_i32_246 : BitVec 32 := 0#32
  let v236 : BitVec 1 := Scalar.cmpi .slt v232 c0_i32_246
  let v237 : BitVec 1 := Scalar.xori v235 v236
  let c0_i32_244 : BitVec 32 := 0#32
  let v234 : BitVec 1 := Scalar.cmpi .ne v233 c0_i32_244
  let v238 : BitVec 1 := Scalar.andi v237 v234
  let v239 : BitVec 32 := Scalar.addi v233 v232
  let v240 : BitVec 32 := Scalar.select v238 v239 v233
  let c15_i32_276 : BitVec 32 := 15#32
  let v269 : BitVec 1 := Scalar.cmpi .eq v240 c15_i32_276
  let c1_i32_277 : BitVec 32 := 1#32
  let c14_i32_274 : BitVec 32 := 14#32
  let v267 : BitVec 1 := Scalar.cmpi .eq v240 c14_i32_274
  let c5_i32_275 : BitVec 32 := 5#32
  let c13_i32_272 : BitVec 32 := 13#32
  let v265 : BitVec 1 := Scalar.cmpi .eq v240 c13_i32_272
  let c9_i32_273 : BitVec 32 := 9#32
  let c12_i32_270 : BitVec 32 := 12#32
  let v263 : BitVec 1 := Scalar.cmpi .eq v240 c12_i32_270
  let c13_i32_271 : BitVec 32 := 13#32
  let c11_i32_268 : BitVec 32 := 11#32
  let v261 : BitVec 1 := Scalar.cmpi .eq v240 c11_i32_268
  let c14_i32_269 : BitVec 32 := 14#32
  let c10_i32_266 : BitVec 32 := 10#32
  let v259 : BitVec 1 := Scalar.cmpi .eq v240 c10_i32_266
  let c10_i32_267 : BitVec 32 := 10#32
  let c9_i32_264 : BitVec 32 := 9#32
  let v257 : BitVec 1 := Scalar.cmpi .eq v240 c9_i32_264
  let c6_i32_265 : BitVec 32 := 6#32
  let c8_i32_262 : BitVec 32 := 8#32
  let v255 : BitVec 1 := Scalar.cmpi .eq v240 c8_i32_262
  let c2_i32_263 : BitVec 32 := 2#32
  let c7_i32_260 : BitVec 32 := 7#32
  let v253 : BitVec 1 := Scalar.cmpi .eq v240 c7_i32_260
  let c3_i32_261 : BitVec 32 := 3#32
  let c6_i32_258 : BitVec 32 := 6#32
  let v251 : BitVec 1 := Scalar.cmpi .eq v240 c6_i32_258
  let c7_i32_259 : BitVec 32 := 7#32
  let c5_i32_256 : BitVec 32 := 5#32
  let v249 : BitVec 1 := Scalar.cmpi .eq v240 c5_i32_256
  let c11_i32_257 : BitVec 32 := 11#32
  let c4_i32_254 : BitVec 32 := 4#32
  let v247 : BitVec 1 := Scalar.cmpi .eq v240 c4_i32_254
  let c15_i32_255 : BitVec 32 := 15#32
  let c3_i32_252 : BitVec 32 := 3#32
  let v245 : BitVec 1 := Scalar.cmpi .eq v240 c3_i32_252
  let c12_i32_253 : BitVec 32 := 12#32
  let c2_i32_250 : BitVec 32 := 2#32
  let v243 : BitVec 1 := Scalar.cmpi .eq v240 c2_i32_250
  let c8_i32_251 : BitVec 32 := 8#32
  let c1_i32_247 : BitVec 32 := 1#32
  let v241 : BitVec 1 := Scalar.cmpi .eq v240 c1_i32_247
  let c4_i32_248 : BitVec 32 := 4#32
  let c0_i32_249 : BitVec 32 := 0#32
  let v242 : BitVec 32 := Scalar.select v241 c4_i32_248 c0_i32_249
  let v244 : BitVec 32 := Scalar.select v243 c8_i32_251 v242
  let v246 : BitVec 32 := Scalar.select v245 c12_i32_253 v244
  let v248 : BitVec 32 := Scalar.select v247 c15_i32_255 v246
  let v250 : BitVec 32 := Scalar.select v249 c11_i32_257 v248
  let v252 : BitVec 32 := Scalar.select v251 c7_i32_259 v250
  let v254 : BitVec 32 := Scalar.select v253 c3_i32_261 v252
  let v256 : BitVec 32 := Scalar.select v255 c2_i32_263 v254
  let v258 : BitVec 32 := Scalar.select v257 c6_i32_265 v256
  let v260 : BitVec 32 := Scalar.select v259 c10_i32_267 v258
  let v262 : BitVec 32 := Scalar.select v261 c14_i32_269 v260
  let v264 : BitVec 32 := Scalar.select v263 c13_i32_271 v262
  let v266 : BitVec 32 := Scalar.select v265 c9_i32_273 v264
  let v268 : BitVec 32 := Scalar.select v267 c5_i32_275 v266
  let v270 : BitVec 32 := Scalar.select v269 c1_i32_277 v268
  let c256_i32_320 : BitVec 32 := 256#32
  let v315 : BitVec 32 := Scalar.muli v270 c256_i32_320
  let v320 : Index := Scalar.indexCast v315
  let c0_325 : Index := 0#32
  ![v320.toNat, 0]
def k0_off3 (d0 : Dev nD) (c0_i32_279 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_278 : BitVec 32 := 1#32
  let v271 : BitVec 32 := Scalar.addi v32 c1_i32_278
  let v272 : BitVec 32 := Scalar.addi v271 c0_i32_279
  let c16_i32_280 : BitVec 32 := 16#32
  let c0_i32_281 : BitVec 32 := 0#32
  let v273 : BitVec 1 := Scalar.cmpi .eq c16_i32_280 c0_i32_281
  let c1_i32_282 : BitVec 32 := 1#32
  let v274 : BitVec 32 := Scalar.select v273 c1_i32_282 c16_i32_280
  let v275 : BitVec 32 := Scalar.remsi v272 v274
  let c0_i32_284 : BitVec 32 := 0#32
  let v277 : BitVec 1 := Scalar.cmpi .slt v275 c0_i32_284
  let c0_i32_285 : BitVec 32 := 0#32
  let v278 : BitVec 1 := Scalar.cmpi .slt v274 c0_i32_285
  let v279 : BitVec 1 := Scalar.xori v277 v278
  let c0_i32_283 : BitVec 32 := 0#32
  let v276 : BitVec 1 := Scalar.cmpi .ne v275 c0_i32_283
  let v280 : BitVec 1 := Scalar.andi v279 v276
  let v281 : BitVec 32 := Scalar.addi v275 v274
  let v282 : BitVec 32 := Scalar.select v280 v281 v275
  let c15_i32_315 : BitVec 32 := 15#32
  let v311 : BitVec 1 := Scalar.cmpi .eq v282 c15_i32_315
  let c1_i32_316 : BitVec 32 := 1#32
  let c14_i32_313 : BitVec 32 := 14#32
  let v309 : BitVec 1 := Scalar.cmpi .eq v282 c14_i32_313
  let c5_i32_314 : BitVec 32 := 5#32
  let c13_i32_311 : BitVec 32 := 13#32
  let v307 : BitVec 1 := Scalar.cmpi .eq v282 c13_i32_311
  let c9_i32_312 : BitVec 32 := 9#32
  let c12_i32_309 : BitVec 32 := 12#32
  let v305 : BitVec 1 := Scalar.cmpi .eq v282 c12_i32_309
  let c13_i32_310 : BitVec 32 := 13#32
  let c11_i32_307 : BitVec 32 := 11#32
  let v303 : BitVec 1 := Scalar.cmpi .eq v282 c11_i32_307
  let c14_i32_308 : BitVec 32 := 14#32
  let c10_i32_305 : BitVec 32 := 10#32
  let v301 : BitVec 1 := Scalar.cmpi .eq v282 c10_i32_305
  let c10_i32_306 : BitVec 32 := 10#32
  let c9_i32_303 : BitVec 32 := 9#32
  let v299 : BitVec 1 := Scalar.cmpi .eq v282 c9_i32_303
  let c6_i32_304 : BitVec 32 := 6#32
  let c8_i32_301 : BitVec 32 := 8#32
  let v297 : BitVec 1 := Scalar.cmpi .eq v282 c8_i32_301
  let c2_i32_302 : BitVec 32 := 2#32
  let c7_i32_299 : BitVec 32 := 7#32
  let v295 : BitVec 1 := Scalar.cmpi .eq v282 c7_i32_299
  let c3_i32_300 : BitVec 32 := 3#32
  let c6_i32_297 : BitVec 32 := 6#32
  let v293 : BitVec 1 := Scalar.cmpi .eq v282 c6_i32_297
  let c7_i32_298 : BitVec 32 := 7#32
  let c5_i32_295 : BitVec 32 := 5#32
  let v291 : BitVec 1 := Scalar.cmpi .eq v282 c5_i32_295
  let c11_i32_296 : BitVec 32 := 11#32
  let c4_i32_293 : BitVec 32 := 4#32
  let v289 : BitVec 1 := Scalar.cmpi .eq v282 c4_i32_293
  let c15_i32_294 : BitVec 32 := 15#32
  let c3_i32_291 : BitVec 32 := 3#32
  let v287 : BitVec 1 := Scalar.cmpi .eq v282 c3_i32_291
  let c12_i32_292 : BitVec 32 := 12#32
  let c2_i32_289 : BitVec 32 := 2#32
  let v285 : BitVec 1 := Scalar.cmpi .eq v282 c2_i32_289
  let c8_i32_290 : BitVec 32 := 8#32
  let c1_i32_286 : BitVec 32 := 1#32
  let v283 : BitVec 1 := Scalar.cmpi .eq v282 c1_i32_286
  let c4_i32_287 : BitVec 32 := 4#32
  let c0_i32_288 : BitVec 32 := 0#32
  let v284 : BitVec 32 := Scalar.select v283 c4_i32_287 c0_i32_288
  let v286 : BitVec 32 := Scalar.select v285 c8_i32_290 v284
  let v288 : BitVec 32 := Scalar.select v287 c12_i32_292 v286
  let v290 : BitVec 32 := Scalar.select v289 c15_i32_294 v288
  let v292 : BitVec 32 := Scalar.select v291 c11_i32_296 v290
  let v294 : BitVec 32 := Scalar.select v293 c7_i32_298 v292
  let v296 : BitVec 32 := Scalar.select v295 c3_i32_300 v294
  let v298 : BitVec 32 := Scalar.select v297 c2_i32_302 v296
  let v300 : BitVec 32 := Scalar.select v299 c6_i32_304 v298
  let v302 : BitVec 32 := Scalar.select v301 c10_i32_306 v300
  let v304 : BitVec 32 := Scalar.select v303 c14_i32_308 v302
  let v306 : BitVec 32 := Scalar.select v305 c13_i32_310 v304
  let v308 : BitVec 32 := Scalar.select v307 c9_i32_312 v306
  let v310 : BitVec 32 := Scalar.select v309 c5_i32_314 v308
  let v312 : BitVec 32 := Scalar.select v311 c1_i32_316 v310
  let c256_i32_330 : BitVec 32 := 256#32
  let v328 : BitVec 32 := Scalar.muli v312 c256_i32_330
  let v333 : Index := Scalar.indexCast v328
  let c0_335 : Index := 0#32
  ![v333.toNat, 0]
def k0_dev11 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_355 : BitVec 32 := 1#32
  let v347 : BitVec 32 := Scalar.muli v62 c1_i32_355
  let v348 : BitVec 32 := Scalar.addi c0_i32_356 v347
  v348.toNat
def k0_dev12 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_379 : BitVec 32 := 1#32
  let v365 : BitVec 32 := Scalar.muli v92 c1_i32_379
  let v366 : BitVec 32 := Scalar.addi c0_i32_380 v365
  v366.toNat
def k0_dev13 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_403 : BitVec 32 := 1#32
  let v383 : BitVec 32 := Scalar.muli v62 c1_i32_403
  let v384 : BitVec 32 := Scalar.addi c0_i32_404 v383
  v384.toNat
def k0_dev14 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_427 : BitVec 32 := 1#32
  let v401 : BitVec 32 := Scalar.muli v92 c1_i32_427
  let v402 : BitVec 32 := Scalar.addi c0_i32_428 v401
  v402.toNat
def k0_dev15 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_549 : BitVec 32 := 1#32
  let v530 : BitVec 32 := Scalar.muli v62 c1_i32_549
  let v531 : BitVec 32 := Scalar.addi c0_i32_550 v530
  v531.toNat
def k0_dev16 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_573 : BitVec 32 := 1#32
  let v548 : BitVec 32 := Scalar.muli v92 c1_i32_573
  let v549 : BitVec 32 := Scalar.addi c0_i32_574 v548
  v549.toNat
def k0_dev17 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_597 : BitVec 32 := 1#32
  let v566 : BitVec 32 := Scalar.muli v62 c1_i32_597
  let v567 : BitVec 32 := Scalar.addi c0_i32_598 v566
  v567.toNat
def k0_dev18 (d0 : Dev nD) : Nat :=
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_621 : BitVec 32 := 1#32
  let v584 : BitVec 32 := Scalar.muli v92 c1_i32_621
  let v585 : BitVec 32 := Scalar.addi c0_i32_622 v584
  v585.toNat
def k0_dev19 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_743 : BitVec 32 := 1#32
  let v713 : BitVec 32 := Scalar.muli v62 c1_i32_743
  let v714 : BitVec 32 := Scalar.addi c0_i32_744 v713
  v714.toNat
def k0_dev20 (d0 : Dev nD) : Nat :=
  let c0_i32_768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_767 : BitVec 32 := 1#32
  let v731 : BitVec 32 := Scalar.muli v92 c1_i32_767
  let v732 : BitVec 32 := Scalar.addi c0_i32_768 v731
  v732.toNat
def k0_dev21 (d0 : Dev nD) : Nat :=
  let c0_i32_792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_791 : BitVec 32 := 1#32
  let v749 : BitVec 32 := Scalar.muli v62 c1_i32_791
  let v750 : BitVec 32 := Scalar.addi c0_i32_792 v749
  v750.toNat
def k0_dev22 (d0 : Dev nD) : Nat :=
  let c0_i32_816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_815 : BitVec 32 := 1#32
  let v767 : BitVec 32 := Scalar.muli v92 c1_i32_815
  let v768 : BitVec 32 := Scalar.addi c0_i32_816 v767
  v768.toNat
def k0_dev23 (d0 : Dev nD) : Nat :=
  let c0_i32_938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_937 : BitVec 32 := 1#32
  let v896 : BitVec 32 := Scalar.muli v62 c1_i32_937
  let v897 : BitVec 32 := Scalar.addi c0_i32_938 v896
  v897.toNat
def k0_dev24 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_961 : BitVec 32 := 1#32
  let v914 : BitVec 32 := Scalar.muli v92 c1_i32_961
  let v915 : BitVec 32 := Scalar.addi c0_i32_962 v914
  v915.toNat
def k0_dev25 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_985 : BitVec 32 := 1#32
  let v932 : BitVec 32 := Scalar.muli v62 c1_i32_985
  let v933 : BitVec 32 := Scalar.addi c0_i32_986 v932
  v933.toNat
def k0_dev26 (d0 : Dev nD) : Nat :=
  let c0_i32_1010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1009 : BitVec 32 := 1#32
  let v950 : BitVec 32 := Scalar.muli v92 c1_i32_1009
  let v951 : BitVec 32 := Scalar.addi c0_i32_1010 v950
  v951.toNat
def k0_dev27 (d0 : Dev nD) : Nat :=
  let c0_i32_1132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1131 : BitVec 32 := 1#32
  let v1079 : BitVec 32 := Scalar.muli v62 c1_i32_1131
  let v1080 : BitVec 32 := Scalar.addi c0_i32_1132 v1079
  v1080.toNat
def k0_dev28 (d0 : Dev nD) : Nat :=
  let c0_i32_1156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1155 : BitVec 32 := 1#32
  let v1097 : BitVec 32 := Scalar.muli v92 c1_i32_1155
  let v1098 : BitVec 32 := Scalar.addi c0_i32_1156 v1097
  v1098.toNat
def k0_dev29 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1179 : BitVec 32 := 1#32
  let v1115 : BitVec 32 := Scalar.muli v62 c1_i32_1179
  let v1116 : BitVec 32 := Scalar.addi c0_i32_1180 v1115
  v1116.toNat
def k0_dev30 (d0 : Dev nD) : Nat :=
  let c0_i32_1204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1203 : BitVec 32 := 1#32
  let v1133 : BitVec 32 := Scalar.muli v92 c1_i32_1203
  let v1134 : BitVec 32 := Scalar.addi c0_i32_1204 v1133
  v1134.toNat
def k0_dev31 (d0 : Dev nD) : Nat :=
  let c0_i32_1326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1325 : BitVec 32 := 1#32
  let v1262 : BitVec 32 := Scalar.muli v62 c1_i32_1325
  let v1263 : BitVec 32 := Scalar.addi c0_i32_1326 v1262
  v1263.toNat
def k0_dev32 (d0 : Dev nD) : Nat :=
  let c0_i32_1350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1349 : BitVec 32 := 1#32
  let v1280 : BitVec 32 := Scalar.muli v92 c1_i32_1349
  let v1281 : BitVec 32 := Scalar.addi c0_i32_1350 v1280
  v1281.toNat
def k0_dev33 (d0 : Dev nD) : Nat :=
  let c0_i32_1373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1372 : BitVec 32 := 1#32
  let v1298 : BitVec 32 := Scalar.muli v62 c1_i32_1372
  let v1299 : BitVec 32 := Scalar.addi c0_i32_1373 v1298
  v1299.toNat
def k0_dev34 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1395 : BitVec 32 := 1#32
  let v1316 : BitVec 32 := Scalar.muli v92 c1_i32_1395
  let v1317 : BitVec 32 := Scalar.addi c0_i32_1396 v1316
  v1317.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c8_i32_1547 : BitVec 32 := 8#32
  let v1469 : BitVec 32 := Scalar.addi v32 c8_i32_1547
  let c16_i32_1548 : BitVec 32 := 16#32
  let c0_i32_1549 : BitVec 32 := 0#32
  let v1470 : BitVec 1 := Scalar.cmpi .eq c16_i32_1548 c0_i32_1549
  let c1_i32_1550 : BitVec 32 := 1#32
  let v1471 : BitVec 32 := Scalar.select v1470 c1_i32_1550 c16_i32_1548
  let v1472 : BitVec 32 := Scalar.remsi v1469 v1471
  let c0_i32_1552 : BitVec 32 := 0#32
  let v1474 : BitVec 1 := Scalar.cmpi .slt v1472 c0_i32_1552
  let c0_i32_1553 : BitVec 32 := 0#32
  let v1475 : BitVec 1 := Scalar.cmpi .slt v1471 c0_i32_1553
  let v1476 : BitVec 1 := Scalar.xori v1474 v1475
  let c0_i32_1551 : BitVec 32 := 0#32
  let v1473 : BitVec 1 := Scalar.cmpi .ne v1472 c0_i32_1551
  let v1477 : BitVec 1 := Scalar.andi v1476 v1473
  let v1478 : BitVec 32 := Scalar.addi v1472 v1471
  let v1479 : BitVec 32 := Scalar.select v1477 v1478 v1472
  let c15_i32_1583 : BitVec 32 := 15#32
  let v1508 : BitVec 1 := Scalar.cmpi .eq v1479 c15_i32_1583
  let c1_i32_1584 : BitVec 32 := 1#32
  let c14_i32_1581 : BitVec 32 := 14#32
  let v1506 : BitVec 1 := Scalar.cmpi .eq v1479 c14_i32_1581
  let c5_i32_1582 : BitVec 32 := 5#32
  let c13_i32_1579 : BitVec 32 := 13#32
  let v1504 : BitVec 1 := Scalar.cmpi .eq v1479 c13_i32_1579
  let c9_i32_1580 : BitVec 32 := 9#32
  let c12_i32_1577 : BitVec 32 := 12#32
  let v1502 : BitVec 1 := Scalar.cmpi .eq v1479 c12_i32_1577
  let c13_i32_1578 : BitVec 32 := 13#32
  let c11_i32_1575 : BitVec 32 := 11#32
  let v1500 : BitVec 1 := Scalar.cmpi .eq v1479 c11_i32_1575
  let c14_i32_1576 : BitVec 32 := 14#32
  let c10_i32_1573 : BitVec 32 := 10#32
  let v1498 : BitVec 1 := Scalar.cmpi .eq v1479 c10_i32_1573
  let c10_i32_1574 : BitVec 32 := 10#32
  let c9_i32_1571 : BitVec 32 := 9#32
  let v1496 : BitVec 1 := Scalar.cmpi .eq v1479 c9_i32_1571
  let c6_i32_1572 : BitVec 32 := 6#32
  let c8_i32_1569 : BitVec 32 := 8#32
  let v1494 : BitVec 1 := Scalar.cmpi .eq v1479 c8_i32_1569
  let c2_i32_1570 : BitVec 32 := 2#32
  let c7_i32_1567 : BitVec 32 := 7#32
  let v1492 : BitVec 1 := Scalar.cmpi .eq v1479 c7_i32_1567
  let c3_i32_1568 : BitVec 32 := 3#32
  let c6_i32_1565 : BitVec 32 := 6#32
  let v1490 : BitVec 1 := Scalar.cmpi .eq v1479 c6_i32_1565
  let c7_i32_1566 : BitVec 32 := 7#32
  let c5_i32_1563 : BitVec 32 := 5#32
  let v1488 : BitVec 1 := Scalar.cmpi .eq v1479 c5_i32_1563
  let c11_i32_1564 : BitVec 32 := 11#32
  let c4_i32_1561 : BitVec 32 := 4#32
  let v1486 : BitVec 1 := Scalar.cmpi .eq v1479 c4_i32_1561
  let c15_i32_1562 : BitVec 32 := 15#32
  let c3_i32_1559 : BitVec 32 := 3#32
  let v1484 : BitVec 1 := Scalar.cmpi .eq v1479 c3_i32_1559
  let c12_i32_1560 : BitVec 32 := 12#32
  let c2_i32_1557 : BitVec 32 := 2#32
  let v1482 : BitVec 1 := Scalar.cmpi .eq v1479 c2_i32_1557
  let c8_i32_1558 : BitVec 32 := 8#32
  let c1_i32_1554 : BitVec 32 := 1#32
  let v1480 : BitVec 1 := Scalar.cmpi .eq v1479 c1_i32_1554
  let c4_i32_1555 : BitVec 32 := 4#32
  let c0_i32_1556 : BitVec 32 := 0#32
  let v1481 : BitVec 32 := Scalar.select v1480 c4_i32_1555 c0_i32_1556
  let v1483 : BitVec 32 := Scalar.select v1482 c8_i32_1558 v1481
  let v1485 : BitVec 32 := Scalar.select v1484 c12_i32_1560 v1483
  let v1487 : BitVec 32 := Scalar.select v1486 c15_i32_1562 v1485
  let v1489 : BitVec 32 := Scalar.select v1488 c11_i32_1564 v1487
  let v1491 : BitVec 32 := Scalar.select v1490 c7_i32_1566 v1489
  let v1493 : BitVec 32 := Scalar.select v1492 c3_i32_1568 v1491
  let v1495 : BitVec 32 := Scalar.select v1494 c2_i32_1570 v1493
  let v1497 : BitVec 32 := Scalar.select v1496 c6_i32_1572 v1495
  let v1499 : BitVec 32 := Scalar.select v1498 c10_i32_1574 v1497
  let v1501 : BitVec 32 := Scalar.select v1500 c14_i32_1576 v1499
  let v1503 : BitVec 32 := Scalar.select v1502 c13_i32_1578 v1501
  let v1505 : BitVec 32 := Scalar.select v1504 c9_i32_1580 v1503
  let v1507 : BitVec 32 := Scalar.select v1506 c5_i32_1582 v1505
  let v1509 : BitVec 32 := Scalar.select v1508 c1_i32_1584 v1507
  let c256_i32_1585 : BitVec 32 := 256#32
  let v1510 : BitVec 32 := Scalar.muli v1509 c256_i32_1585
  let v1517 : Index := Scalar.indexCast v1510
  let c0_1592 : Index := 0#32
  ![v1517.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c8_i32_1547 : BitVec 32 := 8#32
  let v1469 : BitVec 32 := Scalar.addi v32 c8_i32_1547
  let c16_i32_1548 : BitVec 32 := 16#32
  let c0_i32_1549 : BitVec 32 := 0#32
  let v1470 : BitVec 1 := Scalar.cmpi .eq c16_i32_1548 c0_i32_1549
  let c1_i32_1550 : BitVec 32 := 1#32
  let v1471 : BitVec 32 := Scalar.select v1470 c1_i32_1550 c16_i32_1548
  let v1472 : BitVec 32 := Scalar.remsi v1469 v1471
  let c0_i32_1552 : BitVec 32 := 0#32
  let v1474 : BitVec 1 := Scalar.cmpi .slt v1472 c0_i32_1552
  let c0_i32_1553 : BitVec 32 := 0#32
  let v1475 : BitVec 1 := Scalar.cmpi .slt v1471 c0_i32_1553
  let v1476 : BitVec 1 := Scalar.xori v1474 v1475
  let c0_i32_1551 : BitVec 32 := 0#32
  let v1473 : BitVec 1 := Scalar.cmpi .ne v1472 c0_i32_1551
  let v1477 : BitVec 1 := Scalar.andi v1476 v1473
  let v1478 : BitVec 32 := Scalar.addi v1472 v1471
  let v1479 : BitVec 32 := Scalar.select v1477 v1478 v1472
  let c15_i32_1583 : BitVec 32 := 15#32
  let v1508 : BitVec 1 := Scalar.cmpi .eq v1479 c15_i32_1583
  let c1_i32_1584 : BitVec 32 := 1#32
  let c14_i32_1581 : BitVec 32 := 14#32
  let v1506 : BitVec 1 := Scalar.cmpi .eq v1479 c14_i32_1581
  let c5_i32_1582 : BitVec 32 := 5#32
  let c13_i32_1579 : BitVec 32 := 13#32
  let v1504 : BitVec 1 := Scalar.cmpi .eq v1479 c13_i32_1579
  let c9_i32_1580 : BitVec 32 := 9#32
  let c12_i32_1577 : BitVec 32 := 12#32
  let v1502 : BitVec 1 := Scalar.cmpi .eq v1479 c12_i32_1577
  let c13_i32_1578 : BitVec 32 := 13#32
  let c11_i32_1575 : BitVec 32 := 11#32
  let v1500 : BitVec 1 := Scalar.cmpi .eq v1479 c11_i32_1575
  let c14_i32_1576 : BitVec 32 := 14#32
  let c10_i32_1573 : BitVec 32 := 10#32
  let v1498 : BitVec 1 := Scalar.cmpi .eq v1479 c10_i32_1573
  let c10_i32_1574 : BitVec 32 := 10#32
  let c9_i32_1571 : BitVec 32 := 9#32
  let v1496 : BitVec 1 := Scalar.cmpi .eq v1479 c9_i32_1571
  let c6_i32_1572 : BitVec 32 := 6#32
  let c8_i32_1569 : BitVec 32 := 8#32
  let v1494 : BitVec 1 := Scalar.cmpi .eq v1479 c8_i32_1569
  let c2_i32_1570 : BitVec 32 := 2#32
  let c7_i32_1567 : BitVec 32 := 7#32
  let v1492 : BitVec 1 := Scalar.cmpi .eq v1479 c7_i32_1567
  let c3_i32_1568 : BitVec 32 := 3#32
  let c6_i32_1565 : BitVec 32 := 6#32
  let v1490 : BitVec 1 := Scalar.cmpi .eq v1479 c6_i32_1565
  let c7_i32_1566 : BitVec 32 := 7#32
  let c5_i32_1563 : BitVec 32 := 5#32
  let v1488 : BitVec 1 := Scalar.cmpi .eq v1479 c5_i32_1563
  let c11_i32_1564 : BitVec 32 := 11#32
  let c4_i32_1561 : BitVec 32 := 4#32
  let v1486 : BitVec 1 := Scalar.cmpi .eq v1479 c4_i32_1561
  let c15_i32_1562 : BitVec 32 := 15#32
  let c3_i32_1559 : BitVec 32 := 3#32
  let v1484 : BitVec 1 := Scalar.cmpi .eq v1479 c3_i32_1559
  let c12_i32_1560 : BitVec 32 := 12#32
  let c2_i32_1557 : BitVec 32 := 2#32
  let v1482 : BitVec 1 := Scalar.cmpi .eq v1479 c2_i32_1557
  let c8_i32_1558 : BitVec 32 := 8#32
  let c1_i32_1554 : BitVec 32 := 1#32
  let v1480 : BitVec 1 := Scalar.cmpi .eq v1479 c1_i32_1554
  let c4_i32_1555 : BitVec 32 := 4#32
  let c0_i32_1556 : BitVec 32 := 0#32
  let v1481 : BitVec 32 := Scalar.select v1480 c4_i32_1555 c0_i32_1556
  let v1483 : BitVec 32 := Scalar.select v1482 c8_i32_1558 v1481
  let v1485 : BitVec 32 := Scalar.select v1484 c12_i32_1560 v1483
  let v1487 : BitVec 32 := Scalar.select v1486 c15_i32_1562 v1485
  let v1489 : BitVec 32 := Scalar.select v1488 c11_i32_1564 v1487
  let v1491 : BitVec 32 := Scalar.select v1490 c7_i32_1566 v1489
  let v1493 : BitVec 32 := Scalar.select v1492 c3_i32_1568 v1491
  let v1495 : BitVec 32 := Scalar.select v1494 c2_i32_1570 v1493
  let v1497 : BitVec 32 := Scalar.select v1496 c6_i32_1572 v1495
  let v1499 : BitVec 32 := Scalar.select v1498 c10_i32_1574 v1497
  let v1501 : BitVec 32 := Scalar.select v1500 c14_i32_1576 v1499
  let v1503 : BitVec 32 := Scalar.select v1502 c13_i32_1578 v1501
  let v1505 : BitVec 32 := Scalar.select v1504 c9_i32_1580 v1503
  let v1507 : BitVec 32 := Scalar.select v1506 c5_i32_1582 v1505
  let v1509 : BitVec 32 := Scalar.select v1508 c1_i32_1584 v1507
  let c256_i32_1585 : BitVec 32 := 256#32
  let v1510 : BitVec 32 := Scalar.muli v1509 c256_i32_1585
  let c128_i32_1596 : BitVec 32 := 128#32
  let v1525 : BitVec 32 := Scalar.addi v1510 c128_i32_1596
  let v1530 : Index := Scalar.indexCast v1525
  let c0_1601 : Index := 0#32
  ![v1530.toNat, 0]
def k0_dev35 (d0 : Dev nD) : Nat :=
  let c0_i32_1966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1954 : BitVec 32 := 1#32
  let v1744 : BitVec 32 := Scalar.addi v2 c1_i32_1954
  let c16_i32_1955 : BitVec 32 := 16#32
  let c0_i32_1956 : BitVec 32 := 0#32
  let v1745 : BitVec 1 := Scalar.cmpi .eq c16_i32_1955 c0_i32_1956
  let c1_i32_1957 : BitVec 32 := 1#32
  let v1746 : BitVec 32 := Scalar.select v1745 c1_i32_1957 c16_i32_1955
  let v1747 : BitVec 32 := Scalar.remsi v1744 v1746
  let c0_i32_1959 : BitVec 32 := 0#32
  let v1749 : BitVec 1 := Scalar.cmpi .slt v1747 c0_i32_1959
  let c0_i32_1960 : BitVec 32 := 0#32
  let v1750 : BitVec 1 := Scalar.cmpi .slt v1746 c0_i32_1960
  let v1751 : BitVec 1 := Scalar.xori v1749 v1750
  let c0_i32_1958 : BitVec 32 := 0#32
  let v1748 : BitVec 1 := Scalar.cmpi .ne v1747 c0_i32_1958
  let v1752 : BitVec 1 := Scalar.andi v1751 v1748
  let v1753 : BitVec 32 := Scalar.addi v1747 v1746
  let v1754 : BitVec 32 := Scalar.select v1752 v1753 v1747
  let c1_i32_1965 : BitVec 32 := 1#32
  let v1755 : BitVec 32 := Scalar.muli v1754 c1_i32_1965
  let v1756 : BitVec 32 := Scalar.addi c0_i32_1966 v1755
  v1756.toNat
def k0_dev36 (d0 : Dev nD) : Nat :=
  let c0_i32_1983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1971 : BitVec 32 := 2#32
  let v1765 : BitVec 32 := Scalar.addi v2 c2_i32_1971
  let c16_i32_1972 : BitVec 32 := 16#32
  let c0_i32_1973 : BitVec 32 := 0#32
  let v1766 : BitVec 1 := Scalar.cmpi .eq c16_i32_1972 c0_i32_1973
  let c1_i32_1974 : BitVec 32 := 1#32
  let v1767 : BitVec 32 := Scalar.select v1766 c1_i32_1974 c16_i32_1972
  let v1768 : BitVec 32 := Scalar.remsi v1765 v1767
  let c0_i32_1976 : BitVec 32 := 0#32
  let v1770 : BitVec 1 := Scalar.cmpi .slt v1768 c0_i32_1976
  let c0_i32_1977 : BitVec 32 := 0#32
  let v1771 : BitVec 1 := Scalar.cmpi .slt v1767 c0_i32_1977
  let v1772 : BitVec 1 := Scalar.xori v1770 v1771
  let c0_i32_1975 : BitVec 32 := 0#32
  let v1769 : BitVec 1 := Scalar.cmpi .ne v1768 c0_i32_1975
  let v1773 : BitVec 1 := Scalar.andi v1772 v1769
  let v1774 : BitVec 32 := Scalar.addi v1768 v1767
  let v1775 : BitVec 32 := Scalar.select v1773 v1774 v1768
  let c1_i32_1982 : BitVec 32 := 1#32
  let v1776 : BitVec 32 := Scalar.muli v1775 c1_i32_1982
  let v1777 : BitVec 32 := Scalar.addi c0_i32_1983 v1776
  v1777.toNat
def k0_dev37 (d0 : Dev nD) : Nat :=
  let c0_i32_2000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1988 : BitVec 32 := 3#32
  let v1786 : BitVec 32 := Scalar.addi v2 c3_i32_1988
  let c16_i32_1989 : BitVec 32 := 16#32
  let c0_i32_1990 : BitVec 32 := 0#32
  let v1787 : BitVec 1 := Scalar.cmpi .eq c16_i32_1989 c0_i32_1990
  let c1_i32_1991 : BitVec 32 := 1#32
  let v1788 : BitVec 32 := Scalar.select v1787 c1_i32_1991 c16_i32_1989
  let v1789 : BitVec 32 := Scalar.remsi v1786 v1788
  let c0_i32_1993 : BitVec 32 := 0#32
  let v1791 : BitVec 1 := Scalar.cmpi .slt v1789 c0_i32_1993
  let c0_i32_1994 : BitVec 32 := 0#32
  let v1792 : BitVec 1 := Scalar.cmpi .slt v1788 c0_i32_1994
  let v1793 : BitVec 1 := Scalar.xori v1791 v1792
  let c0_i32_1992 : BitVec 32 := 0#32
  let v1790 : BitVec 1 := Scalar.cmpi .ne v1789 c0_i32_1992
  let v1794 : BitVec 1 := Scalar.andi v1793 v1790
  let v1795 : BitVec 32 := Scalar.addi v1789 v1788
  let v1796 : BitVec 32 := Scalar.select v1794 v1795 v1789
  let c1_i32_1999 : BitVec 32 := 1#32
  let v1797 : BitVec 32 := Scalar.muli v1796 c1_i32_1999
  let v1798 : BitVec 32 := Scalar.addi c0_i32_2000 v1797
  v1798.toNat
def k0_dev38 (d0 : Dev nD) : Nat :=
  let c0_i32_2017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2005 : BitVec 32 := 4#32
  let v1807 : BitVec 32 := Scalar.addi v2 c4_i32_2005
  let c16_i32_2006 : BitVec 32 := 16#32
  let c0_i32_2007 : BitVec 32 := 0#32
  let v1808 : BitVec 1 := Scalar.cmpi .eq c16_i32_2006 c0_i32_2007
  let c1_i32_2008 : BitVec 32 := 1#32
  let v1809 : BitVec 32 := Scalar.select v1808 c1_i32_2008 c16_i32_2006
  let v1810 : BitVec 32 := Scalar.remsi v1807 v1809
  let c0_i32_2010 : BitVec 32 := 0#32
  let v1812 : BitVec 1 := Scalar.cmpi .slt v1810 c0_i32_2010
  let c0_i32_2011 : BitVec 32 := 0#32
  let v1813 : BitVec 1 := Scalar.cmpi .slt v1809 c0_i32_2011
  let v1814 : BitVec 1 := Scalar.xori v1812 v1813
  let c0_i32_2009 : BitVec 32 := 0#32
  let v1811 : BitVec 1 := Scalar.cmpi .ne v1810 c0_i32_2009
  let v1815 : BitVec 1 := Scalar.andi v1814 v1811
  let v1816 : BitVec 32 := Scalar.addi v1810 v1809
  let v1817 : BitVec 32 := Scalar.select v1815 v1816 v1810
  let c1_i32_2016 : BitVec 32 := 1#32
  let v1818 : BitVec 32 := Scalar.muli v1817 c1_i32_2016
  let v1819 : BitVec 32 := Scalar.addi c0_i32_2017 v1818
  v1819.toNat
def k0_dev39 (d0 : Dev nD) : Nat :=
  let c0_i32_2034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2022 : BitVec 32 := 5#32
  let v1828 : BitVec 32 := Scalar.addi v2 c5_i32_2022
  let c16_i32_2023 : BitVec 32 := 16#32
  let c0_i32_2024 : BitVec 32 := 0#32
  let v1829 : BitVec 1 := Scalar.cmpi .eq c16_i32_2023 c0_i32_2024
  let c1_i32_2025 : BitVec 32 := 1#32
  let v1830 : BitVec 32 := Scalar.select v1829 c1_i32_2025 c16_i32_2023
  let v1831 : BitVec 32 := Scalar.remsi v1828 v1830
  let c0_i32_2027 : BitVec 32 := 0#32
  let v1833 : BitVec 1 := Scalar.cmpi .slt v1831 c0_i32_2027
  let c0_i32_2028 : BitVec 32 := 0#32
  let v1834 : BitVec 1 := Scalar.cmpi .slt v1830 c0_i32_2028
  let v1835 : BitVec 1 := Scalar.xori v1833 v1834
  let c0_i32_2026 : BitVec 32 := 0#32
  let v1832 : BitVec 1 := Scalar.cmpi .ne v1831 c0_i32_2026
  let v1836 : BitVec 1 := Scalar.andi v1835 v1832
  let v1837 : BitVec 32 := Scalar.addi v1831 v1830
  let v1838 : BitVec 32 := Scalar.select v1836 v1837 v1831
  let c1_i32_2033 : BitVec 32 := 1#32
  let v1839 : BitVec 32 := Scalar.muli v1838 c1_i32_2033
  let v1840 : BitVec 32 := Scalar.addi c0_i32_2034 v1839
  v1840.toNat
def k0_dev40 (d0 : Dev nD) : Nat :=
  let c0_i32_2051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2039 : BitVec 32 := 6#32
  let v1849 : BitVec 32 := Scalar.addi v2 c6_i32_2039
  let c16_i32_2040 : BitVec 32 := 16#32
  let c0_i32_2041 : BitVec 32 := 0#32
  let v1850 : BitVec 1 := Scalar.cmpi .eq c16_i32_2040 c0_i32_2041
  let c1_i32_2042 : BitVec 32 := 1#32
  let v1851 : BitVec 32 := Scalar.select v1850 c1_i32_2042 c16_i32_2040
  let v1852 : BitVec 32 := Scalar.remsi v1849 v1851
  let c0_i32_2044 : BitVec 32 := 0#32
  let v1854 : BitVec 1 := Scalar.cmpi .slt v1852 c0_i32_2044
  let c0_i32_2045 : BitVec 32 := 0#32
  let v1855 : BitVec 1 := Scalar.cmpi .slt v1851 c0_i32_2045
  let v1856 : BitVec 1 := Scalar.xori v1854 v1855
  let c0_i32_2043 : BitVec 32 := 0#32
  let v1853 : BitVec 1 := Scalar.cmpi .ne v1852 c0_i32_2043
  let v1857 : BitVec 1 := Scalar.andi v1856 v1853
  let v1858 : BitVec 32 := Scalar.addi v1852 v1851
  let v1859 : BitVec 32 := Scalar.select v1857 v1858 v1852
  let c1_i32_2050 : BitVec 32 := 1#32
  let v1860 : BitVec 32 := Scalar.muli v1859 c1_i32_2050
  let v1861 : BitVec 32 := Scalar.addi c0_i32_2051 v1860
  v1861.toNat
def k0_dev41 (d0 : Dev nD) : Nat :=
  let c0_i32_2068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2056 : BitVec 32 := 7#32
  let v1870 : BitVec 32 := Scalar.addi v2 c7_i32_2056
  let c16_i32_2057 : BitVec 32 := 16#32
  let c0_i32_2058 : BitVec 32 := 0#32
  let v1871 : BitVec 1 := Scalar.cmpi .eq c16_i32_2057 c0_i32_2058
  let c1_i32_2059 : BitVec 32 := 1#32
  let v1872 : BitVec 32 := Scalar.select v1871 c1_i32_2059 c16_i32_2057
  let v1873 : BitVec 32 := Scalar.remsi v1870 v1872
  let c0_i32_2061 : BitVec 32 := 0#32
  let v1875 : BitVec 1 := Scalar.cmpi .slt v1873 c0_i32_2061
  let c0_i32_2062 : BitVec 32 := 0#32
  let v1876 : BitVec 1 := Scalar.cmpi .slt v1872 c0_i32_2062
  let v1877 : BitVec 1 := Scalar.xori v1875 v1876
  let c0_i32_2060 : BitVec 32 := 0#32
  let v1874 : BitVec 1 := Scalar.cmpi .ne v1873 c0_i32_2060
  let v1878 : BitVec 1 := Scalar.andi v1877 v1874
  let v1879 : BitVec 32 := Scalar.addi v1873 v1872
  let v1880 : BitVec 32 := Scalar.select v1878 v1879 v1873
  let c1_i32_2067 : BitVec 32 := 1#32
  let v1881 : BitVec 32 := Scalar.muli v1880 c1_i32_2067
  let v1882 : BitVec 32 := Scalar.addi c0_i32_2068 v1881
  v1882.toNat
def k0_dev42 (d0 : Dev nD) : Nat :=
  let c0_i32_2085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2073 : BitVec 32 := 8#32
  let v1891 : BitVec 32 := Scalar.addi v2 c8_i32_2073
  let c16_i32_2074 : BitVec 32 := 16#32
  let c0_i32_2075 : BitVec 32 := 0#32
  let v1892 : BitVec 1 := Scalar.cmpi .eq c16_i32_2074 c0_i32_2075
  let c1_i32_2076 : BitVec 32 := 1#32
  let v1893 : BitVec 32 := Scalar.select v1892 c1_i32_2076 c16_i32_2074
  let v1894 : BitVec 32 := Scalar.remsi v1891 v1893
  let c0_i32_2078 : BitVec 32 := 0#32
  let v1896 : BitVec 1 := Scalar.cmpi .slt v1894 c0_i32_2078
  let c0_i32_2079 : BitVec 32 := 0#32
  let v1897 : BitVec 1 := Scalar.cmpi .slt v1893 c0_i32_2079
  let v1898 : BitVec 1 := Scalar.xori v1896 v1897
  let c0_i32_2077 : BitVec 32 := 0#32
  let v1895 : BitVec 1 := Scalar.cmpi .ne v1894 c0_i32_2077
  let v1899 : BitVec 1 := Scalar.andi v1898 v1895
  let v1900 : BitVec 32 := Scalar.addi v1894 v1893
  let v1901 : BitVec 32 := Scalar.select v1899 v1900 v1894
  let c1_i32_2084 : BitVec 32 := 1#32
  let v1902 : BitVec 32 := Scalar.muli v1901 c1_i32_2084
  let v1903 : BitVec 32 := Scalar.addi c0_i32_2085 v1902
  v1903.toNat
def k0_dev43 (d0 : Dev nD) : Nat :=
  let c0_i32_2102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2090 : BitVec 32 := 9#32
  let v1912 : BitVec 32 := Scalar.addi v2 c9_i32_2090
  let c16_i32_2091 : BitVec 32 := 16#32
  let c0_i32_2092 : BitVec 32 := 0#32
  let v1913 : BitVec 1 := Scalar.cmpi .eq c16_i32_2091 c0_i32_2092
  let c1_i32_2093 : BitVec 32 := 1#32
  let v1914 : BitVec 32 := Scalar.select v1913 c1_i32_2093 c16_i32_2091
  let v1915 : BitVec 32 := Scalar.remsi v1912 v1914
  let c0_i32_2095 : BitVec 32 := 0#32
  let v1917 : BitVec 1 := Scalar.cmpi .slt v1915 c0_i32_2095
  let c0_i32_2096 : BitVec 32 := 0#32
  let v1918 : BitVec 1 := Scalar.cmpi .slt v1914 c0_i32_2096
  let v1919 : BitVec 1 := Scalar.xori v1917 v1918
  let c0_i32_2094 : BitVec 32 := 0#32
  let v1916 : BitVec 1 := Scalar.cmpi .ne v1915 c0_i32_2094
  let v1920 : BitVec 1 := Scalar.andi v1919 v1916
  let v1921 : BitVec 32 := Scalar.addi v1915 v1914
  let v1922 : BitVec 32 := Scalar.select v1920 v1921 v1915
  let c1_i32_2101 : BitVec 32 := 1#32
  let v1923 : BitVec 32 := Scalar.muli v1922 c1_i32_2101
  let v1924 : BitVec 32 := Scalar.addi c0_i32_2102 v1923
  v1924.toNat
def k0_dev44 (d0 : Dev nD) : Nat :=
  let c0_i32_2119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2107 : BitVec 32 := 10#32
  let v1933 : BitVec 32 := Scalar.addi v2 c10_i32_2107
  let c16_i32_2108 : BitVec 32 := 16#32
  let c0_i32_2109 : BitVec 32 := 0#32
  let v1934 : BitVec 1 := Scalar.cmpi .eq c16_i32_2108 c0_i32_2109
  let c1_i32_2110 : BitVec 32 := 1#32
  let v1935 : BitVec 32 := Scalar.select v1934 c1_i32_2110 c16_i32_2108
  let v1936 : BitVec 32 := Scalar.remsi v1933 v1935
  let c0_i32_2112 : BitVec 32 := 0#32
  let v1938 : BitVec 1 := Scalar.cmpi .slt v1936 c0_i32_2112
  let c0_i32_2113 : BitVec 32 := 0#32
  let v1939 : BitVec 1 := Scalar.cmpi .slt v1935 c0_i32_2113
  let v1940 : BitVec 1 := Scalar.xori v1938 v1939
  let c0_i32_2111 : BitVec 32 := 0#32
  let v1937 : BitVec 1 := Scalar.cmpi .ne v1936 c0_i32_2111
  let v1941 : BitVec 1 := Scalar.andi v1940 v1937
  let v1942 : BitVec 32 := Scalar.addi v1936 v1935
  let v1943 : BitVec 32 := Scalar.select v1941 v1942 v1936
  let c1_i32_2118 : BitVec 32 := 1#32
  let v1944 : BitVec 32 := Scalar.muli v1943 c1_i32_2118
  let v1945 : BitVec 32 := Scalar.addi c0_i32_2119 v1944
  v1945.toNat
def k0_dev45 (d0 : Dev nD) : Nat :=
  let c0_i32_2136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2124 : BitVec 32 := 11#32
  let v1954 : BitVec 32 := Scalar.addi v2 c11_i32_2124
  let c16_i32_2125 : BitVec 32 := 16#32
  let c0_i32_2126 : BitVec 32 := 0#32
  let v1955 : BitVec 1 := Scalar.cmpi .eq c16_i32_2125 c0_i32_2126
  let c1_i32_2127 : BitVec 32 := 1#32
  let v1956 : BitVec 32 := Scalar.select v1955 c1_i32_2127 c16_i32_2125
  let v1957 : BitVec 32 := Scalar.remsi v1954 v1956
  let c0_i32_2129 : BitVec 32 := 0#32
  let v1959 : BitVec 1 := Scalar.cmpi .slt v1957 c0_i32_2129
  let c0_i32_2130 : BitVec 32 := 0#32
  let v1960 : BitVec 1 := Scalar.cmpi .slt v1956 c0_i32_2130
  let v1961 : BitVec 1 := Scalar.xori v1959 v1960
  let c0_i32_2128 : BitVec 32 := 0#32
  let v1958 : BitVec 1 := Scalar.cmpi .ne v1957 c0_i32_2128
  let v1962 : BitVec 1 := Scalar.andi v1961 v1958
  let v1963 : BitVec 32 := Scalar.addi v1957 v1956
  let v1964 : BitVec 32 := Scalar.select v1962 v1963 v1957
  let c1_i32_2135 : BitVec 32 := 1#32
  let v1965 : BitVec 32 := Scalar.muli v1964 c1_i32_2135
  let v1966 : BitVec 32 := Scalar.addi c0_i32_2136 v1965
  v1966.toNat
def k0_dev46 (d0 : Dev nD) : Nat :=
  let c0_i32_2153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2141 : BitVec 32 := 12#32
  let v1975 : BitVec 32 := Scalar.addi v2 c12_i32_2141
  let c16_i32_2142 : BitVec 32 := 16#32
  let c0_i32_2143 : BitVec 32 := 0#32
  let v1976 : BitVec 1 := Scalar.cmpi .eq c16_i32_2142 c0_i32_2143
  let c1_i32_2144 : BitVec 32 := 1#32
  let v1977 : BitVec 32 := Scalar.select v1976 c1_i32_2144 c16_i32_2142
  let v1978 : BitVec 32 := Scalar.remsi v1975 v1977
  let c0_i32_2146 : BitVec 32 := 0#32
  let v1980 : BitVec 1 := Scalar.cmpi .slt v1978 c0_i32_2146
  let c0_i32_2147 : BitVec 32 := 0#32
  let v1981 : BitVec 1 := Scalar.cmpi .slt v1977 c0_i32_2147
  let v1982 : BitVec 1 := Scalar.xori v1980 v1981
  let c0_i32_2145 : BitVec 32 := 0#32
  let v1979 : BitVec 1 := Scalar.cmpi .ne v1978 c0_i32_2145
  let v1983 : BitVec 1 := Scalar.andi v1982 v1979
  let v1984 : BitVec 32 := Scalar.addi v1978 v1977
  let v1985 : BitVec 32 := Scalar.select v1983 v1984 v1978
  let c1_i32_2152 : BitVec 32 := 1#32
  let v1986 : BitVec 32 := Scalar.muli v1985 c1_i32_2152
  let v1987 : BitVec 32 := Scalar.addi c0_i32_2153 v1986
  v1987.toNat
def k0_dev47 (d0 : Dev nD) : Nat :=
  let c0_i32_2170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2158 : BitVec 32 := 13#32
  let v1996 : BitVec 32 := Scalar.addi v2 c13_i32_2158
  let c16_i32_2159 : BitVec 32 := 16#32
  let c0_i32_2160 : BitVec 32 := 0#32
  let v1997 : BitVec 1 := Scalar.cmpi .eq c16_i32_2159 c0_i32_2160
  let c1_i32_2161 : BitVec 32 := 1#32
  let v1998 : BitVec 32 := Scalar.select v1997 c1_i32_2161 c16_i32_2159
  let v1999 : BitVec 32 := Scalar.remsi v1996 v1998
  let c0_i32_2163 : BitVec 32 := 0#32
  let v2001 : BitVec 1 := Scalar.cmpi .slt v1999 c0_i32_2163
  let c0_i32_2164 : BitVec 32 := 0#32
  let v2002 : BitVec 1 := Scalar.cmpi .slt v1998 c0_i32_2164
  let v2003 : BitVec 1 := Scalar.xori v2001 v2002
  let c0_i32_2162 : BitVec 32 := 0#32
  let v2000 : BitVec 1 := Scalar.cmpi .ne v1999 c0_i32_2162
  let v2004 : BitVec 1 := Scalar.andi v2003 v2000
  let v2005 : BitVec 32 := Scalar.addi v1999 v1998
  let v2006 : BitVec 32 := Scalar.select v2004 v2005 v1999
  let c1_i32_2169 : BitVec 32 := 1#32
  let v2007 : BitVec 32 := Scalar.muli v2006 c1_i32_2169
  let v2008 : BitVec 32 := Scalar.addi c0_i32_2170 v2007
  v2008.toNat
def k0_dev48 (d0 : Dev nD) : Nat :=
  let c0_i32_2187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2175 : BitVec 32 := 14#32
  let v2017 : BitVec 32 := Scalar.addi v2 c14_i32_2175
  let c16_i32_2176 : BitVec 32 := 16#32
  let c0_i32_2177 : BitVec 32 := 0#32
  let v2018 : BitVec 1 := Scalar.cmpi .eq c16_i32_2176 c0_i32_2177
  let c1_i32_2178 : BitVec 32 := 1#32
  let v2019 : BitVec 32 := Scalar.select v2018 c1_i32_2178 c16_i32_2176
  let v2020 : BitVec 32 := Scalar.remsi v2017 v2019
  let c0_i32_2180 : BitVec 32 := 0#32
  let v2022 : BitVec 1 := Scalar.cmpi .slt v2020 c0_i32_2180
  let c0_i32_2181 : BitVec 32 := 0#32
  let v2023 : BitVec 1 := Scalar.cmpi .slt v2019 c0_i32_2181
  let v2024 : BitVec 1 := Scalar.xori v2022 v2023
  let c0_i32_2179 : BitVec 32 := 0#32
  let v2021 : BitVec 1 := Scalar.cmpi .ne v2020 c0_i32_2179
  let v2025 : BitVec 1 := Scalar.andi v2024 v2021
  let v2026 : BitVec 32 := Scalar.addi v2020 v2019
  let v2027 : BitVec 32 := Scalar.select v2025 v2026 v2020
  let c1_i32_2186 : BitVec 32 := 1#32
  let v2028 : BitVec 32 := Scalar.muli v2027 c1_i32_2186
  let v2029 : BitVec 32 := Scalar.addi c0_i32_2187 v2028
  v2029.toNat
def k0_dev49 (d0 : Dev nD) : Nat :=
  let c0_i32_2204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2192 : BitVec 32 := 15#32
  let v2038 : BitVec 32 := Scalar.addi v2 c15_i32_2192
  let c16_i32_2193 : BitVec 32 := 16#32
  let c0_i32_2194 : BitVec 32 := 0#32
  let v2039 : BitVec 1 := Scalar.cmpi .eq c16_i32_2193 c0_i32_2194
  let c1_i32_2195 : BitVec 32 := 1#32
  let v2040 : BitVec 32 := Scalar.select v2039 c1_i32_2195 c16_i32_2193
  let v2041 : BitVec 32 := Scalar.remsi v2038 v2040
  let c0_i32_2197 : BitVec 32 := 0#32
  let v2043 : BitVec 1 := Scalar.cmpi .slt v2041 c0_i32_2197
  let c0_i32_2198 : BitVec 32 := 0#32
  let v2044 : BitVec 1 := Scalar.cmpi .slt v2040 c0_i32_2198
  let v2045 : BitVec 1 := Scalar.xori v2043 v2044
  let c0_i32_2196 : BitVec 32 := 0#32
  let v2042 : BitVec 1 := Scalar.cmpi .ne v2041 c0_i32_2196
  let v2046 : BitVec 1 := Scalar.andi v2045 v2042
  let v2047 : BitVec 32 := Scalar.addi v2041 v2040
  let v2048 : BitVec 32 := Scalar.select v2046 v2047 v2041
  let c1_i32_2203 : BitVec 32 := 1#32
  let v2049 : BitVec 32 := Scalar.muli v2048 c1_i32_2203
  let v2050 : BitVec 32 := Scalar.addi c0_i32_2204 v2049
  v2050.toNat
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "inv_448" => some ((1 / 448 : ℝ) : EReal)
  | _ => none
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S4096x4096, .bf16⟩
  | .local _ .vmem, ⟨1, _⟩ => ⟨S4096x2048, .bf16⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Mesh.lean ====
/-
# The mesh, the buffers and the schedule of transfers

Sixteen devices stand on one cycle. Two streams run round it, one each way (`dir = false` to the right,
`dir = true` to the left); in hop `h` each device sends the rows that reached it in hop `h - 1`, in two pieces.
The `n`-th of the 32 ring transfers of a device is piece `n / 2 % 2` of hop `n / 4` of direction `n % 2`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.ValueIdxCore
public import Idealize.ShloMosaic.Lib.ValueLayout

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cycle -/

/-- The next device on the cycle. -/
def right (c : Dev nD) : Dev nD := (![4, 0, 6, 2, 8, 1, 10, 3, 12, 5, 14, 7, 15, 9, 13, 11] : Fin 16 → Fin 16) c
/-- The device before. -/
def left (c : Dev nD) : Dev nD := (![1, 5, 3, 7, 0, 9, 2, 11, 4, 13, 6, 15, 8, 14, 10, 12] : Fin 16 → Fin 16) c

/-- Where stream `d` goes. -/
def step (d : Bool) (c : Dev nD) : Dev nD := bif d then left c else right c

theorem step_step (d : Bool) (c : Dev nD) : step (!d) (step d c) = c := by revert d c; decide

/-- The device whose rows stream `d` brings to `c` in hop `h`. -/
def orig (d : Bool) (h : ℕ) (c : Dev nD) : Dev nD := (step (!d))^[h + 1] c

theorem orig_step (d : Bool) (h : ℕ) (c : Dev nD) : orig d (h + 1) (step d c) = orig d h c := by
  unfold orig; rw [Function.iterate_succ_apply, step_step]
theorem orig_zero_step (d : Bool) (c : Dev nD) : orig d 0 (step d c) = c := step_step d c

/-- What stream `d`'s rows of hop `h` set out from reaches `c` again. -/
theorem step_orig (d : Bool) (h : ℕ) (c : Dev nD) : (step d)^[h + 1] (orig d h c) = c := by
  unfold orig
  have hl : Function.LeftInverse (step d) (step (!d)) := fun x => by have := step_step (!d) x; rwa [Bool.not_not] at this
  exact hl.iterate (h + 1) c

/-! ## The `n`-th transfer -/

abbrev dir (n : ℕ) : Bool := n % 2 == 1
/-- Its hop, first row and number of rows. -/
abbrev hop (n : ℕ) : ℕ := n / 4
abbrev row0 (n : ℕ) : ℕ := if n < 28 then 128 * ((n / 2 % 2 + n % 2) % 2) else if n % 2 = 0 then 64 * (n / 2 % 2) else 192 - 64 * (n / 2 % 2)
abbrev rows (n : ℕ) : ℕ := if n < 28 then 128 else 64
/-- The device it goes to. -/
abbrev nbr (n : ℕ) (c : Dev nD) : Dev nD := step (dir n) c

/-- The semaphores: 0–31 the ring's send, 32–63 its receive semaphores by transfer, 64–79 the all-gather's send and
    80–95 its receive semaphores by slot. -/
def semQ (i : ℕ) : DmaSem sig := ⟨(
  if i < 32 then 3 + 32 * (i % 2) + 2 * (i / 4) + i / 2 % 2
  else if i < 64 then 19 + 32 * (i % 2) + 2 * ((i - 32) / 4) + i / 2 % 2
  else 3 + i) % 99, Nat.mod_lt _ (by decide)⟩

/-- Which of them a semaphore is. -/
def semIx (q : DmaSem sig) : ℕ :=
  if q.val < 3 then 99
  else if q.val < 19 then 4 * ((q.val - 3) / 2) + 2 * ((q.val - 3) % 2)
  else if q.val < 35 then 32 + 4 * ((q.val - 19) / 2) + 2 * ((q.val - 19) % 2)
  else if q.val < 51 then 4 * ((q.val - 35) / 2) + 2 * ((q.val - 35) % 2) + 1
  else if q.val < 67 then 32 + 4 * ((q.val - 51) / 2) + 2 * ((q.val - 51) % 2) + 1
  else q.val - 3

theorem semIx_semQ : ∀ i : Fin 96, semIx (semQ i.val) = i.val := by decide
theorem semIx_semQ' {i : ℕ} (h : i < 96) : semIx (semQ i) = i := semIx_semQ ⟨i, h⟩

/-- The runtime's barrier semaphore. -/
abbrev barS : Sem sig := (SemArray.scalar (sig.barrier 0 rfl) : Sems sig S_).sem

/-- The semaphores of the protocol by number, 96 the barrier's. -/
def gs (i : ℕ) : SemLoc sig := if i < 96 then .dma (semQ i) else .reg barS
abbrev cell (c : Dev nD) (i : ℕ) : GSem nD τ sig := ((c : Thread nD τ), gs i)

theorem gs_dma {i : ℕ} (h : i < 96) : gs i = .dma (semQ i) := if_pos h

/-! ## Sets of elements -/

/-- Rows `r … r + k - 1` of slot `h` of a ring buffer. -/
def slab (h r k : ℕ) : Finset S8x256x4096.Idx := Finset.univ.filter fun i => (i 0).val = h ∧ r ≤ (i 1).val ∧ (i 1).val < r + k
def xrows (r k : ℕ) : Finset S256x4096.Idx := Finset.univ.filter fun i => r ≤ (i 0).val ∧ (i 0).val < r + k
def aslab (j : ℕ) : Finset S16x8x128.Idx := Finset.univ.filter fun i => (i 0).val = j

theorem mem_slab {h r k : ℕ} {i : S8x256x4096.Idx} : i ∈ slab h r k ↔ (i 0).val = h ∧ r ≤ (i 1).val ∧ (i 1).val < r + k := by
  unfold slab; rw [Finset.mem_filter]; exact and_iff_right (Finset.mem_univ _)
theorem mem_xrows {r k : ℕ} {i : S256x4096.Idx} : i ∈ xrows r k ↔ r ≤ (i 0).val ∧ (i 0).val < r + k := by
  unfold xrows; rw [Finset.mem_filter]; exact and_iff_right (Finset.mem_univ _)
theorem mem_aslab {j : ℕ} {i : S16x8x128.Idx} : i ∈ aslab j ↔ (i 0).val = j := by
  unfold aslab; rw [Finset.mem_filter]; exact and_iff_right (Finset.mem_univ _)

/-- The landing rows of transfer `n`. -/
abbrev slabN (n : ℕ) : Finset S8x256x4096.Idx := slab (hop n) (row0 n) (rows n)

/-! ## Points-to's -/

/-- Elements of the ring buffer of stream `d` on device `c`. -/
def ringPts (d : Bool) (c : Dev nD) (q : PosShare TreeShare) (S : Finset S8x256x4096.Idx) (f : S8x256x4096.Idx → Elt F .bf16) : sProp 𝕄 :=
  match d with
  | false => ((c : Thread nD τ).loc cc0_scratch2) ↦[S]{q} f
  | true => ((c : Thread nD τ).loc cc0_scratch3) ↦[S]{q} f
/-- Elements of the copy of the rows of `x`. -/
def xPts (c : Dev nD) (q : PosShare TreeShare) (S : Finset S256x4096.Idx) (f : S256x4096.Idx → Elt F .bf16) : sProp 𝕄 :=
  ((c : Thread nD τ).loc cc0_scratch0) ↦[S]{q} f
/-- Elements of the slots of maxima. -/
def aPts (c : Dev nD) (q : PosShare TreeShare) (S : Finset S16x8x128.Idx) (f : S16x8x128.Idx → Elt F .f32) : sProp 𝕄 :=
  ((c : Thread nD τ).loc cc0_scratch4) ↦[S]{q} f

variable (X : Dev nD → S256x4096.Idx → Elt F .bf16) (A : Dev nD → S1x8x128.Idx → Elt F .f32)

/-- What the ring buffer of stream `d` holds on `c` once all of it has arrived. -/
def conts (d : Bool) (c : Dev nD) : S8x256x4096.Idx → Elt F .bf16 := fun i => X (orig d (i 0).val c) (ix2 (i 1) (i 2))
/-- What the slots of maxima hold: slot `j` is from the device `j` after. -/
def amaxes (c : Dev nD) : S16x8x128.Idx → Elt F .f32 := fun i => A (c + Fin.ofNat 16 (i 0).val) (ix3 0 (i 1) (i 2))

/-- The landing rows of transfer `n` on `c`, at any contents; -/
def landFree (c : Dev nD) (n : ℕ) : sProp 𝕄 := iprop(∃ f, ringPts (dir n) c fullShare (slabN n) f)
/-- having arrived. -/
def landed (c : Dev nD) (n : ℕ) : sProp 𝕄 := ringPts (dir n) c fullShare (slabN n) (conts X (dir n) c)

/-- The share of `x` stream `d` borrows. -/
abbrev xShare (d : Bool) : PosShare TreeShare := bif d then fullShare.right.right else fullShare.right.left

/-- The source of transfer `n` of `c`, as it is lent: rows of `x` in hop 0, of what arrived in the hop before else. -/
def src (c : Dev nD) (n : ℕ) : sProp 𝕄 :=
  if n < 4 then xPts c (xShare (dir n)) (xrows (row0 n) (rows n)) (X c)
  else ringPts (dir n) c fullShare.right (slab (hop n - 1) (row0 n) (rows n)) (conts X (dir n) c)

/-- Slot of maxima on `e` that `c` is to fill, at any contents. -/
def slotFree (e c : Dev nD) : sProp 𝕄 := iprop(∃ f, aPts e fullShare (aslab (c - e).val) f)
/-- The last distance stream `d` serves. -/
abbrev reach (d : Bool) : ℕ := bif d then 8 else 9
/-- The slots that reach `c` with transfer `n`: those on the device the rows set out from which `c` and the devices
    beyond it are to fill. -/
def carried (c : Dev nD) (n : ℕ) : sProp 𝕄 :=
  if n / 2 % 2 = 0 then
    bigSep (Finset.Ico (hop n + 1) (reach (dir n))) (fun t => slotFree (orig (dir n) (hop n) c) ((step (dir n))^[t] (orig (dir n) (hop n) c)))
  else iprop(emp)

/-- Share `k` of sixteen. -/
abbrev leafK (k : ℕ) : PosShare TreeShare := ShareLeaves.leaf 4 fullShare ⟨k % 16, Nat.mod_lt _ (by decide)⟩

/-- Slot `j` of maxima on `c`, at its final contents. -/
def slot (c : Dev nD) (q : PosShare TreeShare) (j : ℕ) : sProp 𝕄 := aPts c q (aslab j) (amaxes A c)

/-! ## Amounts -/

abbrev N128 : ℕ := (((Memref.whole cc0_scratch2 : Memref sig .tc .vmem S8x256x4096 .bf16).slice
  (Rect.unit (s := S8x256x4096) ![0, 0, 0] S1x128x4096.size inb_S8x256x4096_S1x128x4096_0_0_0) (fun _ => rfl)).squeeze S128x4096 squeezes_S1x128x4096_S128x4096).view.dmaCredit
abbrev N64 : ℕ := (((Memref.whole cc0_scratch2 : Memref sig .tc .vmem S8x256x4096 .bf16).slice
  (Rect.unit (s := S8x256x4096) ![7, 0, 0] S1x64x4096.size inb_S8x256x4096_S1x64x4096_7_0_0) (fun _ => rfl)).squeeze S64x4096 squeezes_S1x64x4096_S64x4096).view.dmaCredit
abbrev NA : ℕ := (((Memref.whole cc0_scratch4 : Memref sig .tc .vmem S16x8x128 .f32).slice
  (Rect.unit (s := S16x8x128) ![0, 0, 0] S1x8x128.size inb_S16x8x128_S1x8x128_0_0_0) (fun _ => rfl)).squeeze S8x128 squeezes_S1x8x128_S8x128).view.dmaCredit

/-- What transfer `i` credits. -/
abbrev amt (i : ℕ) : ℕ := if i < 28 then N128 else if i < 32 then N64 else NA
/-- What is expected at cell `i`: of the barrier two units. -/
abbrev expc (i : ℕ) : ℕ := if i < 32 then amt i else if i < 64 then amt (i - 32) else NA

theorem N128_pos : 0 < N128 := View.dmaCredit_pos _ (by decide)
theorem N64_pos : 0 < N64 := View.dmaCredit_pos _ (by decide)
theorem NA_pos : 0 < NA := View.dmaCredit_pos _ (by decide)
theorem expc_pos (i : ℕ) : 0 < expc i := by
  have := N128_pos; have := N64_pos; have := NA_pos
  unfold expc amt; (repeat' split) <;> assumption

/-! ## The schedule: one round -/

/-- What is handed over at transfer cell `i` of device `c`. -/
def dmaPay (i : ℕ) (c : Dev nD) : sProp 𝕄 :=
  if i < 32 then src X c i
  else if i < 64 then iprop(landed X c (i - 32) ∗ carried c (i - 32))
  else if i < 80 then slot A c (leafK (i - 64)) 0
  else if i < 96 then slot A c fullShare (i - 80)
  else iprop(emp)

/-- What the neighbour stream `d` goes to hands `c` at its barrier: the landing rows of that stream there. -/
def barPay (d : Bool) (c : Dev nD) : sProp 𝕄 :=
  bigSep ((Finset.Ico 0 32).filter fun n => dir n = d) (fun n => landFree (step d c) n)

/-- The cells that are used. -/
def usedB (i : ℕ) : Bool := decide (i < 96) && (i != 64 && i != 80)

def sched : Rounds.Schedule (GSem nD τ sig) Bool 𝕄 where
  duties g r := if r = 0 ∧ g.1.2 = .tc then (match g.2 with | .reg s => Finset.univ | .dma q => if usedB (semIx q) = true then {true} else ∅) else ∅
  unitless _ := False
  amount g _ _ := match g.2 with | .reg _ => 1 | .dma q => expc (semIx q)
  payload g _ d := match g.2 with | .reg _ => barPay (!d) g.1.1 | .dma q => dmaPay X A (semIx q) g.1.1
  amount_pos g _ _ _ := by
    rcases g with ⟨t, s | q⟩
    · exact Nat.one_pos
    · exact expc_pos _

omit [FloatOps F] [Named F] in
theorem ringPts_storable (d : Bool) (c : Dev nD) (q S f) : BI.Storable (upEmb : UEmb _ 𝕄) (ringPts (F := F) d c q S f) := by
  cases d <;> (unfold ringPts; infer_instance)
attribute [instance] ringPts_storable
omit [FloatOps F] [Named F] in
theorem xPts_storable (c : Dev nD) (q S f) : BI.Storable (upEmb : UEmb _ 𝕄) (xPts (F := F) c q S f) := by unfold xPts; infer_instance
attribute [instance] xPts_storable
omit [FloatOps F] [Named F] in
theorem aPts_storable (c : Dev nD) (q S f) : BI.Storable (upEmb : UEmb _ 𝕄) (aPts (F := F) c q S f) := by unfold aPts; infer_instance
attribute [instance] aPts_storable
omit [FloatOps F] [Named F] in
theorem src_storable (c : Dev nD) (n : ℕ) : BI.Storable (upEmb : UEmb _ 𝕄) (src X c n) := by unfold src; split <;> infer_instance
attribute [instance] src_storable
omit [FloatOps F] [Named F] in
theorem carried_storable (c : Dev nD) (n : ℕ) : BI.Storable (upEmb : UEmb _ 𝕄) (carried (F := F) c n) := by unfold carried slotFree; split <;> infer_instance
attribute [instance] carried_storable
omit [FloatOps F] [Named F] in
instance sched_storable (g : GSem nD τ sig) (r : ℕ) (d : Bool) : BI.Storable (upEmb : UEmb _ 𝕄) ((sched X A).payload g r d) := by
  rcases g with ⟨t, s | q⟩
  · show BI.Storable upEmb (barPay (!d) t.1); unfold barPay landFree; infer_instance
  · show BI.Storable upEmb (dmaPay X A (semIx q) t.1); unfold dmaPay landed slot
    (repeat' split) <;> infer_instance

/-! ## The schedule at the cells -/

omit [FloatOps F] [Named F] in
theorem duties_dma (c : Dev nD) {i : ℕ} (h : usedB i = true) : (sched X A).duties (cell c i) 0 = {true} := by
  have h96 : i < 96 := by unfold usedB at h; simp only [Bool.and_eq_true, decide_eq_true_eq] at h; exact h.1
  unfold cell; rw [gs_dma h96]; dsimp only [sched]; rw [if_pos ⟨rfl, rfl⟩, semIx_semQ' h96, if_pos h]
omit [FloatOps F] [Named F] in
theorem duties_bar (c : Dev nD) : (sched X A).duties (cell c 96) 0 = Finset.univ := by
  unfold cell; rw [show gs 96 = .reg barS from rfl]; dsimp only [sched]; rw [if_pos ⟨rfl, rfl⟩]
omit [FloatOps F] [Named F] in
theorem duties_later (g : GSem nD τ sig) : ∀ r, 1 ≤ r → (sched X A).duties g r = ∅ :=
  fun r hr => if_neg fun h => by omega
omit [FloatOps F] [Named F] in
/-- A cell nothing uses has no duty at all. -/
theorem duties_unused (c : Dev nD) {i : ℕ} (h96 : i < 96) (h : usedB i = false) : ∀ r, 0 ≤ r → (sched X A).duties (cell c i) r = ∅ := fun r _ => by
  unfold cell; rw [gs_dma h96]; dsimp only [sched]; split
  · rw [semIx_semQ' h96, if_neg (by rw [h]; exact Bool.false_ne_true)]
  · rfl
omit [FloatOps F] [Named F] in
theorem amount_dma (c : Dev nD) {i : ℕ} (h : i < 96) (r : ℕ) (d : Bool) : (sched X A).amount (cell c i) r d = expc i := by
  unfold cell; rw [gs_dma h]; dsimp only [sched]; rw [semIx_semQ' h]
omit [FloatOps F] [Named F] in
theorem payload_dma (c : Dev nD) {i : ℕ} (h : i < 96) (r : ℕ) (d : Bool) : (sched X A).payload (cell c i) r d = dmaPay X A i c := by
  unfold cell; rw [gs_dma h]; dsimp only [sched]; rw [semIx_semQ' h]
omit [FloatOps F] [Named F] in
theorem amount_bar (c : Dev nD) (r : ℕ) (d : Bool) : (sched X A).amount (cell c 96) r d = 1 := rfl
omit [FloatOps F] [Named F] in
theorem payload_bar (c : Dev nD) (r : ℕ) (d : Bool) : (sched X A).payload (cell c 96) r d = barPay (!d) c := rfl
omit [FloatOps F] [Named F] in
theorem expect_dma (c : Dev nD) {i : ℕ} (h96 : i < 96) (h : usedB i = true) : (sched X A).expect (cell c i) 0 = expc i := by
  unfold Schedule.expect Schedule.amountOf; rw [duties_dma X A c h, Finset.sum_singleton, amount_dma X A c h96]
omit [FloatOps F] [Named F] in
theorem expect_bar (c : Dev nD) : (sched X A).expect (cell c 96) 0 = 2 := by
  unfold Schedule.expect Schedule.amountOf
  rw [duties_bar, Finset.sum_congr rfl fun d _ => amount_bar X A c 0 d, Finset.sum_const, Finset.card_univ, Fintype.card_bool, smul_eq_mul]
omit [FloatOps F] [Named F] in
theorem rest_dma (c : Dev nD) {i : ℕ} (h96 : i < 96) (h : usedB i = true) :
    bigSep ((sched X A).duties (cell c i) 0 \ ∅) (fun d => (sched X A).payload (cell c i) 0 d) = dmaPay X A i c := by
  rw [Finset.sdiff_empty, duties_dma X A c h, bigSep_singleton, payload_dma X A c h96]
omit [FloatOps F] [Named F] in
theorem rest_bar (c : Dev nD) : bigSep ((sched X A).duties (cell c 96) 0 \ ∅) (fun d => (sched X A).payload (cell c 96) 0 d)
    = iprop(barPay true c ∗ barPay false c) := by
  rw [Finset.sdiff_empty, duties_bar, bigSep_univ_eq_bigSepL [false, true] (by decide) (by decide), bigSepL_cons_cons, bigSepL_singleton,
    payload_bar, payload_bar]
  rfl

/-! ## What a device owes, in the order it pays -/

/-- The `i`-th payment of `c`: its two barrier signals, its 32 ring transfers, its 15 maxima. -/
def pay (c : Dev nD) (i : ℕ) : GSem nD τ sig :=
  if i = 0 then cell (left c) 96 else if i = 1 then cell (right c) 96
  else if i < 34 then cell (nbr (i - 2) c) (32 + (i - 2)) else cell (c + (Fin.ofNat 16 (i - 33))) (96 - (i - 33))
def payAmt (i : ℕ) : ℕ := if i < 2 then 1 else if i < 34 then amt (i - 2) else NA

/-- What `c` still owes before its `i`-th payment. -/
def owed (c : Dev nD) (i : ℕ) : CellTallies nD τ sig Unit := ∑ j ∈ Finset.Ico i 49, tallyAt (pay c j) () (payAmt j)

theorem owed_peel (c : Dev nD) {i : ℕ} (h : i < 49) : owed c i = owed c (i + 1) + tallyAt (pay c i) () (payAmt i) := by
  unfold owed; rw [Finset.sum_eq_sum_Ico_succ_bot h, add_comm]
theorem owed_end (c : Dev nD) : owed c 49 = 0 := by unfold owed; rw [Finset.Ico_self, Finset.sum_empty]

/-! ## Levels -/

def L (g : GSem nD τ sig) : Finset Unit := if g.1.2 = .tc then {()} else ∅
/-- Barriers at 1, the receive cells of hop `h` at `2 + h`, the maxima's at 20, all others at 0. -/
def lvS (s : SemLoc sig) : ℕ := match s with
  | .reg _ => 1
  | .dma q => if semIx q < 32 then 0 else if semIx q < 64 then 2 + (semIx q - 32) / 4 else if semIx q < 80 then 0 else if semIx q < 96 then 20 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem pay_tc (c : Dev nD) (i : ℕ) : ∃ e : Dev nD, (pay c i).1 = (e : Thread nD τ) := by
  unfold pay; (repeat' split) <;> exact ⟨_, rfl⟩

theorem owed_pos {c : Dev nD} {i : ℕ} {g : GSem nD τ sig} {u : Unit} (h : 0 < owed c i g u) : ∃ j ∈ Finset.Ico i 49, g = pay c j := by
  by_contra hn
  refine Nat.lt_irrefl 0 (lt_of_lt_of_eq h ?_)
  unfold owed
  rw [Finset.sum_apply, Finsupp.finset_sum_apply]
  refine Finset.sum_eq_zero fun j hj => ?_
  rw [tallyAt_apply, if_neg fun e => hn ⟨j, hj, e.1⟩]

/-- The level of the `i`-th payment. -/
def payLv (i : ℕ) : ℕ := if i < 2 then 1 else if i < 34 then 2 + (i - 2) / 4 else 20
theorem lv_cell_dma : ∀ i : Fin 96, lvS (gs i.val) = if i.val < 32 then 0 else if i.val < 64 then 2 + (i.val - 32) / 4 else if i.val < 80 then 0 else 20 := by decide
theorem lv_pay (c : Dev nD) {i : ℕ} (h : i < 49) : lvS (pay c i).2 = payLv i := by
  have hlv (k : ℕ) (hk : k < 96) := lv_cell_dma ⟨k, hk⟩
  simp only at hlv
  unfold pay payLv
  rcases Nat.lt_or_ge i 2 with h2 | h2
  · rw [if_pos h2]
    rcases (by omega : i = 0 ∨ i = 1) with rfl | rfl <;> rfl
  rw [if_neg (show ¬i = 0 by omega), if_neg (show ¬i = 1 by omega), if_neg (show ¬i < 2 by omega)]
  rcases Nat.lt_or_ge i 34 with h34 | h34
  · rw [if_pos h34, if_pos h34]
    show lvS (gs (32 + (i - 2))) = _
    rw [hlv _ (by omega), if_neg (by omega), if_pos (by omega)]
    congr 2; omega
  · rw [if_neg (show ¬i < 34 by omega), if_neg (show ¬i < 34 by omega)]
    show lvS (gs (96 - (i - 33))) = _
    rw [hlv _ (by omega), if_neg (by omega), if_neg (by omega), if_neg (by omega)]

theorem payLv_mono {i j : ℕ} (h : i ≤ j) : payLv i ≤ payLv j := by
  unfold payLv; (repeat' split) <;> omega

omit [FloatOps F] [Named F] in
/-- A wait is allowed at a cell below everything still owed. -/
theorem mayWait (c : Dev nD) (sm : SemLoc sig) (i : ℕ) (h : i < 49 → lvS sm < payLv i) :
    (levAts L lv : sProp 𝕄) ⊢ MayWait (c : Thread nD τ) sm () (owed c i) := by
  rcases Nat.lt_or_ge i 49 with hi | hi
  · refine MayOwe.of_cut (L := L) (lev := lv) (lvS sm) (fun p hp => by rw [Finset.mem_singleton.mp hp, L_tc]; exact Finset.mem_singleton_self _)
      (fun g u hg => by obtain ⟨j, _, rfl⟩ := owed_pos hg; obtain ⟨e, he⟩ := pay_tc c j; unfold L; rw [he, if_pos rfl]; exact Finset.mem_singleton_self _)
      (fun p hp => by rw [Finset.mem_singleton.mp hp]; exact le_refl _)
      (fun g u hg => by
        obtain ⟨j, hj, rfl⟩ := owed_pos hg
        rw [Finset.mem_Ico] at hj
        show lvS sm < lvS (pay c j).2
        rw [lv_pay c hj.2]; exact lt_of_lt_of_le (h hi) (payLv_mono hj.1))
  · rw [show owed c i = 0 from by unfold owed; rw [Finset.Ico_eq_empty (by omega), Finset.sum_empty], MayWait_zero]; iintro -; iempintro

end Cert.Mesh
end
-- ==== Proof.Refs.lean ====
/-
# The pieces the transfers and loads go through

A transfer's ends are views of the copy of `x` (hop 0's sources) and of the two ring buffers. Each view here holds a
rectangle of rows; what it reads is what the buffer holds there.
-/
module

public import proofs.«01_k».proof.Proof.Mesh

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Rows of the copy of `x` -/

abbrev xM : Memref sig .tc .vmem S256x4096 .bf16 := Memref.whole cc0_scratch0
abbrev rM : Memref sig .tc .vmem S8x256x4096 .bf16 := Memref.whole cc0_scratch2
abbrev lM : Memref sig .tc .vmem S8x256x4096 .bf16 := Memref.whole cc0_scratch3
abbrev aM : Memref sig .tc .vmem S16x8x128 .f32 := Memref.whole cc0_scratch4

variable {h r k : ℕ}

/-- The rectangle of rows `r … r + k - 1` of the copy of `x`, and of slot `h` of a ring buffer. -/
abbrev XIn (r k : ℕ) : Prop := ∀ a, (![r, 0] : Fin 2 → ℕ) a + (![k, 4096] : Fin 2 → ℕ) a ≤ S256x4096.size a
abbrev RIn (h r k : ℕ) : Prop := ∀ a, (![h, r, 0] : Fin 3 → ℕ) a + (![1, k, 4096] : Fin 3 → ℕ) a ≤ S8x256x4096.size a
abbrev Sq (k : ℕ) : Prop := (⟨3, ![1, k, 4096]⟩ : Shape).Squeezes ⟨2, ![k, 4096]⟩
abbrev xRect (r k : ℕ) (inb : XIn r k) : Rect S256x4096 :=
  Rect.unit (s := S256x4096) ![r, 0] ![k, 4096] inb
abbrev ringRect (h r k : ℕ) (inb : RIn h r k) : Rect S8x256x4096 :=
  Rect.unit (s := S8x256x4096) ![h, r, 0] ![1, k, 4096] inb

theorem xRect_set (inb : XIn r k) : (xRect r k inb).set = xrows r k := by
  ext i; rw [Rect.mem_set_unit, mem_xrows, Fin.forall_fin_two]
  have h1 := (i 1).isLt
  exact ⟨fun h => h.1, fun h => ⟨h, Nat.zero_le _, by show (i 1).val < 0 + 4096; simpa using h1⟩⟩

theorem ringRect_set (inb : RIn h r k) : (ringRect h r k inb).set = slab h r k := by
  ext i; rw [Rect.mem_set_unit, mem_slab]
  have h2 := (i 2).isLt
  constructor
  · intro H
    have H0 := H 0; have H1 := H 1
    exact ⟨le_antisymm (Nat.lt_succ_iff.mp H0.2) H0.1, H1⟩
  · rintro ⟨H0, H1⟩ a
    fin_cases a
    · exact ⟨le_of_eq H0.symm, by show (i 0).val < h + 1; omega⟩
    · exact H1
    · exact ⟨Nat.zero_le _, by show (i 2).val < 0 + 4096; simpa using h2⟩

/-- Element `x` of such a rectangle. -/
theorem xRect_emb (inb : XIn r k) (x : (⟨2, ![k, 4096]⟩ : Shape).Idx) (hr : r + (x 0).val < 256) :
    (xRect r k inb).emb x = (ix2 ⟨r + (x 0).val, hr⟩ (x 1) : S256x4096.Idx) := by
  funext a; fin_cases a
  · exact Fin.ext (by show r + 1 * (x 0).val = _; simp)
  · exact Fin.ext (by show 0 + 1 * (x 1).val = _; simp)
theorem ringRect_emb (inb : RIn h r k) (x : (⟨3, ![1, k, 4096]⟩ : Shape).Idx) (hh : h < 8) (hr : r + (x 1).val < 256) :
    (ringRect h r k inb).emb x = (ix3 ⟨h, hh⟩ ⟨r + (x 1).val, hr⟩ (x 2) : S8x256x4096.Idx) := by
  have h0 : (x 0).val = 0 := Nat.lt_one_iff.mp (x 0).isLt
  funext a; fin_cases a
  · exact Fin.ext (by show h + 1 * (x 0).val = _; simp [h0])
  · exact Fin.ext (by show r + 1 * (x 1).val = _; simp)
  · exact Fin.ext (by show 0 + 1 * (x 2).val = _; simp)

/-! ## The squeezed pieces of the ring buffers -/

abbrev rP (h r k : ℕ) (inb : RIn h r k) (sq : Sq k) : Memref sig .tc .vmem ⟨2, ![k, 4096]⟩ .bf16 :=
  (rM.slice (ringRect h r k inb) (fun _ => rfl)).squeeze ⟨2, ![k, 4096]⟩ sq
abbrev lP (h r k : ℕ) (inb : RIn h r k) (sq : Sq k) : Memref sig .tc .vmem ⟨2, ![k, 4096]⟩ .bf16 :=
  (lM.slice (ringRect h r k inb) (fun _ => rfl)).squeeze ⟨2, ![k, 4096]⟩ sq
abbrev xP (r k : ℕ) (inb : XIn r k) : Memref sig .tc .vmem ⟨2, ![k, 4096]⟩ .bf16 := xM.slice (xRect r k inb) (fun _ => rfl)

theorem rP_set (inb : RIn h r k) (sq : Sq k) : (rP h r k inb sq).view.set = slab h r k := by
  show (((View.whole cc0_scratch2).slice (ringRect h r k inb)).reshape _ _).set = _
  rw [View.set_reshape, View.set_slice_whole]; exact ringRect_set inb
theorem lP_set (inb : RIn h r k) (sq : Sq k) : (lP h r k inb sq).view.set = slab h r k := by
  show (((View.whole cc0_scratch3).slice (ringRect h r k inb)).reshape _ _).set = _
  rw [View.set_reshape, View.set_slice_whole]; exact ringRect_set inb
theorem xP_set (inb : XIn r k) : (xP r k inb).view.set = xrows r k := by
  show ((View.whole cc0_scratch0).slice (xRect r k inb)).set = _
  rw [View.set_slice_whole]; exact xRect_set inb

/-- Element `x` of a squeezed piece, in the buffer. -/
theorem piece_emb (inb : RIn h r k) (hn : (⟨2, ![k, 4096]⟩ : Shape).numel = (⟨3, ![1, k, 4096]⟩ : Shape).numel) (x : (⟨2, ![k, 4096]⟩ : Shape).Idx)
    (hh : h < 8) (hr : r + (x 0).val < 256) :
    (ringRect h r k inb).emb (Shape.reshapeEquiv hn x) = (ix3 ⟨h, hh⟩ ⟨r + (x 0).val, hr⟩ (x 1) : S8x256x4096.Idx) := by
  rw [Shape.reshapeEquiv_cons_one hn x]
  exact ringRect_emb inb _ hh hr

/-- An element of rows `r …` of slot `h`, as an element of the piece. -/
theorem slab_coord {i : S8x256x4096.Idx} (hi : i ∈ slab h r k) :
    ∃ (x : (⟨2, ![k, 4096]⟩ : Shape).Idx) (hh : h < 8) (hr : r + (x 0).val < 256), i = ix3 ⟨h, hh⟩ ⟨r + (x 0).val, hr⟩ (x 1) := by
  rw [mem_slab] at hi
  obtain ⟨h0, h1, h2⟩ := hi
  have hb0 := (i 0).isLt; have hb1 := (i 1).isLt
  change (i 0).val < 8 at hb0; change (i 1).val < 256 at hb1
  refine ⟨ix2 ⟨(i 1).val - r, by omega⟩ (i 2), by omega, by show r + ((i 1).val - r) < 256; omega, ?_⟩
  funext a; fin_cases a
  · exact Fin.ext h0
  · exact Fin.ext (by show (i 1).val = r + ((i 1).val - r); omega)
  · rfl

variable (X : Dev nD → S256x4096.Idx → Elt F .bf16)

/-- Two pieces of the same rows: what is written into the one from the other. -/
theorem r_land (inb : RIn h r k) (sq : Sq k) (fd : S8x256x4096.Idx → Elt F .bf16) (w : (⟨2, ![k, 4096]⟩ : Shape).Idx → Elt F .bf16) (T : S8x256x4096.Idx → Elt F .bf16)
    (hw : ∀ x (hh : h < 8) (hr : r + (x 0).val < 256), w x = T (ix3 ⟨h, hh⟩ ⟨r + (x 0).val, hr⟩ (x 1))) :
    ∀ i ∈ slab h r k, (rP h r k inb sq).view.write (Elt F) fd w Finset.univ i = T i := by
  intro i hi
  obtain ⟨x, hh, hr, rfl⟩ := slab_coord hi
  have he : (rP h r k inb sq).view.emb x = (ix3 ⟨h, hh⟩ ⟨r + (x 0).val, hr⟩ (x 1) : S8x256x4096.Idx) := piece_emb inb _ x hh hr
  exact (congrArg ((rP h r k inb sq).view.write (Elt F) fd w Finset.univ) he.symm).trans ((View.write_emb_of_mem _ _ (Finset.mem_univ x)).trans (hw x hh hr))
theorem l_land (inb : RIn h r k) (sq : Sq k) (fd : S8x256x4096.Idx → Elt F .bf16) (w : (⟨2, ![k, 4096]⟩ : Shape).Idx → Elt F .bf16) (T : S8x256x4096.Idx → Elt F .bf16)
    (hw : ∀ x (hh : h < 8) (hr : r + (x 0).val < 256), w x = T (ix3 ⟨h, hh⟩ ⟨r + (x 0).val, hr⟩ (x 1))) :
    ∀ i ∈ slab h r k, (lP h r k inb sq).view.write (Elt F) fd w Finset.univ i = T i := by
  intro i hi
  obtain ⟨x, hh, hr, rfl⟩ := slab_coord hi
  have he : (lP h r k inb sq).view.emb x = (ix3 ⟨h, hh⟩ ⟨r + (x 0).val, hr⟩ (x 1) : S8x256x4096.Idx) := piece_emb inb _ x hh hr
  exact (congrArg ((lP h r k inb sq).view.write (Elt F) fd w Finset.univ) he.symm).trans ((View.write_emb_of_mem _ _ (Finset.mem_univ x)).trans (hw x hh hr))

theorem r_read (inb : RIn h r k) (sq : Sq k) (T : S8x256x4096.Idx → Elt F .bf16) (x) (hh : h < 8) (hr : r + (x 0).val < 256) :
    (rP h r k inb sq).view.read (Elt F) T x = T (ix3 ⟨h, hh⟩ ⟨r + (x 0).val, hr⟩ (x 1)) := by
  have he : (rP h r k inb sq).view.emb x = (ix3 ⟨h, hh⟩ ⟨r + (x 0).val, hr⟩ (x 1) : S8x256x4096.Idx) := piece_emb inb _ x hh hr
  rw [View.read_apply, he]; rfl
theorem l_read (inb : RIn h r k) (sq : Sq k) (T : S8x256x4096.Idx → Elt F .bf16) (x) (hh : h < 8) (hr : r + (x 0).val < 256) :
    (lP h r k inb sq).view.read (Elt F) T x = T (ix3 ⟨h, hh⟩ ⟨r + (x 0).val, hr⟩ (x 1)) := by
  have he : (lP h r k inb sq).view.emb x = (ix3 ⟨h, hh⟩ ⟨r + (x 0).val, hr⟩ (x 1) : S8x256x4096.Idx) := piece_emb inb _ x hh hr
  rw [View.read_apply, he]; rfl
theorem x_read (inb : XIn r k) (T : S256x4096.Idx → Elt F .bf16) (x) (hr : r + (x 0).val < 256) :
    (xP r k inb).view.read (Elt F) T x = T (ix2 ⟨r + (x 0).val, hr⟩ (x 1)) := by
  have he : (xP r k inb).view.emb x = (ix2 ⟨r + (x 0).val, hr⟩ (x 1) : S256x4096.Idx) := xRect_emb inb x hr
  rw [View.read_apply, he]; rfl

/-! ## A transfer's two ends -/

/-- `src` and `dst` are the ends of transfer `n` of device `c`. -/
structure Ends (c : Dev nD) (n : ℕ) {sp sp' : Space} {s : Shape} (src : Memref sig .tc sp s .bf16) (dst : Memref sig .tc sp' s .bf16) : Prop where
  credit : dst.view.dmaCredit = amt n
  ex : ∃ (q : PosShare TreeShare) (fs : Buf (Elt F) (src.view.loc (c : Thread nD τ))),
    Mesh.src X c n = (src.view.loc (c : Thread nD τ) ↦[src.view.set]{q} fs : sProp 𝕄)
    ∧ ((landFree (nbr n c) n : sProp 𝕄) ⊢ iprop(∃ fd, dst.view.loc (nbr n c : Thread nD τ) ↦[dst.view.set]{fullShare} fd))
    ∧ ∀ fd, (dst.view.loc (nbr n c : Thread nD τ) ↦[dst.view.set]{fullShare} (dst.view.write (Elt F) fd (src.view.read (Elt F) fs) Finset.univ) : sProp 𝕄)
        ⊢ landed X (nbr n c) n

theorem dir_false {n : ℕ} (h : n % 2 = 0) : dir n = false := by unfold dir; rw [h]; rfl
theorem dir_true {n : ℕ} (h : n % 2 = 1) : dir n = true := by unfold dir; rw [h]; rfl

/-- Hop 0, to the right: rows of `x` into slot 0. -/
theorem ends_xr (c : Dev nD) (n : ℕ) (inb : XIn r k) (inb' : RIn 0 r k) (sq : Sq k) (h4 : n < 4) (h2 : n % 2 = 0) (hr : row0 n = r) (hk : rows n = k)
    (hc : (rP 0 r k inb' sq).view.dmaCredit = amt n) : Ends X c n (xP r k inb) (rP 0 r k inb' sq) := by
  have hd := dir_false h2
  have h0 : hop n = 0 := Nat.div_eq_of_lt h4
  have hn : nbr n c = right c := by unfold nbr; rw [hd]; rfl
  refine ⟨hc, xShare false, X c, ?_, ?_, fun fd => ?_⟩
  · unfold Mesh.src xPts; rw [if_pos h4, hd, hr, hk, xP_set]
  · unfold landFree slabN ringPts; rw [hd, hr, hk, h0, rP_set]; exact BI.Entails.refl _
  · unfold landed slabN ringPts; rw [hd, hr, hk, h0, rP_set]; dsimp only
    refine Entails.of_eq (pointsTo_congr (r_land inb' sq fd _ _ fun x hh hr' => ?_))
    rw [x_read inb _ x hr', hn]; unfold conts; rw [show orig false _ (right c) = c from orig_zero_step false c]
/-- Hop 0, to the left. -/
theorem ends_xl (c : Dev nD) (n : ℕ) (inb : XIn r k) (inb' : RIn 0 r k) (sq : Sq k) (h4 : n < 4) (h2 : n % 2 = 1) (hr : row0 n = r) (hk : rows n = k)
    (hc : (lP 0 r k inb' sq).view.dmaCredit = amt n) : Ends X c n (xP r k inb) (lP 0 r k inb' sq) := by
  have hd := dir_true h2
  have h0 : hop n = 0 := Nat.div_eq_of_lt h4
  have hn : nbr n c = left c := by unfold nbr; rw [hd]; rfl
  refine ⟨hc, xShare true, X c, ?_, ?_, fun fd => ?_⟩
  · unfold Mesh.src xPts; rw [if_pos h4, hd, hr, hk, xP_set]
  · unfold landFree slabN ringPts; rw [hd, hr, hk, h0, lP_set]; exact BI.Entails.refl _
  · unfold landed slabN ringPts; rw [hd, hr, hk, h0, lP_set]; dsimp only
    refine Entails.of_eq (pointsTo_congr (l_land inb' sq fd _ _ fun x hh hr' => ?_))
    rw [x_read inb _ x hr', hn]; unfold conts; rw [show orig true _ (left c) = c from orig_zero_step true c]
/-- A later hop, to the right: slot `h` into slot `h + 1`. -/
theorem ends_rr (c : Dev nD) (n : ℕ) (inb : RIn h r k) (inb' : RIn (h + 1) r k) (sq : Sq k) (h4 : 4 ≤ n) (h2 : n % 2 = 0) (hh : hop n = h + 1) (hr : row0 n = r) (hk : rows n = k)
    (hc : (rP (h + 1) r k inb' sq).view.dmaCredit = amt n) : Ends X c n (rP h r k inb sq) (rP (h + 1) r k inb' sq) := by
  have hd := dir_false h2
  have hn : nbr n c = right c := by unfold nbr; rw [hd]; rfl
  refine ⟨hc, fullShare.right, conts X false c, ?_, ?_, fun fd => ?_⟩
  · unfold Mesh.src ringPts; rw [if_neg (by omega), hd, hr, hk, hh, rP_set]; rfl
  · unfold landFree slabN ringPts; rw [hd, hr, hk, hh, rP_set]; exact BI.Entails.refl _
  · unfold landed slabN ringPts; rw [hd, hr, hk, hh, rP_set]; dsimp only
    refine Entails.of_eq (pointsTo_congr (r_land inb' sq fd _ _ fun x hh hr' => ?_))
    rw [r_read inb sq _ x (by omega) hr', hn]; unfold conts; rw [show orig false _ (right c) = orig false h c from orig_step false h c]
/-- A later hop, to the left. -/
theorem ends_ll (c : Dev nD) (n : ℕ) (inb : RIn h r k) (inb' : RIn (h + 1) r k) (sq : Sq k) (h4 : 4 ≤ n) (h2 : n % 2 = 1) (hh : hop n = h + 1) (hr : row0 n = r) (hk : rows n = k)
    (hc : (lP (h + 1) r k inb' sq).view.dmaCredit = amt n) : Ends X c n (lP h r k inb sq) (lP (h + 1) r k inb' sq) := by
  have hd := dir_true h2
  have hn : nbr n c = left c := by unfold nbr; rw [hd]; rfl
  refine ⟨hc, fullShare.right, conts X true c, ?_, ?_, fun fd => ?_⟩
  · unfold Mesh.src ringPts; rw [if_neg (by omega), hd, hr, hk, hh, lP_set]; rfl
  · unfold landFree slabN ringPts; rw [hd, hr, hk, hh, lP_set]; exact BI.Entails.refl _
  · unfold landed slabN ringPts; rw [hd, hr, hk, hh, lP_set]; dsimp only
    refine Entails.of_eq (pointsTo_congr (l_land inb' sq fd _ _ fun x hh hr' => ?_))
    rw [l_read inb sq _ x (by omega) hr', hn]; unfold conts; rw [show orig true _ (left c) = orig true h c from orig_step true h c]

end Cert.Mesh
end
-- ==== Proof.Steps.lean ====
/-
# The protocol's steps

What one wait and one transfer need and give, and the state of the two ring streams between any two of them: after
`ns` transfers and `nr` arrivals in program order.
-/
module

public import proofs.«01_k».proof.Proof.Refs

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (X : Dev nD → S256x4096.Idx → Elt F .bf16) (A : Dev nD → S1x8x128.Idx → Elt F .f32)

/-! ## What all devices may use at all times -/

def recs (K : Dev nD × Fin 97 → ℕ) : sProp 𝕄 :=
  iprop((bigSep Finset.univ fun ck : Dev nD × Fin 97 => cellInv ER (sched X A) (K ck) (cell ck.1 ck.2.val))
    ∗ (bigSep Finset.univ fun ck : Dev nD × Fin 97 => reached ER (cell ck.1 ck.2.val) 0) ∗ levAts L lv)

instance recs_persistent (K : Dev nD × Fin 97 → ℕ) : BI.Persistent (recs X A K) := by unfold recs; infer_instance

variable {K : Dev nD × Fin 97 → ℕ}

theorem inv_at (ck : Dev nD × Fin 97) :
    (bigSep Finset.univ fun ck : Dev nD × Fin 97 => (cellInv ER (sched X A) (K ck) (cell ck.1 ck.2.val) : sProp 𝕄))
      ⊢ cellInv ER (sched X A) (K ck) (cell ck.1 ck.2.val) :=
  bigSep_elim (Finset.mem_univ ck)
theorem reached_at (ck : Dev nD × Fin 97) :
    (bigSep Finset.univ fun ck : Dev nD × Fin 97 => (reached ER (cell ck.1 ck.2.val) 0 : sProp 𝕄)) ⊢ reached ER (cell ck.1 ck.2.val) 0 :=
  bigSep_elim (Finset.mem_univ ck)
theorem recs_inv (c : Dev nD) {i : ℕ} (h : i < 97) : recs X A K ⊢ cellInv ER (sched X A) (K (c, ⟨i, h⟩)) (cell c i) := by
  unfold recs; iintro ⟨H, -, -⟩
  iapply (inv_at X A (K := K) (c, ⟨i, h⟩)); iexact H
theorem recs_reached (c : Dev nD) {i : ℕ} (h : i < 97) : recs X A K ⊢ reached ER (cell c i) 0 := by
  unfold recs; iintro ⟨-, H, -⟩
  iapply (reached_at (F := F) (c, ⟨i, h⟩)); iexact H
theorem recs_lev : recs X A K ⊢ levAts L lv := by unfold recs; iintro ⟨-, -, H⟩; iexact H

/-! ## One wait -/

/-- What `c` owes before its `o`-th payment. -/
def owesAt (c : Dev nD) (o : ℕ) : sProp 𝕄 := iprop(∃ W, owes (c : Thread nD τ) (owed c o) W)
/-- The right to wait at cell `i`. -/
def pend (c : Dev nD) (i : ℕ) : sProp 𝕄 := iprop(cred (tallyAt (cell c i) () (expc i)) ∗ atPos ER (cell c i) 0 ∅ 0)
/-- What the wait gives: the cell, closed at zero, and what was handed over. -/
def got (c : Dev nD) (i : ℕ) : sProp 𝕄 := iprop(semVal (cell c i) 0 ∗ dmaPay X A i c)

section Wait

variable {α : Type}

/-- A wait at transfer cell `i`. -/
theorem wait_step (c : Dev nD) {o i : ℕ} {sm : DmaSem sig} {sp sp' : Space} {s s' : Shape} {e e' : EltTy}
    {src : Memref sig .tc sp' s' e'} {dst : Memref sig .tc sp s e} {hsrc : src.view.WordExact} {hdst : dst.view.WordExact}
    {k : PUnit → Prog (TpuEff nD τ sig (Elt F) Λ₀ .tc) α} {Q : α → sProp 𝕄} {R : sProp 𝕄}
    (h96 : i < 96) (hu : usedB i = true) (hlv : o < 49 → lvS (gs i) < payLv o) (hsm : sm = semQ i) (hN : dst.view.dmaCredit = expc i)
    (h : iprop(recs X A K ∗ owesAt c o ∗ got X A c i ∗ R) ⊢ wp frame (wpE (defs₀ (F := F)) 𝒱₀ (c : Thread nD τ) none) Set.univ (k ⟨⟩) Q) :
    iprop(recs X A K ∗ owesAt c o ∗ pend c i ∗ R)
      ⊢ wp frame (wpE (defs₀ (F := F)) 𝒱₀ (c : Thread nD τ) none) Set.univ (.op (.waitDma2 sm src dst hsrc hdst) k) Q := by
  have hg : ((c : Thread nD τ), SemLoc.dma sm) = cell c i := by rw [hsm]; unfold cell; rw [gs_dma h96]
  have i1 : recs X A K ⊢ cellInv ER (sched X A) (K (c, ⟨i, by omega⟩)) ((c : Thread nD τ), SemLoc.dma sm) := by rw [hg]; exact recs_inv X A c _
  have c1 : (cred (tallyAt (cell c i) () (expc i)) : sProp 𝕄) = cred (tallyAt ((c : Thread nD τ), SemLoc.dma sm) () dst.view.dmaCredit) := by rw [hg, hN]
  have hsl : SemLoc.dma sm = gs i := by rw [gs_dma h96, hsm]
  have hlv' : o < 49 → lvS (SemLoc.dma sm) < payLv o := hsl ▸ hlv
  have l1 : recs X A K ⊢ (levAts L lv : sProp 𝕄) := by
    unfold recs; iintro ⟨-, -, H⟩; iexact H
  have l2 : (levAts L lv : sProp 𝕄) ⊢ MayWait (c : Thread nD τ) (SemLoc.dma sm) () (owed c o) := mayWait c (SemLoc.dma sm) o hlv'
  have m1 : recs X A K ⊢ MayWait (c : Thread nD τ) (SemLoc.dma sm) () (owed c o) :=
    l1.trans l2
  have a1 (r : ℕ) : (atPos ER (cell c i) r ∅ 0 : sProp 𝕄) = atPos ER ((c : Thread nD τ), SemLoc.dma sm) r ∅ 0 := by rw [hg]
  have p1 : bigSep ((sched X A).duties ((c : Thread nD τ), SemLoc.dma sm) 0 \ ∅) (fun d => (sched X A).payload ((c : Thread nD τ), SemLoc.dma sm) 0 d) = dmaPay X A i c := by
    rw [hg, rest_dma X A c h96 hu]
  unfold owesAt pend
  iintro ⟨#HR, ⟨%W, HO⟩, ⟨Hc, Hat⟩, Hrest⟩
  iapply (Rounds.wp_wait_rest_token 𝒱₀ ER (sched X A) (c : Thread nD τ) none (κ := K (c, ⟨i, by omega⟩))
    (wpE_waitDma2_eq 𝒱₀ (c : Thread nD τ) none Set.univ) (Set.mem_univ _) () (O := owed c o) (W := W) (R := 0) (m := 0) (T := ∅)
    (by rw [hg, expect_dma X A c h96 hu, hN, Nat.zero_add])) $$ [HO Hc Hat]
  · isplitr; · iapply i1; iexact HR
    isplitl [Hc]; · iapply (Entails.of_eq c1); iexact Hc
    isplitl [HO]; · iexact HO
    isplitr; · iapply m1; iexact HR
    iapply (Entails.of_eq (a1 0)); iexact Hat
  iintro ⟨HO, Hat, -, Hpay⟩
  imod (Rounds.cell_close ER (sched X A) (Set.mem_univ (K (c, ⟨i, by omega⟩))) (fun h => h) (R := 0 + 1) (fun r hr => duties_later X A (cell c i) r hr)) $$ [Hat] with Hv
  · isplitr; · iapply (recs_inv X A c); iexact HR
    iapply (Entails.of_eq (a1 (0 + 1)).symm); iexact Hat
  iapply h
  unfold owesAt got
  isplitr; · iexact HR
  isplitl [HO]; · iexists _; iexact HO
  isplitl [Hv Hpay]
  · isplitl [Hv]; · iexact Hv
    iapply (Entails.of_eq p1); iexact Hpay
  iexact Hrest

/-- The tokens transfer `n` pays with, and the rows it lands in. -/
def ringTok (c : Dev nD) (n : ℕ) : sProp 𝕄 := iprop(dutyTok ER (cell c n) 0 true ∗ dutyTok ER (cell (nbr n c) (32 + n)) 0 true ∗ landFree (nbr n c) n)
/-- What transfer `n` takes along. -/
def hand (c : Dev nD) (n : ℕ) : sProp 𝕄 := iprop(Mesh.src X c n ∗ carried (nbr n c) n)

/-- Transfer `n` of the ring. -/
theorem ring_send_step (c : Dev nD) {n : ℕ} {dev : Dev nD → ℕ} {hlt : ∀ c, dev c < nD} {sS sR : DmaSem sig} {sp sp' : Space} {s : Shape}
    {src : Memref sig .tc sp s .bf16} {dst : Memref sig .tc sp' s .bf16} {hsc : dst.view.ref.isScScratch = false}
    {hsrc : src.view.WordExact} {hdst : dst.view.WordExact}
    {hsem : DmaTarget.Typed sp (.dma sR) (.remote (Dev.tc (⟨dev c, hlt c⟩ : Dev nD) : Thread nD τ) dst (.dma sS) hsc)}
    {k : PUnit → Prog (TpuEff nD τ sig (Elt F) Λ₀ .tc) α} {Q : α → sProp 𝕄} {R : sProp 𝕄}
    (hn : n < 32) (hd : ∀ c : Dev nD, dev c = (nbr n c).val) (hS : sS = semQ n) (hR : sR = semQ (32 + n)) (E : Ends X c n src dst)
    (h : iprop(recs X A K ∗ owesAt c (2 + n + 1) ∗ cred (tallyAt (cell c n) () (expc n)) ∗ R)
      ⊢ wp frame (wpE (defs₀ (F := F)) 𝒱₀ (c : Thread nD τ) none) Set.univ (k ⟨⟩) Q) :
    iprop(recs X A K ∗ owesAt c (2 + n) ∗ ringTok c n ∗ hand X c n ∗ R)
      ⊢ wp frame (wpE (defs₀ (F := F)) 𝒱₀ (c : Thread nD τ) none) Set.univ
          (.op (.enqueueDma src (.remote (Dev.tc (⟨dev c, hlt c⟩ : Dev nD) : Thread nD τ) dst (.dma sS) hsc) (.dma sR) hsrc hdst hsem) k) Q := by
  obtain ⟨hc, q, fs, hsrcE, hfree, hland⟩ := E
  have he : (⟨dev c, hlt c⟩ : Dev nD) = nbr n c := Fin.ext (hd c)
  revert hsem
  rw [he]; intro hsem
  have h1 : ((c : Thread nD τ), SemLoc.dma sS) = cell c n := by rw [hS]; unfold cell; rw [gs_dma (by omega)]
  have h2 : ((nbr n c : Thread nD τ), SemLoc.dma sR) = cell (nbr n c) (32 + n) := by rw [hR]; unfold cell; rw [gs_dma (by omega)]
  have hu1 : usedB n = true := by unfold usedB; simp only [Bool.and_eq_true, decide_eq_true_eq, bne_iff_ne]; omega
  have hu2 : usedB (32 + n) = true := by unfold usedB; simp only [Bool.and_eq_true, decide_eq_true_eq, bne_iff_ne]; omega
  have ha1 : expc n = amt n := if_pos hn
  have ha2 : expc (32 + n) = amt n := by unfold expc; rw [if_neg (by omega), if_pos (by omega), Nat.add_sub_cancel_left]
  have i1 : recs X A K ⊢ cellInv ER (sched X A) (K (c, ⟨n, by omega⟩)) ((c : Thread nD τ), SemLoc.dma sS) := by rw [h1]; exact recs_inv X A c _
  have i2 : recs X A K ⊢ cellInv ER (sched X A) (K (nbr n c, ⟨32 + n, by omega⟩)) ((nbr n c : Thread nD τ), SemLoc.dma sR) := by rw [h2]; exact recs_inv X A (nbr n c) _
  have r1 : recs X A K ⊢ reached ER ((c : Thread nD τ), SemLoc.dma sS) 0 := by rw [h1]; exact recs_reached X A c (by omega)
  have r2 : recs X A K ⊢ reached ER ((nbr n c : Thread nD τ), SemLoc.dma sR) 0 := by rw [h2]; exact recs_reached X A (nbr n c) (by omega)
  have t1 : (dutyTok ER (cell c n) 0 true : sProp 𝕄) = dutyTok ER ((c : Thread nD τ), SemLoc.dma sS) 0 true := by rw [h1]
  have t2 : (dutyTok ER (cell (nbr n c) (32 + n)) 0 true : sProp 𝕄) = dutyTok ER ((nbr n c : Thread nD τ), SemLoc.dma sR) 0 true := by rw [h2]
  have c1 : (cred (tallyAt ((c : Thread nD τ), SemLoc.dma sS) () (amt n)) : sProp 𝕄) = cred (tallyAt (cell c n) () (expc n)) := by rw [h1, ha1]
  unfold owesAt ringTok hand
  iintro ⟨#HR, ⟨%W, HO⟩, ⟨Ht1, Ht2, Hfree⟩, ⟨Hsrc, Hcar⟩, Hrest⟩
  ihave Hfd := hfree $$ Hfree
  icases Hfd with ⟨%fd, Hfd⟩
  iapply (Rounds.wp_send_pointsTo_with 𝒱₀ ER (sched X A) (c : Thread nD τ) none (c' := (nbr n c : Thread nD τ)) (κ₁ := K (c, ⟨n, by omega⟩)) (κ₂ := K (nbr n c, ⟨32 + n, by omega⟩))
    (r₁ := 0) (r₂ := 0) (d₁ := true) (d₂ := true) (q := q) (fs := fs) (fd := fd) (F := carried (nbr n c) n)
    (by rw [h1, duties_dma X A c hu1]; exact Finset.mem_singleton_self _) (by rw [h2, duties_dma X A (nbr n c) hu2]; exact Finset.mem_singleton_self _)
    () () (amt n) (sem := .dma sR) hc (by rw [h1, amount_dma X A c (by omega), ha1]) (by rw [h2, amount_dma X A (nbr n c) (by omega), ha2])
    (O₀ := owed c (2 + n)) (owed c (2 + n + 1)) (W := W)
    (by rw [owed_peel c (show 2 + n < 49 by omega), h2]; unfold pay payAmt
        rw [if_neg (show ¬2 + n = 0 by omega), if_neg (show ¬2 + n = 1 by omega), if_pos (show 2 + n < 34 by omega), if_neg (show ¬2 + n < 2 by omega), if_pos (show 2 + n < 34 by omega), Nat.add_sub_cancel_left])
    (by rw [h1, payload_dma X A c (by omega)]; unfold dmaPay; rw [if_pos hn, hsrcE])
    (by rw [h2, payload_dma X A (nbr n c) (by omega)]; unfold dmaPay; rw [if_neg (by omega), if_pos (by omega), Nat.add_sub_cancel_left]
        exact sep_mono_left (hland fd))) $$ [HO Ht1 Ht2 Hsrc Hcar Hfd]
  · isplitr; · iapply i1; iexact HR
    isplitr; · iapply i2; iexact HR
    isplitl [Hsrc]; · iapply (Entails.of_eq hsrcE); iexact Hsrc
    isplitl [Hfd Hcar]; · isplitl [Hfd] <;> iassumption
    isplitl [HO]; · iexact HO
    isplitl [Ht1]; · iapply (Entails.of_eq t1); iexact Ht1
    isplitr; · iapply r1; iexact HR
    isplitl [Ht2]; · iapply (Entails.of_eq t2); iexact Ht2
    iapply r2; iexact HR
  iintro ⟨Hc, HO⟩
  iapply h
  isplitr; · iexact HR
  isplitl [HO]; · unfold owesAt; iexists W; iexact HO
  isplitl [Hc]; · iapply (Entails.of_eq c1); iexact Hc
  iexact Hrest

end Wait

end Cert.Mesh
end
-- ==== Proof.Ring.lean ====
/-
# The two ring streams

Their state between any two steps, and the steps: starting the next transfer, and waiting for the next arrival. Of each
landing a device keeps one half of the ownership, to read it, and passes the other half on with the next transfer.
-/
module

public import proofs.«01_k».proof.Proof.Steps
public import Idealize.SL.BI.BigOpNat

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → S256x4096.Idx → Elt F .bf16) (A : Dev nD → S1x8x128.Idx → Elt F .f32)
variable {K : Dev nD × Fin 97 → ℕ}

/-- Two entailments one after the other. -/
theorem tr {P Q R : sProp 𝕄} (h : P ⊢ Q) (h' : Q ⊢ R) : P ⊢ R := BI.Entails.trans h h'

/-! ## Pieces of a ring buffer -/

omit [FloatOps F] [Named F] in
theorem ringPts_share (d : Bool) (c : Dev nD) (S f) :
    (ringPts (F := F) d c fullShare S f : sProp 𝕄) ⊣⊢ iprop(ringPts d c fullShare.left S f ∗ ringPts d c fullShare.right S f) := by
  cases d <;> exact pointsTo_share (PosShare.mem_left_op_right fullShare)
omit [FloatOps F] [Named F] in
theorem ringPts_union (d : Bool) (c : Dev nD) (q) {S T : Finset S8x256x4096.Idx} (h : Disjoint S T) (f) :
    (ringPts (F := F) d c q (S ∪ T) f : sProp 𝕄) ⊣⊢ iprop(ringPts d c q S f ∗ ringPts d c q T f) := by
  cases d <;> exact pointsTo_union h
theorem slab_union (h r k j : ℕ) : slab h r (k + j) = slab h r k ∪ slab h (r + k) j := by
  ext i; rw [Finset.mem_union, mem_slab, mem_slab, mem_slab]; omega
theorem slab_disjoint {h h' r r' k k' : ℕ} (H : h ≠ h' ∨ r + k ≤ r' ∨ r' + k' ≤ r) : Disjoint (slab h r k) (slab h' r' k') := by
  rw [Finset.disjoint_left]; intro i hi hi'; rw [mem_slab] at hi hi'; omega

/-- The half of the landing rows of `n` that `c` keeps, and the half that it passes on. -/
def keep (c : Dev nD) (n : ℕ) : sProp 𝕄 := ringPts (dir n) c fullShare.left (slabN n) (conts X (dir n) c)
def give (c : Dev nD) (n : ℕ) : sProp 𝕄 := ringPts (dir n) c fullShare.right (slabN n) (conts X (dir n) c)
/-- The slot of maxima that `c` finds in transfer `n`. -/
def ownSlot (c : Dev nD) (n : ℕ) : sProp 𝕄 :=
  if n / 2 % 2 = 0 ∧ hop n + 1 < reach (dir n) then slotFree (orig (dir n) (hop n) c) c else iprop(emp)
/-- What of the passed half no later transfer takes. -/
def rest (c : Dev nD) (n : ℕ) : sProp 𝕄 := if n < 26 then iprop(emp) else give X c n
/-- The sources of the last hop that lie ready before their turn. -/
def spare (c : Dev nD) (n : ℕ) : sProp 𝕄 :=
  if n = 25 then Mesh.src X c 30 else if n = 26 then iprop(Mesh.src X c 30 ∗ Mesh.src X c 31) else if n = 27 then Mesh.src X c 31 else iprop(emp)
/-- The source of the transfer after arrival `n`. -/
def next (c : Dev nD) (n : ℕ) : sProp 𝕄 := if n < 28 then Mesh.src X c (n + 4) else iprop(emp)

omit [FloatOps F] [Named F] in
theorem landed_split (c : Dev nD) (n : ℕ) : landed X c n ⊣⊢ iprop(keep X c n ∗ give X c n) := ringPts_share _ _ _ _

omit [FloatOps F] [Named F] in
theorem carried_split (c : Dev nD) (n : ℕ) : (carried c n : sProp 𝕄) ⊢ iprop(ownSlot (F := F) c n ∗ carried (nbr (n + 4) c) (n + 4)) := by
  have hd : dir (n + 4) = dir n := by unfold dir; rw [show (n + 4) % 2 = n % 2 by omega]
  have hh : hop (n + 4) = hop n + 1 := by show (n + 4) / 4 = n / 4 + 1; omega
  unfold carried ownSlot nbr
  rw [hd, hh, orig_step, show (n + 4) / 2 % 2 = n / 2 % 2 by omega]
  by_cases hp : n / 2 % 2 = 0
  · rw [if_pos hp, if_pos hp]
    by_cases hr : hop n + 1 < reach (dir n)
    · rw [if_pos ⟨hp, hr⟩, bigSep_Ico_succ_bot hr, step_orig]
    · rw [if_neg (fun h => hr h.2), Finset.Ico_eq_empty (by omega), Finset.Ico_eq_empty (by omega), bigSep_empty]
      iintro -; isplitl <;> iempintro
  · rw [if_neg hp, if_neg hp, if_neg (fun h => hp h.1)]
    iintro -; isplitl <;> iempintro

omit [FloatOps F] [Named F] in
theorem give_src (c : Dev nD) {n : ℕ} (h : n < 24) : give X c n = Mesh.src X c (n + 4) := by
  have hd : dir (n + 4) = dir n := by unfold dir; rw [show (n + 4) % 2 = n % 2 by omega]
  have hr : row0 (n + 4) = row0 n := by
    unfold row0; rw [if_pos (by omega), if_pos (by omega), show (n + 4) / 2 % 2 = n / 2 % 2 by omega, show (n + 4) % 2 = n % 2 by omega]
  have hk : rows (n + 4) = rows n := by unfold rows; rw [if_pos (by omega), if_pos (by omega)]
  have hh : hop (n + 4) - 1 = hop n := by show (n + 4) / 4 - 1 = n / 4; omega
  unfold give Mesh.src slabN
  rw [if_neg (by omega), hd, hr, hk, hh]
omit [FloatOps F] [Named F] in
theorem give_24 (c : Dev nD) : give X c 24 ⊢ iprop(Mesh.src X c 28 ∗ Mesh.src X c 30) := by
  have h := (ringPts_union (F := F) false c fullShare.right (S := slab 6 0 64) (T := slab 6 64 64) (slab_disjoint (by omega)) (conts X false c)).1
  rw [← slab_union 6 0 64 64] at h
  exact h
omit [FloatOps F] [Named F] in
theorem give_25 (c : Dev nD) : give X c 25 ⊢ iprop(Mesh.src X c 29 ∗ Mesh.src X c 31) := by
  have h := (ringPts_union (F := F) true c fullShare.right (S := slab 6 128 64) (T := slab 6 192 64) (slab_disjoint (by omega)) (conts X true c)).1
  rw [← slab_union 6 128 64 64] at h
  have h' : give X c 25 ⊢ iprop(Mesh.src X c 31 ∗ Mesh.src X c 29) := h
  exact h'.trans (by iintro ⟨H1, H2⟩; isplitl [H2] <;> iassumption)

omit [FloatOps F] [Named F] in
/-- The passed half after arrival `n`: the source of transfer `n + 4`, and what lies ready. -/
theorem give_split (c : Dev nD) {n : ℕ} (h : n < 32) :
    iprop(give X c n ∗ spare X c n) ⊢ iprop(next X c n ∗ rest X c n ∗ spare X c (n + 1)) := by
  unfold next rest
  rcases (by omega : n < 24 ∨ n = 24 ∨ n = 25 ∨ n = 26 ∨ n = 27 ∨ 28 ≤ n) with h' | rfl | rfl | rfl | rfl | h'
  · unfold spare
    rw [if_pos (show n < 28 by omega), if_pos (show n < 26 by omega), if_neg (show ¬n = 25 by omega), if_neg (show ¬n = 26 by omega), if_neg (show ¬n = 27 by omega),
      if_neg (show ¬n + 1 = 25 by omega), if_neg (show ¬n + 1 = 26 by omega), if_neg (show ¬n + 1 = 27 by omega), give_src X c h']
    iintro ⟨H, -⟩; isplitl [H]; · iexact H
    isplitl <;> iempintro
  · refine (sep_mono_left (give_24 X c)).trans ?_
    show iprop((Mesh.src X c 28 ∗ Mesh.src X c 30) ∗ emp) ⊢ iprop(Mesh.src X c 28 ∗ emp ∗ Mesh.src X c 30)
    iintro ⟨⟨H, H2⟩, -⟩; isplitl [H]; · iexact H
    isplitr; · iempintro
    iexact H2
  · refine (sep_mono_left (give_25 X c)).trans ?_
    show iprop((Mesh.src X c 29 ∗ Mesh.src X c 31) ∗ Mesh.src X c 30) ⊢ iprop(Mesh.src X c 29 ∗ emp ∗ Mesh.src X c 30 ∗ Mesh.src X c 31)
    iintro ⟨⟨H, H2⟩, H3⟩; isplitl [H]; · iexact H
    isplitr; · iempintro
    isplitl [H3] <;> iassumption
  · show iprop(give X c 26 ∗ Mesh.src X c 30 ∗ Mesh.src X c 31) ⊢ iprop(Mesh.src X c 30 ∗ give X c 26 ∗ Mesh.src X c 31)
    iintro ⟨H, H2, H3⟩; isplitl [H2]; · iexact H2
    isplitl [H] <;> iassumption
  · show iprop(give X c 27 ∗ Mesh.src X c 31) ⊢ iprop(Mesh.src X c 31 ∗ give X c 27 ∗ emp)
    iintro ⟨H, H2⟩; isplitl [H2]; · iexact H2
    isplitl [H]; · iexact H
    iempintro
  · unfold spare
    rw [if_neg (show ¬n < 28 by omega), if_neg (show ¬n < 26 by omega), if_neg (show ¬n = 25 by omega), if_neg (show ¬n = 26 by omega), if_neg (show ¬n = 27 by omega),
      if_neg (show ¬n + 1 = 25 by omega), if_neg (show ¬n + 1 = 26 by omega), if_neg (show ¬n + 1 = 27 by omega)]
    iintro ⟨H, -⟩; isplitr; · iempintro
    isplitl [H]; · iexact H
    iempintro

/-! ## The state of the two streams -/

/-- The tokens of transfer `n` and the position at its send cell. -/
def tok (c : Dev nD) (n : ℕ) : sProp 𝕄 := iprop(ringTok (F := F) c n ∗ atPos ER (cell c n) 0 ∅ 0)
/-- What arrival `n` has left on `c`. -/
def done (c : Dev nD) (n : ℕ) : sProp 𝕄 := iprop(semVal (cell c (32 + n)) 0 ∗ ownSlot (F := F) c n ∗ rest X c n)

/-- `ns` transfers have been started, `nr` have arrived. -/
def ringSt (c : Dev nD) (ns nr : ℕ) : sProp 𝕄 :=
  iprop(owesAt c (2 + ns) ∗ bigSep (Finset.Ico ns 32) (tok c) ∗ bigSep (Finset.Ico nr 32) (fun n => pend c (32 + n))
    ∗ bigSep (Finset.Ico 0 nr) (keep X c) ∗ bigSep (Finset.Ico 0 nr) (done X c)
    ∗ bigSep (Finset.Ico 0 ns) (pend c) ∗ bigSep (Finset.Ico ns (min 32 (nr + 4))) (hand X c) ∗ spare X c nr)

section Steps

variable {α : Type}

/-- Transfer `n` of the ring. -/
theorem ring_send (c : Dev nD) {n nr : ℕ} {dev : Dev nD → ℕ} {hlt : ∀ c, dev c < nD} {sS sR : DmaSem sig} {sp sp' : Space} {s : Shape}
    {src : Memref sig .tc sp s .bf16} {dst : Memref sig .tc sp' s .bf16} {hsc : dst.view.ref.isScScratch = false}
    {hsrc : src.view.WordExact} {hdst : dst.view.WordExact}
    {hsem : DmaTarget.Typed sp (.dma sR) (.remote (Dev.tc (⟨dev c, hlt c⟩ : Dev nD) : Thread nD τ) dst (.dma sS) hsc)}
    {k : PUnit → Prog (TpuEff nD τ sig (Elt F) Λ₀ .tc) α} {Q : α → sProp 𝕄} {R : sProp 𝕄}
    (hn : n < 32) (hnr : n < nr + 4) (hd : ∀ c : Dev nD, dev c = (nbr n c).val) (hS : sS = semQ n) (hR : sR = semQ (32 + n)) (E : Ends X c n src dst)
    (h : iprop(recs X A K ∗ ringSt X c (n + 1) nr ∗ R) ⊢ wp frame (wpE (defs₀ (F := F)) 𝒱₀ (c : Thread nD τ) none) Set.univ (k ⟨⟩) Q) :
    iprop(recs X A K ∗ ringSt X c n nr ∗ R)
      ⊢ wp frame (wpE (defs₀ (F := F)) 𝒱₀ (c : Thread nD τ) none) Set.univ
          (.op (.enqueueDma src (.remote (Dev.tc (⟨dev c, hlt c⟩ : Dev nD) : Thread nD τ) dst (.dma sS) hsc) (.dma sR) hsrc hdst hsem) k) Q := by
  have e1 : bigSep (Finset.Ico n 32) (tok (F := F) c) = iprop((ringTok c n ∗ atPos ER (cell c n) 0 ∅ 0) ∗ bigSep (Finset.Ico (n + 1) 32) (tok c)) :=
    bigSep_Ico_succ_bot (M := 𝕄) hn (tok (F := F) c)
  have e2 := bigSep_Ico_succ_bot (M := 𝕄) (show n < min 32 (nr + 4) by omega) (hand X c)
  have e3 : bigSep (Finset.Ico 0 (n + 1)) (pend (F := F) c) = iprop((cred (tallyAt (cell c n) () (expc n)) ∗ atPos ER (cell c n) 0 ∅ 0) ∗ bigSep (Finset.Ico 0 n) (pend c)) :=
    bigSep_Ico_succ_top (M := 𝕄) (Nat.zero_le n) (pend (F := F) c)
  refine tr ?_ (ring_send_step X A c (K := K) (hsrc := hsrc) (hdst := hdst) (hsem := hsem) (k := k) (Q := Q) (R := iprop((atPos ER (cell c n) 0 ∅ 0 ∗ bigSep (Finset.Ico (n + 1) 32) (tok c) ∗ bigSep (Finset.Ico nr 32) (fun n => pend c (32 + n))
    ∗ bigSep (Finset.Ico 0 nr) (keep X c) ∗ bigSep (Finset.Ico 0 nr) (done X c)
    ∗ bigSep (Finset.Ico 0 n) (pend c) ∗ bigSep (Finset.Ico (n + 1) (min 32 (nr + 4))) (hand X c) ∗ spare X c nr) ∗ R)) hn hd hS hR E (tr ?_ h))
  · unfold ringSt
    rw [e1, e2]
    iintro ⟨#HR, ⟨HO, ⟨⟨Ht, Ha⟩, Htoks⟩, Hp, Hk, Hd, Hc, ⟨Hh, Hhs⟩, Hs⟩, Hrest⟩
    isplitr; · iexact HR
    isplitl [HO]; · iexact HO
    isplitl [Ht]; · iexact Ht
    isplitl [Hh]; · iexact Hh
    isplitr [Hrest]
    · isplitl [Ha]; · iexact Ha
      isplitl [Htoks]; · iexact Htoks
      isplitl [Hp]; · iexact Hp
      isplitl [Hk]; · iexact Hk
      isplitl [Hd]; · iexact Hd
      isplitl [Hc]; · iexact Hc
      isplitl [Hhs] <;> iassumption
    iexact Hrest
  · unfold ringSt
    rw [e3]
    iintro ⟨#HR, HO, Hcr, ⟨Ha, Htoks, Hp, Hk, Hd, Hc, Hhs, Hs⟩, Hrest⟩
    isplitr; · iexact HR
    isplitr [Hrest]
    · isplitl [HO]; · iexact HO
      isplitl [Htoks]; · iexact Htoks
      isplitl [Hp]; · iexact Hp
      isplitl [Hk]; · iexact Hk
      isplitl [Hd]; · iexact Hd
      isplitl [Hcr Ha Hc]
      · isplitr [Hc]
        · isplitl [Hcr] <;> iassumption
        iexact Hc
      isplitl [Hhs] <;> iassumption
    iexact Hrest

omit [FloatOps F] [Named F] in
theorem got_recv (c : Dev nD) {n : ℕ} (h : n < 32) :
    iprop(got X A c (32 + n) ∗ spare X c n) ⊢ iprop(keep X c n ∗ done X c n ∗ (next X c n ∗ carried (nbr (n + 4) c) (n + 4)) ∗ spare X c (n + 1)) := by
  have hp : dmaPay X A (32 + n) c = iprop(landed X c n ∗ carried c n) := by
    unfold dmaPay; rw [if_neg (by omega), if_pos (by omega), Nat.add_sub_cancel_left]
  unfold got done
  rw [hp]
  iintro ⟨⟨Hv, Hl, Hc⟩, Hs⟩
  ihave Hl' := (landed_split X c n).1 $$ Hl
  icases Hl' with ⟨Hk, Hg⟩
  ihave Hc' := (carried_split (F := F) c n) $$ Hc
  icases Hc' with ⟨Ho, Hc⟩
  ihave Hg' := (give_split X c h) $$ [Hg Hs]
  · isplitl [Hg] <;> iassumption
  icases Hg' with ⟨Hn, Hr, Hs⟩
  isplitl [Hk]; · iexact Hk
  isplitl [Hv Ho Hr]
  · isplitl [Hv]; · iexact Hv
    isplitl [Ho] <;> iassumption
  isplitr [Hs]
  · isplitl [Hn] <;> iassumption
  iexact Hs

omit [FloatOps F] [Named F] in
theorem hand_next (c : Dev nD) {ns n : ℕ} (h : n < 32) (hns : ns ≤ min 32 (n + 4)) :
    iprop(bigSep (Finset.Ico ns (min 32 (n + 4))) (hand X c) ∗ next X c n ∗ carried (nbr (n + 4) c) (n + 4))
      ⊢ bigSep (Finset.Ico ns (min 32 (n + 1 + 4))) (hand X c) := by
  unfold next
  by_cases h28 : n < 28
  · rw [if_pos h28, show min 32 (n + 1 + 4) = min 32 (n + 4) + 1 by omega, bigSep_Ico_succ_top hns, show min 32 (n + 4) = n + 4 by omega]
    unfold hand
    iintro ⟨H1, H2⟩; isplitl [H2] <;> iassumption
  · rw [if_neg h28, show min 32 (n + 1 + 4) = min 32 (n + 4) by omega]
    iintro ⟨H, -⟩; iexact H

/-- Arrival `n` of the ring. -/
theorem ring_recv (c : Dev nD) {n ns : ℕ} {sm : DmaSem sig} {sp sp' : Space} {s s' : Shape} {e e' : EltTy}
    {src : Memref sig .tc sp' s' e'} {dst : Memref sig .tc sp s e} {hsrc : src.view.WordExact} {hdst : dst.view.WordExact}
    {k : PUnit → Prog (TpuEff nD τ sig (Elt F) Λ₀ .tc) α} {Q : α → sProp 𝕄} {R : sProp 𝕄}
    (hn : n < 32) (hns : ns = min 32 (n + 4)) (hsm : sm = semQ (32 + n)) (hN : dst.view.dmaCredit = amt n)
    (h : iprop(recs X A K ∗ ringSt X c ns (n + 1) ∗ R) ⊢ wp frame (wpE (defs₀ (F := F)) 𝒱₀ (c : Thread nD τ) none) Set.univ (k ⟨⟩) Q) :
    iprop(recs X A K ∗ ringSt X c ns n ∗ R)
      ⊢ wp frame (wpE (defs₀ (F := F)) 𝒱₀ (c : Thread nD τ) none) Set.univ (.op (.waitDma2 sm src dst hsrc hdst) k) Q := by
  have hu : usedB (32 + n) = true := by unfold usedB; simp only [Bool.and_eq_true, decide_eq_true_eq, bne_iff_ne]; omega
  have ha : expc (32 + n) = amt n := by unfold expc; rw [if_neg (by omega), if_pos (by omega), Nat.add_sub_cancel_left]
  have hl : lvS (gs (32 + n)) = 2 + n / 4 := by
    have := lv_cell_dma ⟨32 + n, by omega⟩
    simp only at this; rw [this, if_neg (by omega), if_pos (by omega), Nat.add_sub_cancel_left]
  have e1 := bigSep_Ico_succ_bot (M := 𝕄) (show n < 32 from hn) (fun n => pend (F := F) c (32 + n))
  have e2 := bigSep_Ico_succ_top (M := 𝕄) (Nat.zero_le n) (keep X c)
  have e3 := bigSep_Ico_succ_top (M := 𝕄) (Nat.zero_le n) (done X c)
  refine tr ?_ (wait_step X A c (K := K) (o := 2 + ns) (i := 32 + n) (hsrc := hsrc) (hdst := hdst) (k := k) (Q := Q) (R := iprop((bigSep (Finset.Ico ns 32) (tok c) ∗ bigSep (Finset.Ico (n + 1) 32) (fun n => pend c (32 + n))
    ∗ bigSep (Finset.Ico 0 n) (keep X c) ∗ bigSep (Finset.Ico 0 n) (done X c)
    ∗ bigSep (Finset.Ico 0 ns) (pend c) ∗ bigSep (Finset.Ico ns (min 32 (n + 4))) (hand X c) ∗ spare X c n) ∗ R)) (by omega) hu
    (fun _ => by rw [hl]; unfold payLv; (repeat' split) <;> omega) hsm (hN.trans ha.symm) (tr ?_ h))
  · unfold ringSt
    rw [e1]
    iintro ⟨#HR, ⟨HO, Htoks, ⟨Hp, Hps⟩, Hk, Hd, Hc, Hh, Hs⟩, Hrest⟩
    isplitr; · iexact HR
    isplitl [HO]; · iexact HO
    isplitl [Hp]; · iexact Hp
    isplitr [Hrest]
    · isplitl [Htoks]; · iexact Htoks
      isplitl [Hps]; · iexact Hps
      isplitl [Hk]; · iexact Hk
      isplitl [Hd]; · iexact Hd
      isplitl [Hc]; · iexact Hc
      isplitl [Hh] <;> iassumption
    iexact Hrest
  · unfold ringSt
    rw [e2, e3]
    iintro ⟨#HR, HO, Hg, ⟨Htoks, Hps, Hk, Hd, Hc, Hh, Hs⟩, Hrest⟩
    ihave Hg' := (got_recv X A c hn) $$ [Hg Hs]
    · isplitl [Hg] <;> iassumption
    icases Hg' with ⟨Hk1, Hd1, Hn, Hs⟩
    ihave Hh' := (hand_next X c hn (le_of_eq hns)) $$ [Hh Hn]
    · isplitl [Hh] <;> iassumption
    isplitr; · iexact HR
    isplitr [Hrest]
    · isplitl [HO]; · iexact HO
      isplitl [Htoks]; · iexact Htoks
      isplitl [Hps]; · iexact Hps
      isplitl [Hk Hk1]; · isplitl [Hk1] <;> iassumption
      isplitl [Hd Hd1]; · isplitl [Hd1] <;> iassumption
      isplitl [Hc]; · iexact Hc
      isplitl [Hh'] <;> iassumption
    iexact Hrest

/-! ## Waits over a range of cells -/

/-- Of the cells `b + lo … b + hi - 1` those before `b + k` have been waited for; `o` payments have been made. -/
def waitSt (b lo hi o : ℕ) (c : Dev nD) (k : ℕ) : sProp 𝕄 :=
  iprop(owesAt c o ∗ bigSep (Finset.Ico k hi) (fun j => pend c (b + j)) ∗ bigSep (Finset.Ico lo k) (fun j => got X A c (b + j)))

/-- One of them. -/
theorem range_wait (b lo hi o : ℕ) (c : Dev nD) {j : ℕ} {sm : DmaSem sig} {sp sp' : Space} {s s' : Shape} {e e' : EltTy}
    {src : Memref sig .tc sp' s' e'} {dst : Memref sig .tc sp s e} {hsrc : src.view.WordExact} {hdst : dst.view.WordExact}
    {k : PUnit → Prog (TpuEff nD τ sig (Elt F) Λ₀ .tc) α} {Q : α → sProp 𝕄} {R : sProp 𝕄}
    (h1 : lo ≤ j) (h2 : j < hi) (h96 : b + j < 96) (hu : usedB (b + j) = true) (hlv : o < 49 → lvS (gs (b + j)) < payLv o)
    (hsm : sm = semQ (b + j)) (hN : dst.view.dmaCredit = expc (b + j))
    (h : iprop(recs X A K ∗ waitSt X A b lo hi o c (j + 1) ∗ R) ⊢ wp frame (wpE (defs₀ (F := F)) 𝒱₀ (c : Thread nD τ) none) Set.univ (k ⟨⟩) Q) :
    iprop(recs X A K ∗ waitSt X A b lo hi o c j ∗ R)
      ⊢ wp frame (wpE (defs₀ (F := F)) 𝒱₀ (c : Thread nD τ) none) Set.univ (.op (.waitDma2 sm src dst hsrc hdst) k) Q := by
  have e1 := bigSep_Ico_succ_bot (M := 𝕄) h2 (fun j => pend (F := F) c (b + j))
  have e2 := bigSep_Ico_succ_top (M := 𝕄) h1 (fun j => got X A c (b + j))
  refine tr ?_ (wait_step X A c (K := K) (o := o) (i := b + j) (hsrc := hsrc) (hdst := hdst) (k := k) (Q := Q)
    (R := iprop((bigSep (Finset.Ico (j + 1) hi) (fun j => pend c (b + j)) ∗ bigSep (Finset.Ico lo j) (fun j => got X A c (b + j))) ∗ R)) h96 hu hlv hsm hN (tr ?_ h))
  · unfold waitSt
    rw [e1]
    iintro ⟨#HR, ⟨HO, ⟨Hp, Hps⟩, Hg⟩, Hrest⟩
    isplitr; · iexact HR
    isplitl [HO]; · iexact HO
    isplitl [Hp]; · iexact Hp
    isplitr [Hrest]
    · isplitl [Hps] <;> iassumption
    iexact Hrest
  · unfold waitSt
    rw [e2]
    iintro ⟨#HR, HO, Hg, ⟨Hps, Hgs⟩, Hrest⟩
    isplitr; · iexact HR
    isplitr [Hrest]
    · isplitl [HO]; · iexact HO
      isplitl [Hps]; · iexact Hps
      isplitl [Hg] <;> iassumption
    iexact Hrest

end Steps

end Cert.Mesh
end
-- ==== Proof.Memory.lean ====
/-
# Loads and stores

What the body's loads read and its stores leave, as steps between states.
-/
module

public import proofs.«01_k».proof.Proof.Ring

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → S256x4096.Idx → Elt F .bf16) (W : Dev nD → S4096x128.Idx → Elt F .bf16) (A : Dev nD → S1x8x128.Idx → Elt F .f32)
variable {K : Dev nD × Fin 97 → ℕ}

theorem eqv {P Q : sProp 𝕄} (h : P ⊣⊢ Q) : P = Q := BI.equiv_iff.mp ⟨h.1, h.2⟩

/-! ## One load and one store -/

section Ops

variable {α : Type}

theorem load_step (c : Dev nD) {cs : CoreSpace} {s : Shape} {e : EltTy} {m : Memref sig .tc cs s e} {r : LoadRect s} {hl : m.view.LoadsAt r}
    {k : (r.shape.Idx → Elt F e) → Prog (TpuEff nD τ sig (Elt F) Λ₀ .tc) α} {Q : α → sProp 𝕄} {P P' R : sProp 𝕄}
    {S : Finset (Idx (m.view.loc (c : Thread nD τ)))} {q : PosShare TreeShare} {f : Buf (Elt F) (m.view.loc (c : Thread nD τ))} {v : r.shape.Idx → Elt F e}
    (hS : m.view.setOn r.set ⊆ S) (hv : m.view.readAt (Elt F) r f = v)
    (hP : P ⊢ iprop((m.view.loc (c : Thread nD τ) ↦[S]{q} f) ∗ R)) (hP' : iprop((m.view.loc (c : Thread nD τ) ↦[S]{q} f) ∗ R) ⊢ P')
    (h : P' ⊢ wp frame (wpE (defs₀ (F := F)) 𝒱₀ (c : Thread nD τ) none) Set.univ (k v) Q) :
    P ⊢ wp frame (wpE (defs₀ (F := F)) 𝒱₀ (c : Thread nD τ) none) Set.univ (.op (.load m r hl) k) Q := by
  subst hv
  refine tr hP ?_
  iintro ⟨H, HR⟩
  iapply (wp_load 𝒱₀ (c : Thread nD τ) none Set.univ (m := m) hS) $$ H
  iintro H
  iapply (tr hP' h)
  isplitl [H] <;> iassumption

theorem store_step (c : Dev nD) {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} {P P' R : sProp 𝕄}
    {S : Finset (Idx ((m.access r).loc (c : Thread nD τ)))} {f f' : Buf (Elt F) ((m.access r).loc (c : Thread nD τ))}
    (hS : (m.access r).setOn Finset.univ ⊆ S) (hf : ∀ i ∈ S, (m.access r).write (Elt F) f w Finset.univ i = f' i)
    (hP : P ⊢ iprop(((m.access r).loc (c : Thread nD τ) ↦[S]{fullShare} f) ∗ R))
    (hP' : iprop(((m.access r).loc (c : Thread nD τ) ↦[S]{fullShare} f') ∗ R) ⊢ P')
    (h : P' ⊢ wp frame (wpE (defs₀ (F := F)) 𝒱₀ (c : Thread nD τ) none) Set.univ (k ⟨⟩) Q) :
    P ⊢ wp frame (wpE (defs₀ (F := F)) 𝒱₀ (c : Thread nD τ) none) Set.univ (.op (.store m r w Finset.univ hx hm) k) Q := by
  have e1 : ((m.access r).loc (c : Thread nD τ) ↦[S]{fullShare} ((m.access r).write (Elt F) f w Finset.univ) : sProp 𝕄) = ((m.access r).loc (c : Thread nD τ) ↦[S]{fullShare} f') :=
    pointsTo_congr hf
  refine tr hP ?_
  iintro ⟨H, HR⟩
  iapply (wp_store 𝒱₀ (c : Thread nD τ) none Set.univ (m := m) (r := r) (Mk := Finset.univ) hS) $$ H
  iintro H
  iapply (tr hP' h)
  isplitl [H]
  · iapply (Entails.of_eq e1); iexact H
  iexact HR

end Ops

/-! ## What a load of a ring buffer reads -/

/-- `k` rows of `Y` from row `r`. -/
def rowsV (Y : S256x4096.Idx → Elt F .bf16) (r k : ℕ) : (⟨3, ![1, k, 4096]⟩ : Shape).Idx → Elt F .bf16 :=
  fun x => Y (ix2 (Fin.ofNat 256 (r + (x 1).val)) (x 2))

theorem rowsV_bound {h r k : ℕ} (inb : RIn h r k) (x : (⟨3, ![1, k, 4096]⟩ : Shape).Idx) : h < 8 ∧ r + (x 1).val < 256 := by
  have h0 := inb 0; change h + 1 ≤ 8 at h0
  have h1 := inb 1; change r + k ≤ 256 at h1
  have h2 := (x 1).isLt; change (x 1).val < k at h2
  omega
omit [FloatOps F] [Named F] in
theorem conts_at (b : Bool) (c : Dev nD) {h r k : ℕ} (inb : RIn h r k) (x : (⟨3, ![1, k, 4096]⟩ : Shape).Idx) :
    conts X b c ((ringRect h r k inb).emb x) = rowsV (X (orig b h c)) r k x := by
  obtain ⟨hh, hr⟩ := rowsV_bound inb x
  rw [ringRect_emb inb x hh hr]
  show X (orig b h c) (ix2 ⟨r + (x 1).val, hr⟩ (x 2)) = X (orig b h c) (ix2 (Fin.ofNat 256 (r + (x 1).val)) (x 2))
  rw [show (⟨r + (x 1).val, hr⟩ : Fin 256) = Fin.ofNat 256 (r + (x 1).val) from Fin.ext (Nat.mod_eq_of_lt hr).symm]
omit [FloatOps F] [Named F] in
theorem r_readAt (c : Dev nD) {h r k : ℕ} (inb : RIn h r k) :
    rM.view.readAt (Elt F) (ringRect h r k inb).toLoadRect (conts X false c) = rowsV (X (orig false h c)) r k := funext fun x => conts_at X false c inb x
omit [FloatOps F] [Named F] in
theorem l_readAt (c : Dev nD) {h r k : ℕ} (inb : RIn h r k) :
    lM.view.readAt (Elt F) (ringRect h r k inb).toLoadRect (conts X true c) = rowsV (X (orig true h c)) r k := funext fun x => conts_at X true c inb x
theorem r_setOn {h r k : ℕ} (inb : RIn h r k) : rM.view.setOn (ringRect h r k inb).toLoadRect.set = slab h r k := by
  have e1 : (rM.view.slice (ringRect h r k inb)).set = (ringRect h r k inb).set := View.set_slice_whole _ _
  rw [View.set_slice] at e1; exact e1.trans (ringRect_set inb)
theorem l_setOn {h r k : ℕ} (inb : RIn h r k) : lM.view.setOn (ringRect h r k inb).toLoadRect.set = slab h r k := by
  have e1 : (lM.view.slice (ringRect h r k inb)).set = (ringRect h r k inb).set := View.set_slice_whole _ _
  rw [View.set_slice] at e1; exact e1.trans (ringRect_set inb)

/-- Two arrivals of one slot, `n` and `n + 2`, held together. -/
theorem keep_pair (c : Dev nD) {h r k n ns nr : ℕ} (hn : n + 2 < nr) (hh : hop n = h) (hh' : hop (n + 2) = h)
    (hcov : ∀ x, (r ≤ x ∧ x < r + k) ↔ (row0 n ≤ x ∧ x < row0 n + rows n) ∨ (row0 (n + 2) ≤ x ∧ x < row0 (n + 2) + rows (n + 2)))
    (hdis : row0 n + rows n ≤ row0 (n + 2) ∨ row0 (n + 2) + rows (n + 2) ≤ row0 n) :
    ∃ T : sProp 𝕄, ringSt X c ns nr = iprop(ringPts (dir n) c fullShare.left (slab h r k) (conts X (dir n) c) ∗ T) := by
  have hd : dir (n + 2) = dir n := by unfold dir; rw [show (n + 2) % 2 = n % 2 by omega]
  have hS : slab h r k = slabN n ∪ slabN (n + 2) := by
    ext i; rw [Finset.mem_union, mem_slab, mem_slab, mem_slab, hh, hh', hcov]; tauto
  have h2 : keep X c (n + 2) = ringPts (dir n) c fullShare.left (slabN (n + 2)) (conts X (dir n) c) := by unfold keep; rw [hd]
  have hu : iprop(keep X c n ∗ keep X c (n + 2)) = ringPts (dir n) c fullShare.left (slab h r k) (conts X (dir n) c) := by
    rw [h2, hS]; exact (eqv (ringPts_union _ c _ (slab_disjoint (Or.inr hdis)) _)).symm
  have e : bigSep (Finset.Ico 0 nr) (keep X c) = iprop(keep X c n ∗ keep X c (n + 2) ∗ bigSep (((Finset.Ico 0 nr).erase n).erase (n + 2)) (keep X c)) := by
    rw [bigSep_erase (i := n) (Finset.mem_Ico.mpr ⟨Nat.zero_le _, by omega⟩),
      bigSep_erase (i := n + 2) (Finset.mem_erase.mpr ⟨by omega, Finset.mem_Ico.mpr ⟨Nat.zero_le _, by omega⟩⟩)]
    rfl
  refine ⟨iprop(bigSep (((Finset.Ico 0 nr).erase n).erase (n + 2)) (keep X c) ∗ owesAt c (2 + ns) ∗ bigSep (Finset.Ico ns 32) (tok c) ∗ bigSep (Finset.Ico nr 32) (fun n => pend c (32 + n))
    ∗ bigSep (Finset.Ico 0 nr) (done X c) ∗ bigSep (Finset.Ico 0 ns) (pend c) ∗ bigSep (Finset.Ico ns (min 32 (nr + 4))) (hand X c) ∗ spare X c nr), ?_⟩
  rw [← hu]; unfold ringSt; rw [e]
  refine BI.equiv_iff.mp ⟨?_, ?_⟩
  · show iprop(owesAt c (2 + ns) ∗ bigSep (Finset.Ico ns 32) (tok c) ∗ bigSep (Finset.Ico nr 32) (fun n => pend c (32 + n))
      ∗ (keep X c n ∗ keep X c (n + 2) ∗ bigSep (((Finset.Ico 0 nr).erase n).erase (n + 2)) (keep X c)) ∗ bigSep (Finset.Ico 0 nr) (done X c)
      ∗ bigSep (Finset.Ico 0 ns) (pend c) ∗ bigSep (Finset.Ico ns (min 32 (nr + 4))) (hand X c) ∗ spare X c nr) ⊢ _
    iintro ⟨H1, H2, H3, ⟨Ha, Hb, Hc⟩, H5, H6, H7, H8⟩
    isplitl [Ha Hb]; · isplitl [Ha] <;> iassumption
    isplitl [Hc]; · iexact Hc
    isplitl [H1]; · iexact H1
    isplitl [H2]; · iexact H2
    isplitl [H3]; · iexact H3
    isplitl [H5]; · iexact H5
    isplitl [H6]; · iexact H6
    isplitl [H7] <;> iassumption
  · show iprop((keep X c n ∗ keep X c (n + 2)) ∗ bigSep (((Finset.Ico 0 nr).erase n).erase (n + 2)) (keep X c) ∗ owesAt c (2 + ns) ∗ bigSep (Finset.Ico ns 32) (tok c) ∗ bigSep (Finset.Ico nr 32) (fun n => pend c (32 + n))
      ∗ bigSep (Finset.Ico 0 nr) (done X c) ∗ bigSep (Finset.Ico 0 ns) (pend c) ∗ bigSep (Finset.Ico ns (min 32 (nr + 4))) (hand X c) ∗ spare X c nr) ⊢ _
    iintro ⟨⟨Ha, Hb⟩, Hc, H1, H2, H3, H5, H6, H7, H8⟩
    isplitl [H1]; · iexact H1
    isplitl [H2]; · iexact H2
    isplitl [H3]; · iexact H3
    isplitl [Ha Hb Hc]
    · isplitl [Ha]; · iexact Ha
      isplitl [Hb] <;> iassumption
    isplitl [H5]; · iexact H5
    isplitl [H6]; · iexact H6
    isplitl [H7] <;> iassumption

section Ops

variable {α : Type}

/-- A load of what the stream to the right has brought. -/
theorem load_r (c : Dev nD) {h r k n ns nr : ℕ} {inb : RIn h r k} {hl : rM.view.LoadsAt (ringRect h r k inb).toLoadRect}
    {kk : ((⟨3, ![1, k, 4096]⟩ : Shape).Idx → Elt F .bf16) → Prog (TpuEff nD τ sig (Elt F) Λ₀ .tc) α} {Q : α → sProp 𝕄} {R : sProp 𝕄}
    (he : n = 4 * h) (hn : n + 2 < nr)
    (hcov : ∀ x, (r ≤ x ∧ x < r + k) ↔ (row0 n ≤ x ∧ x < row0 n + rows n) ∨ (row0 (n + 2) ≤ x ∧ x < row0 (n + 2) + rows (n + 2)))
    (hdis : row0 n + rows n ≤ row0 (n + 2) ∨ row0 (n + 2) + rows (n + 2) ≤ row0 n)
    (hk : iprop(recs X A K ∗ ringSt X c ns nr ∗ R) ⊢ wp frame (wpE (defs₀ (F := F)) 𝒱₀ (c : Thread nD τ) none) Set.univ (kk (rowsV (X (orig false h c)) r k)) Q) :
    iprop(recs X A K ∗ ringSt X c ns nr ∗ R)
      ⊢ wp frame (wpE (defs₀ (F := F)) 𝒱₀ (c : Thread nD τ) none) Set.univ (.op (.load rM (ringRect h r k inb).toLoadRect hl) kk) Q := by
  obtain ⟨T, hT⟩ := keep_pair X c (ns := ns) hn (show hop n = h by unfold hop; omega) (show hop (n + 2) = h by unfold hop; omega) hcov hdis
  rw [dir_false (show n % 2 = 0 by omega)] at hT
  refine load_step c (R := iprop(recs X A K ∗ T ∗ R)) (S := slab h r k) (q := fullShare.left) (f := conts X false c)
    (le_of_eq (r_setOn inb)) (r_readAt X c inb) (P' := iprop(recs X A K ∗ ringSt X c ns nr ∗ R)) ?_ ?_ hk
  all_goals rw [hT]; unfold ringPts; dsimp only
  · show iprop(recs X A K ∗ ((((c : Thread nD τ).loc cc0_scratch2) ↦[slab h r k]{fullShare.left} conts X false c) ∗ T) ∗ R) ⊢ iprop((((c : Thread nD τ).loc cc0_scratch2) ↦[slab h r k]{fullShare.left} conts X false c) ∗ recs X A K ∗ T ∗ R)
    iintro ⟨H1, ⟨H2, H3⟩, H4⟩
    isplitl [H2]; · iexact H2
    isplitl [H1]; · iexact H1
    isplitl [H3] <;> iassumption
  · show iprop((((c : Thread nD τ).loc cc0_scratch2) ↦[slab h r k]{fullShare.left} conts X false c) ∗ recs X A K ∗ T ∗ R) ⊢ iprop(recs X A K ∗ ((((c : Thread nD τ).loc cc0_scratch2) ↦[slab h r k]{fullShare.left} conts X false c) ∗ T) ∗ R)
    iintro ⟨H2, H1, H3, H4⟩
    isplitl [H1]; · iexact H1
    isplitr [H4]; · isplitl [H2] <;> iassumption
    iexact H4
/-- A load of what the stream to the left has brought. -/
theorem load_l (c : Dev nD) {h r k n ns nr : ℕ} {inb : RIn h r k} {hl : lM.view.LoadsAt (ringRect h r k inb).toLoadRect}
    {kk : ((⟨3, ![1, k, 4096]⟩ : Shape).Idx → Elt F .bf16) → Prog (TpuEff nD τ sig (Elt F) Λ₀ .tc) α} {Q : α → sProp 𝕄} {R : sProp 𝕄}
    (he : n = 4 * h + 1) (hn : n + 2 < nr)
    (hcov : ∀ x, (r ≤ x ∧ x < r + k) ↔ (row0 n ≤ x ∧ x < row0 n + rows n) ∨ (row0 (n + 2) ≤ x ∧ x < row0 (n + 2) + rows (n + 2)))
    (hdis : row0 n + rows n ≤ row0 (n + 2) ∨ row0 (n + 2) + rows (n + 2) ≤ row0 n)
    (hk : iprop(recs X A K ∗ ringSt X c ns nr ∗ R) ⊢ wp frame (wpE (defs₀ (F := F)) 𝒱₀ (c : Thread nD τ) none) Set.univ (kk (rowsV (X (orig true h c)) r k)) Q) :
    iprop(recs X A K ∗ ringSt X c ns nr ∗ R)
      ⊢ wp frame (wpE (defs₀ (F := F)) 𝒱₀ (c : Thread nD τ) none) Set.univ (.op (.load lM (ringRect h r k inb).toLoadRect hl) kk) Q := by
  obtain ⟨T, hT⟩ := keep_pair X c (ns := ns) hn (show hop n = h by unfold hop; omega) (show hop (n + 2) = h by unfold hop; omega) hcov hdis
  rw [dir_true (show n % 2 = 1 by omega)] at hT
  refine load_step c (R := iprop(recs X A K ∗ T ∗ R)) (S := slab h r k) (q := fullShare.left) (f := conts X true c)
    (le_of_eq (l_setOn inb)) (l_readAt X c inb) (P' := iprop(recs X A K ∗ ringSt X c ns nr ∗ R)) ?_ ?_ hk
  all_goals rw [hT]; unfold ringPts; dsimp only
  · show iprop(recs X A K ∗ ((((c : Thread nD τ).loc cc0_scratch3) ↦[slab h r k]{fullShare.left} conts X true c) ∗ T) ∗ R) ⊢ iprop((((c : Thread nD τ).loc cc0_scratch3) ↦[slab h r k]{fullShare.left} conts X true c) ∗ recs X A K ∗ T ∗ R)
    iintro ⟨H1, ⟨H2, H3⟩, H4⟩
    isplitl [H2]; · iexact H2
    isplitl [H1]; · iexact H1
    isplitl [H3] <;> iassumption
  · show iprop((((c : Thread nD τ).loc cc0_scratch3) ↦[slab h r k]{fullShare.left} conts X true c) ∗ recs X A K ∗ T ∗ R) ⊢ iprop(recs X A K ∗ ((((c : Thread nD τ).loc cc0_scratch3) ↦[slab h r k]{fullShare.left} conts X true c) ∗ T) ∗ R)
    iintro ⟨H2, H1, H3, H4⟩
    isplitl [H1]; · iexact H1
    isplitr [H4]; · isplitl [H2] <;> iassumption
    iexact H4

end Ops

/-! ## The result's rows -/

/-- Rows `r …` of `Y`, 128 of them. -/
def rows128 (Y : S256x4096.Idx → Elt F .bf16) (r : ℕ) : S128x4096.Idx → Elt F .bf16 := fun x => Y (ix2 (Fin.ofNat 256 (r + (x 0).val)) (x 1))
/-- The product's rows on `c` after the cut at zero: block `j` is device `j`'s rows; that of the device opposite is
    made in two halves. -/
def prod (c : Dev nD) : S4096x128.Idx → Elt F .f32 := fun i =>
  if (i 0).val / 256 = (orig false 7 c).val then
    k0_pay38 (rows128 (X (orig false 7 c)) (128 * ((i 0).val % 256 / 128))) (W c) (ix2 (Fin.ofNat 128 (i 0).val) (i 1))
  else k0_pay3 (X (Fin.ofNat 16 ((i 0).val / 256))) (W c) (ix2 (Fin.ofNat 256 (i 0).val) (i 1))

/-- The result's staging buffer with the rows of `D` (first row and number) in place. -/
def outIs (c : Dev nD) (D : List (ℕ × ℕ)) : sProp 𝕄 :=
  iprop(∃ f : S4096x128.Idx → Elt F .f32, ⌜∀ i : S4096x128.Idx, (∃ p ∈ D, p.1 ≤ (i 0).val ∧ (i 0).val < p.1 + p.2) → f i = prod X W c i⌝
    ∗ (((c : Thread nD τ).loc cc0_stg2_0) ↦[Finset.univ]{fullShare} f))
abbrev oM : Memref sig .tc .vmem S4096x128 .f32 := Memref.whole cc0_stg2_0
abbrev wM : Memref sig .tc .vmem S4096x128 .bf16 := Memref.whole cc0_scratch1

/-- What the products read and write beside the ring buffers: the weights' copy, the result's rows, half of the copy of `x`. -/
def gemmSt (c : Dev nD) (D : List (ℕ × ℕ)) : sProp 𝕄 :=
  iprop((((c : Thread nD τ).loc cc0_scratch1) ↦[Finset.univ]{fullShare} W c) ∗ outIs X W c D)

section Ops

variable {α : Type}

/-- A load of the weights. -/
theorem load_w (c : Dev nD) {D : List (ℕ × ℕ)} {P : sProp 𝕄} {inb : ∀ a, (![0, 0] : Fin 2 → ℕ) a + S4096x128.size a ≤ S4096x128.size a}
    {hl : wM.view.LoadsAt (Rect.unit (s := S4096x128) ![0, 0] S4096x128.size inb).toLoadRect}
    {kk : (S4096x128.Idx → Elt F .bf16) → Prog (TpuEff nD τ sig (Elt F) Λ₀ .tc) α} {Q : α → sProp 𝕄} {R : sProp 𝕄}
    (hk : iprop(recs X A K ∗ P ∗ gemmSt X W c D ∗ R) ⊢ wp frame (wpE (defs₀ (F := F)) 𝒱₀ (c : Thread nD τ) none) Set.univ (kk (W c)) Q) :
    iprop(recs X A K ∗ P ∗ gemmSt X W c D ∗ R)
      ⊢ wp frame (wpE (defs₀ (F := F)) 𝒱₀ (c : Thread nD τ) none) Set.univ (.op (.load wM (Rect.unit (s := S4096x128) ![0, 0] S4096x128.size inb).toLoadRect hl) kk) Q := by
  refine load_step c (m := wM) (R := iprop(recs X A K ∗ P ∗ outIs X W c D ∗ R)) (S := Finset.univ) (q := fullShare) (f := W c)
    (Finset.subset_univ _) (Memref.readAt_unit_zero (Elt F) cc0_scratch1 (by decide) inb (W c)) (P' := iprop(recs X A K ∗ P ∗ gemmSt X W c D ∗ R)) ?_ ?_ hk
  all_goals unfold gemmSt
  · show _ ⊢ iprop((((c : Thread nD τ).loc cc0_scratch1) ↦[Finset.univ]{fullShare} W c) ∗ recs X A K ∗ P ∗ outIs X W c D ∗ R)
    iintro ⟨H1, H2, ⟨H3, H4⟩, H5⟩
    isplitl [H3]; · iexact H3
    isplitl [H1]; · iexact H1
    isplitl [H2]; · iexact H2
    isplitl [H4] <;> iassumption
  · show iprop((((c : Thread nD τ).loc cc0_scratch1) ↦[Finset.univ]{fullShare} W c) ∗ recs X A K ∗ P ∗ outIs X W c D ∗ R) ⊢ _
    iintro ⟨H3, H1, H2, H4, H5⟩
    isplitl [H1]; · iexact H1
    isplitl [H2]; · iexact H2
    isplitr [H5]; · isplitl [H3] <;> iassumption
    iexact H5

/-- A load of the result's staging buffer, whose value nothing uses. -/
theorem load_out (c : Dev nD) {D : List (ℕ × ℕ)} {P : sProp 𝕄} {r : LoadRect S4096x128} {hl : oM.view.LoadsAt r}
    {kk : (r.shape.Idx → Elt F .f32) → Prog (TpuEff nD τ sig (Elt F) Λ₀ .tc) α} {Q : α → sProp 𝕄} {R : sProp 𝕄}
    (hk : ∀ v, iprop(recs X A K ∗ P ∗ gemmSt X W c D ∗ R) ⊢ wp frame (wpE (defs₀ (F := F)) 𝒱₀ (c : Thread nD τ) none) Set.univ (kk v) Q) :
    iprop(recs X A K ∗ P ∗ gemmSt X W c D ∗ R)
      ⊢ wp frame (wpE (defs₀ (F := F)) 𝒱₀ (c : Thread nD τ) none) Set.univ (.op (.load oM r hl) kk) Q := by
  unfold gemmSt outIs
  iintro ⟨H1, H2, ⟨H3, ⟨%f, %hf, H4⟩⟩, H5⟩
  iapply (wp_load 𝒱₀ (c : Thread nD τ) none Set.univ (m := oM) (Finset.subset_univ _)) $$ H4
  iintro H4
  have hk' := hk (oM.view.readAt (Elt F) r f)
  unfold gemmSt outIs at hk'
  iapply hk'
  isplitl [H1]; · iexact H1
  isplitl [H2]; · iexact H2
  isplitr [H5]
  · isplitl [H3]; · iexact H3
    iexists f
    isplitr; · ipureintro; exact hf
    iexact H4
  iexact H5

/-- A store of `n` rows of the product from row `o`. -/
theorem store_out (c : Dev nD) {D : List (ℕ × ℕ)} {o n : ℕ} {off : Fin 2 → ℕ} {P : sProp 𝕄}
    {inb : ∀ a, off a + (![n, 128] : Fin 2 → ℕ) a ≤ S4096x128.size a} {w : (⟨2, ![n, 128]⟩ : Shape).Idx → Elt F .f32}
    {hx : (oM.access (Rect.unit (s := S4096x128) off ![n, 128] inb)).Stores Finset.univ}
    {hm : (Finset.univ : Finset (Rect.unit (s := S4096x128) off ![n, 128] inb).shape.Idx) = Finset.univ ∨ ∀ a, (Rect.unit (s := S4096x128) off ![n, 128] inb).stride a = 1}
    {kk : PUnit → Prog (TpuEff nD τ sig (Elt F) Λ₀ .tc) α} {Q : α → sProp 𝕄} {R : sProp 𝕄}
    (hoff : off = ![o, 0]) (hw : ∀ (x : (⟨2, ![n, 128]⟩ : Shape).Idx) (hr : o + (x 0).val < 4096), w x = prod X W c (ix2 ⟨o + (x 0).val, hr⟩ (x 1)))
    (hk : iprop(recs X A K ∗ P ∗ gemmSt X W c ((o, n) :: D) ∗ R) ⊢ wp frame (wpE (defs₀ (F := F)) 𝒱₀ (c : Thread nD τ) none) Set.univ (kk ⟨⟩) Q) :
    iprop(recs X A K ∗ P ∗ gemmSt X W c D ∗ R)
      ⊢ wp frame (wpE (defs₀ (F := F)) 𝒱₀ (c : Thread nD τ) none) Set.univ
        (.op (.store oM (Rect.unit (s := S4096x128) off ![n, 128] inb) w Finset.univ hx hm) kk) Q := by
  subst hoff
  have hb : o + n ≤ 4096 := inb 0
  have hem (x : (⟨2, ![n, 128]⟩ : Shape).Idx) (hr : o + (x 0).val < 4096) :
      (oM.access (Rect.unit (s := S4096x128) ![o, 0] ![n, 128] inb)).emb x = (ix2 ⟨o + (x 0).val, hr⟩ (x 1) : S4096x128.Idx) := by
    funext a; fin_cases a
    · exact Fin.ext (by show o + 1 * (x 0).val = _; simp)
    · exact Fin.ext (by show 0 + 1 * (x 1).val = _; simp)
  have hin (f : S4096x128.Idx → Elt F .f32) (i : S4096x128.Idx) (h1 : o ≤ (i 0).val) (h2 : (i 0).val < o + n) :
      (oM.access (Rect.unit (s := S4096x128) ![o, 0] ![n, 128] inb)).write (Elt F) f w Finset.univ i = prod X W c i := by
    let x : (⟨2, ![n, 128]⟩ : Shape).Idx := ix2 ⟨(i 0).val - o, by omega⟩ (i 1)
    have hr : o + (x 0).val < 4096 := by show o + ((i 0).val - o) < 4096; omega
    have hi : i = (ix2 ⟨o + (x 0).val, hr⟩ (x 1) : S4096x128.Idx) := by
      funext a; fin_cases a
      · exact Fin.ext (by show (i 0).val = o + ((i 0).val - o); omega)
      · rfl
    have hex := hem x hr
    rw [← hi] at hex
    have e1 := View.write_emb_of_mem (v := oM.access (Rect.unit (s := S4096x128) ![o, 0] ![n, 128] inb)) (Val := Elt F) f w (Finset.mem_univ x)
    refine ((congrArg ((oM.access (Rect.unit (s := S4096x128) ![o, 0] ![n, 128] inb)).write (Elt F) f w Finset.univ) hex.symm).trans e1).trans ?_
    exact (hw x hr).trans (congrArg (prod X W c) hi.symm)
  have hout (f : S4096x128.Idx → Elt F .f32) (i : S4096x128.Idx) (h1 : ¬(o ≤ (i 0).val ∧ (i 0).val < o + n)) :
      (oM.access (Rect.unit (s := S4096x128) ![o, 0] ![n, 128] inb)).write (Elt F) f w Finset.univ i = f i := by
    refine View.write_of_not_mem (v := oM.access (Rect.unit (s := S4096x128) ![o, 0] ![n, 128] inb)) (Val := Elt F) f w Finset.univ fun hmem => h1 ?_
    rw [View.setOn, Finset.mem_map] at hmem
    obtain ⟨x, _, rfl⟩ := hmem
    have hx0 := (x 0).isLt; change (x 0).val < n at hx0
    rw [hem x (by omega)]
    exact ⟨Nat.le_add_right _ _, Nat.add_lt_add_left hx0 _⟩
  unfold gemmSt outIs
  iintro ⟨H1, H2, ⟨H3, ⟨%f, %hf, H4⟩⟩, H5⟩
  iapply (wp_store 𝒱₀ (c : Thread nD τ) none Set.univ (m := oM) (r := Rect.unit (s := S4096x128) ![o, 0] ![n, 128] inb) (Mk := Finset.univ) (Finset.subset_univ _)) $$ H4
  iintro H4
  unfold gemmSt outIs at hk
  iapply hk
  isplitl [H1]; · iexact H1
  isplitl [H2]; · iexact H2
  isplitr [H5]
  · isplitl [H3]; · iexact H3
    iexists _
    isplitr
    · ipureintro
      rintro i ⟨p, hp, hp1, hp2⟩
      by_cases hi : o ≤ (i 0).val ∧ (i 0).val < o + n
      · exact hin f i hi.1 hi.2
      · refine (hout f i hi).trans (hf i ⟨p, ?_, hp1, hp2⟩)
        rcases List.mem_cons.mp hp with rfl | hp
        · exact absurd ⟨hp1, hp2⟩ hi
        · exact hp
    iexact H4
  iexact H5

end Ops

end Cert.Mesh
end
-- ==== Proof.Gather.lean ====
/-
# The barrier and the exchange of the maxima

The two signals and the wait at the start, and each device's transfers of its own maximum to the fifteen others.
-/
module

public import proofs.«01_k».proof.Proof.Memory

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → S256x4096.Idx → Elt F .bf16) (W : Dev nD → S4096x128.Idx → Elt F .bf16) (A : Dev nD → S1x8x128.Idx → Elt F .f32)
variable {K : Dev nD × Fin 97 → ℕ}

/-! ## The barrier -/

/-- The tokens of the two signals, and the right to wait for the neighbours'. -/
def barTok (c : Dev nD) : sProp 𝕄 := iprop(dutyTok ER (cell (left c) 96) 0 true ∗ dutyTok ER (cell (right c) 96) 0 false)
def barPend (c : Dev nD) : sProp 𝕄 := iprop(cred (tallyAt (cell c 96) () 2) ∗ atPos ER (cell c 96) 0 ∅ 0)

section Ops

variable {α : Type}

theorem barrier_step (c : Dev nD) {d1 d2 : Dev nD → ℕ} {h1 : ∀ c, d1 c < nD} {h2 : ∀ c, d2 c < nD}
    {k : PUnit → Prog (TpuEff nD τ sig (Elt F) Λ₀ .tc) α} {Q : α → sProp 𝕄} {R : sProp 𝕄}
    (hd1 : ∀ c : Dev nD, d1 c = (left c).val) (hd2 : ∀ c : Dev nD, d2 c = (right c).val)
    (h : iprop(recs X A K ∗ owesAt c 2 ∗ semVal (cell c 96) 0 ∗ (barPay true c ∗ barPay false c) ∗ R)
      ⊢ wp frame (wpE (defs₀ (F := F)) 𝒱₀ (c : Thread nD τ) none) Set.univ (k ⟨⟩) Q) :
    iprop(recs X A K ∗ owesAt c 0 ∗ barTok c ∗ barPend c ∗ (barPay false (left c) ∗ barPay true (right c)) ∗ R)
      ⊢ wp frame (wpE (defs₀ (F := F)) 𝒱₀ (c : Thread nD τ) none) Set.univ
          (.op (.semSignal (Dev.tc (⟨d1 c, h1 c⟩ : Dev nD) : Thread nD τ) barS (1#32).toInt) fun _ =>
            .op (.semSignal (Dev.tc (⟨d2 c, h2 c⟩ : Dev nD) : Thread nD τ) barS (1#32).toInt) fun _ =>
            .op (.semWait barS (2#32).toInt) k) Q := by
  have he1 : (⟨d1 c, h1 c⟩ : Dev nD) = left c := Fin.ext (hd1 c)
  have he2 : (⟨d2 c, h2 c⟩ : Dev nD) = right c := Fin.ext (hd2 c)
  rw [he1, he2]
  have l1 : recs X A K ⊢ (levAts L lv : sProp 𝕄) := by unfold recs; iintro ⟨-, -, H⟩; iexact H
  have l2 : (levAts L lv : sProp 𝕄) ⊢ MayWait (c : Thread nD τ) (SemLoc.reg barS) () (owed c 2) :=
    mayWait c (SemLoc.reg barS) 2 (fun _ => by show (1 : ℕ) < payLv 2; decide)
  have m1 : recs X A K ⊢ MayWait (c : Thread nD τ) (SemLoc.reg barS) () (owed c 2) := l1.trans l2
  have p1 := rest_bar X A c
  have pB (e : Dev nD) (d : Bool) : (barPay (!d) e : sProp 𝕄) = (sched X A).payload ((e : Thread nD τ), SemLoc.reg barS) 0 d := rfl
  have dB (e : Dev nD) (d : Bool) : d ∈ (sched X A).duties ((e : Thread nD τ), SemLoc.reg barS) 0 :=
    (by rw [duties_bar X A e]; exact Finset.mem_univ _ : d ∈ (sched X A).duties (cell e 96) 0)
  unfold owesAt barTok barPend
  iintro ⟨#HR, ⟨%W, HO⟩, ⟨Ht1, Ht2⟩, ⟨Hc, Hat⟩, ⟨Hp1, Hp2⟩, Hrest⟩
  iapply (Rounds.wp_signal 𝒱₀ ER (sched X A) (c : Thread nD τ) none (dst := (left c : Thread nD τ)) (κ := K (left c, 96))
      (d := true) (r := 0) (k' := 1) (dB (left c) true) (amount_bar X A (left c) 0 true) () (owed c 1)
      (show owed c 0 = owed c 1 + _ from owed_peel c (show 0 < 49 by omega))) $$ [HO Ht1 Hp1]
  · isplitr; · iapply (recs_inv X A (left c) (i := 96) (by omega)); iexact HR
    isplitl [HO]; · iexact HO
    isplitl [Ht1]; · iexact Ht1
    isplitl [Hp1]; · iapply (Entails.of_eq (pB (left c) true)); iexact Hp1
    iapply (recs_reached X A (left c) (i := 96) (by omega)); iexact HR
  iintro HO
  iapply (Rounds.wp_signal 𝒱₀ ER (sched X A) (c : Thread nD τ) none (dst := (right c : Thread nD τ)) (κ := K (right c, 96))
      (d := false) (r := 0) (k' := 1) (dB (right c) false) (amount_bar X A (right c) 0 false) () (owed c 2)
      (show owed c 1 = owed c 2 + _ from owed_peel c (show 1 < 49 by omega))) $$ [HO Ht2 Hp2]
  · isplitr; · iapply (recs_inv X A (right c) (i := 96) (by omega)); iexact HR
    isplitl [HO]; · iexact HO
    isplitl [Ht2]; · iexact Ht2
    isplitl [Hp2]; · iapply (Entails.of_eq (pB (right c) false)); iexact Hp2
    iapply (recs_reached X A (right c) (i := 96) (by omega)); iexact HR
  iintro HO
  iapply (Rounds.wp_wait_rest_token 𝒱₀ ER (sched X A) (c : Thread nD τ) none (κ := K (c, 96)) (k' := 2)
    (wpE_semWait_eq 𝒱₀ (c : Thread nD τ) none Set.univ) (Set.mem_univ _) () (O := owed c 2) (W := W) (R := 0) (m := 0) (T := ∅)
    ((Nat.zero_add 2).trans (expect_bar X A c).symm)) $$ [HO Hc Hat]
  · isplitr; · iapply (recs_inv X A c (i := 96) (by omega)); iexact HR
    isplitl [Hc]; · iexact Hc
    isplitl [HO]; · iexact HO
    isplitr; · iapply m1; iexact HR
    iexact Hat
  iintro ⟨HO, Hat, -, Hpay⟩
  imod (Rounds.cell_close ER (sched X A) (Set.mem_univ (K (c, 96))) (fun h => h) (R := 0 + 1) (fun r hr => duties_later X A (cell c 96) r hr)) $$ [Hat] with Hv
  · isplitr; · iapply (recs_inv X A c (i := 96) (by omega)); iexact HR
    iexact Hat
  iapply h
  unfold owesAt
  isplitr; · iexact HR
  isplitl [HO]; · iexists _; iexact HO
  isplitl [Hv]; · iexact Hv
  isplitl [Hpay]; · iapply (Entails.of_eq p1); iexact Hpay
  iexact Hrest

end Ops

/-! ## Transfers of the maxima -/

/-- Slot `j`, as the transfers name it. -/
abbrev AIn (j : ℕ) : Prop := ∀ a, (![j, 0, 0] : Fin 3 → ℕ) a + (![1, 8, 128] : Fin 3 → ℕ) a ≤ S16x8x128.size a
abbrev aRect (j : ℕ) (inb : AIn j) : Rect S16x8x128 := Rect.unit (s := S16x8x128) ![j, 0, 0] ![1, 8, 128] inb
abbrev aP (j : ℕ) (inb : AIn j) (sq : (⟨3, ![1, 8, 128]⟩ : Shape).Squeezes ⟨2, ![8, 128]⟩) : Memref sig .tc .vmem ⟨2, ![8, 128]⟩ .f32 :=
  (aM.slice (aRect j inb) (fun _ => rfl)).squeeze ⟨2, ![8, 128]⟩ sq

theorem aRect_set {j : ℕ} (inb : AIn j) : (aRect j inb).set = aslab j := by
  ext i; rw [Rect.mem_set_unit, mem_aslab]
  have h1 := (i 1).isLt; have h2 := (i 2).isLt
  constructor
  · intro H
    have H0 := H 0
    exact le_antisymm (Nat.lt_succ_iff.mp H0.2) H0.1
  · intro H0 a
    fin_cases a
    · exact ⟨le_of_eq H0.symm, by show (i 0).val < j + 1; omega⟩
    · exact ⟨Nat.zero_le _, by show (i 1).val < 0 + 8; simpa using h1⟩
    · exact ⟨Nat.zero_le _, by show (i 2).val < 0 + 128; simpa using h2⟩
theorem aP_set {j : ℕ} (inb : AIn j) (sq) : (aP j inb sq).view.set = aslab j := by
  show (((View.whole cc0_scratch4).slice (aRect j inb)).reshape _ _).set = _
  rw [View.set_reshape, View.set_slice_whole]; exact aRect_set inb
theorem aRect_emb {j : ℕ} (inb : AIn j) (x : (⟨3, ![1, 8, 128]⟩ : Shape).Idx) (hj : j < 16) :
    (aRect j inb).emb x = (ix3 ⟨j, hj⟩ (x 1) (x 2) : S16x8x128.Idx) := by
  have h0 : (x 0).val = 0 := Nat.lt_one_iff.mp (x 0).isLt
  funext a; fin_cases a
  · exact Fin.ext (by show j + 1 * (x 0).val = _; simp [h0])
  · exact Fin.ext (by show 0 + 1 * (x 1).val = _; simp)
  · exact Fin.ext (by show 0 + 1 * (x 2).val = _; simp)
theorem aP_emb {j : ℕ} (inb : AIn j) (sq) (x : (⟨2, ![8, 128]⟩ : Shape).Idx) (hj : j < 16) :
    (aP j inb sq).view.emb x = (ix3 ⟨j, hj⟩ (x 0) (x 1) : S16x8x128.Idx) := by
  show (aRect j inb).emb (Shape.reshapeEquiv _ x) = _
  rw [Shape.reshapeEquiv_cons_one _ x]
  exact aRect_emb inb _ hj

omit [FloatOps F] [Named F] in
/-- What `c`'s own maximum becomes in the slot kept for it on another device. -/
theorem a_land (c e : Dev nD) {j : ℕ} (inb : AIn j) (inb0 : AIn 0) (sq sq0) (hj : j < 16) (he : e + Fin.ofNat 16 j = c) (fd : S16x8x128.Idx → Elt F .f32) :
    ∀ i ∈ aslab j, (aP j inb sq).view.write (Elt F) fd ((aP 0 inb0 sq0).view.read (Elt F) (amaxes A c)) Finset.univ i = amaxes A e i := by
  intro i hi
  rw [mem_aslab] at hi
  let x : (⟨2, ![8, 128]⟩ : Shape).Idx := ix2 (i 1) (i 2)
  have hix : (ix3 ⟨j, hj⟩ (x 0) (x 1) : S16x8x128.Idx) = i := by
    funext a; fin_cases a
    · exact Fin.ext hi.symm
    · rfl
    · rfl
  have hex := (aP_emb inb sq x hj).trans hix
  refine ((congrArg ((aP j inb sq).view.write (Elt F) fd _ Finset.univ) hex.symm).trans (View.write_emb_of_mem _ _ (Finset.mem_univ x))).trans ?_
  have he0 := aP_emb inb0 sq0 x (by omega)
  have hr : (aP 0 inb0 sq0).view.read (Elt F) (amaxes A c) x = amaxes A c (ix3 ⟨0, by omega⟩ (x 0) (x 1)) := by rw [View.read_apply, he0]; rfl
  refine hr.trans ?_
  show A (c + Fin.ofNat 16 0) (ix3 0 (i 1) (i 2)) = A (e + Fin.ofNat 16 (i 0).val) (ix3 0 (i 1) (i 2))
  rw [hi, he, show c + Fin.ofNat 16 0 = c from add_zero c]

/-- The tokens of the transfer to the device `kk` after, with the slot it lands in and the position at its send cell. -/
def aTok (c : Dev nD) (kk : ℕ) : sProp 𝕄 :=
  iprop((dutyTok ER (cell c (64 + kk)) 0 true ∗ dutyTok ER (cell (c + Fin.ofNat 16 kk) (96 - kk)) 0 true ∗ slotFree (c + Fin.ofNat 16 kk) c) ∗ atPos ER (cell c (64 + kk)) 0 ∅ 0)
/-- The transfers before the `k`-th have been started. -/
def aSt (c : Dev nD) (k : ℕ) : sProp 𝕄 :=
  iprop(owesAt c (33 + k) ∗ bigSep (Finset.Ico k 16) (aTok c) ∗ bigSep (Finset.Ico k 16) (fun kk => slot A c (leafK kk) 0) ∗ bigSep (Finset.Ico 1 k) (fun kk => pend c (64 + kk)))

theorem dist_val : ∀ (c : Dev nD) (kk : Fin 16), 1 ≤ kk.val → (c - (c + Fin.ofNat 16 kk.val) : Dev nD).val = 16 - kk.val := by decide +kernel
theorem dist_back : ∀ (c : Dev nD) (kk : Fin 16), 1 ≤ kk.val → (c + Fin.ofNat 16 kk.val : Dev nD) + Fin.ofNat 16 (16 - kk.val) = c := by decide +kernel

section Ops

variable {α : Type}

/-- Transfer of the maximum to the device `kk` after. -/
theorem a_send (c : Dev nD) {kk j : ℕ} {inb : AIn j} {inb0 : AIn 0} {sq sq0} {dev : Dev nD → ℕ} {hlt : ∀ c, dev c < nD} {sS sR : DmaSem sig}
    {hsc : (aP j inb sq).view.ref.isScScratch = false} {hsrc : (aP 0 inb0 sq0).view.WordExact} {hdst : (aP j inb sq).view.WordExact}
    {hsem : DmaTarget.Typed _ (.dma sR) (.remote (Dev.tc (⟨dev c, hlt c⟩ : Dev nD) : Thread nD τ) (aP j inb sq) (.dma sS) hsc)}
    {k : PUnit → Prog (TpuEff nD τ sig (Elt F) Λ₀ .tc) α} {Q : α → sProp 𝕄} {R : sProp 𝕄}
    (h1 : 1 ≤ kk) (h16 : kk < 16) (hj : j = 16 - kk) (hd : ∀ c : Dev nD, dev c = (c + Fin.ofNat 16 kk : Dev nD).val) (hS : sS = semQ (64 + kk)) (hR : sR = semQ (96 - kk))
    (hN : (aP j inb sq).view.dmaCredit = NA)
    (h : iprop(recs X A K ∗ aSt A c (kk + 1) ∗ R) ⊢ wp frame (wpE (defs₀ (F := F)) 𝒱₀ (c : Thread nD τ) none) Set.univ (k ⟨⟩) Q) :
    iprop(recs X A K ∗ aSt A c kk ∗ R)
      ⊢ wp frame (wpE (defs₀ (F := F)) 𝒱₀ (c : Thread nD τ) none) Set.univ
          (.op (.enqueueDma (aP 0 inb0 sq0) (.remote (Dev.tc (⟨dev c, hlt c⟩ : Dev nD) : Thread nD τ) (aP j inb sq) (.dma sS) hsc) (.dma sR) hsrc hdst hsem) k) Q := by
  let e : Dev nD := c + Fin.ofNat 16 kk
  have he : (⟨dev c, hlt c⟩ : Dev nD) = e := Fin.ext (hd c)
  revert hsem
  rw [he]; intro hsem
  have g1 : ((c : Thread nD τ), SemLoc.dma sS) = cell c (64 + kk) := by rw [hS]; unfold cell; rw [gs_dma (by omega)]
  have g2 : ((e : Thread nD τ), SemLoc.dma sR) = cell e (96 - kk) := by rw [hR]; unfold cell; rw [gs_dma (by omega)]
  have hu1 : usedB (64 + kk) = true := by unfold usedB; simp only [Bool.and_eq_true, decide_eq_true_eq, bne_iff_ne]; omega
  have hu2 : usedB (96 - kk) = true := by unfold usedB; simp only [Bool.and_eq_true, decide_eq_true_eq, bne_iff_ne]; omega
  have ha1 : expc (64 + kk) = NA := by unfold expc; rw [if_neg (by omega), if_neg (by omega)]
  have ha2 : expc (96 - kk) = NA := by unfold expc; rw [if_neg (by omega), if_neg (by omega)]
  have i1 : recs X A K ⊢ cellInv ER (sched X A) (K (c, ⟨64 + kk, by omega⟩)) ((c : Thread nD τ), SemLoc.dma sS) := by rw [g1]; exact recs_inv X A c _
  have i2 : recs X A K ⊢ cellInv ER (sched X A) (K (e, ⟨96 - kk, by omega⟩)) ((e : Thread nD τ), SemLoc.dma sR) := by rw [g2]; exact recs_inv X A e _
  have r1 : recs X A K ⊢ reached ER ((c : Thread nD τ), SemLoc.dma sS) 0 := by rw [g1]; exact recs_reached X A c (by omega)
  have r2 : recs X A K ⊢ reached ER ((e : Thread nD τ), SemLoc.dma sR) 0 := by rw [g2]; exact recs_reached X A e (by omega)
  have t1 : (dutyTok ER (cell c (64 + kk)) 0 true : sProp 𝕄) = dutyTok ER ((c : Thread nD τ), SemLoc.dma sS) 0 true := by rw [g1]
  have t2 : (dutyTok ER (cell e (96 - kk)) 0 true : sProp 𝕄) = dutyTok ER ((e : Thread nD τ), SemLoc.dma sR) 0 true := by rw [g2]
  have c1 : (cred (tallyAt ((c : Thread nD τ), SemLoc.dma sS) () NA) : sProp 𝕄) = cred (tallyAt (cell c (64 + kk)) () (expc (64 + kk))) := by rw [g1, ha1]
  have hdv : (c - e : Dev nD).val = j := by rw [hj]; exact dist_val c ⟨kk, h16⟩ h1
  have hfree : (slotFree e c : sProp 𝕄) ⊢ iprop(∃ fd, (aP j inb sq).view.loc (e : Thread nD τ) ↦[(aP j inb sq).view.set]{fullShare} fd) := by
    unfold slotFree aPts; rw [hdv, aP_set inb sq]; exact BI.Entails.refl _
  have hsrcE : (slot A c (leafK kk) 0 : sProp 𝕄) = ((aP 0 inb0 sq0).view.loc (c : Thread nD τ) ↦[(aP 0 inb0 sq0).view.set]{leafK kk} amaxes A c) := by
    unfold slot aPts; rw [aP_set inb0 sq0]
  have hland (fd : S16x8x128.Idx → Elt F .f32) : ((aP j inb sq).view.loc (e : Thread nD τ) ↦[(aP j inb sq).view.set]{fullShare}
      ((aP j inb sq).view.write (Elt F) fd ((aP 0 inb0 sq0).view.read (Elt F) (amaxes A c)) Finset.univ) : sProp 𝕄) ⊢ slot A e fullShare j := by
    unfold slot aPts; rw [aP_set inb sq]
    exact Entails.of_eq (pointsTo_congr (a_land A c e inb inb0 sq sq0 (by omega) (by rw [hj]; exact dist_back c ⟨kk, h16⟩ h1) fd))
  have b1 : bigSep (Finset.Ico kk 16) (aTok (F := F) c) = iprop(((dutyTok ER (cell c (64 + kk)) 0 true ∗ dutyTok ER (cell e (96 - kk)) 0 true ∗ slotFree e c) ∗ atPos ER (cell c (64 + kk)) 0 ∅ 0)
      ∗ bigSep (Finset.Ico (kk + 1) 16) (aTok c)) := bigSep_Ico_succ_bot (M := 𝕄) h16 (aTok (F := F) c)
  have b2 := bigSep_Ico_succ_bot (M := 𝕄) h16 (fun kk => slot A c (leafK kk) 0)
  have b3 : bigSep (Finset.Ico 1 (kk + 1)) (fun kk => pend (F := F) c (64 + kk)) = iprop((cred (tallyAt (cell c (64 + kk)) () (expc (64 + kk))) ∗ atPos ER (cell c (64 + kk)) 0 ∅ 0)
      ∗ bigSep (Finset.Ico 1 kk) (fun kk => pend c (64 + kk))) := bigSep_Ico_succ_top (M := 𝕄) h1 (fun kk => pend (F := F) c (64 + kk))
  unfold aSt at h ⊢
  rw [b3] at h
  rw [b1, b2]
  unfold owesAt at h ⊢
  iintro ⟨#HR, ⟨⟨%W, HO⟩, ⟨⟨⟨Ht1, Ht2, Hfree⟩, Hat⟩, Htoks⟩, ⟨Hsrc, Hsrcs⟩, Hp⟩, Hrest⟩
  ihave Hfd := hfree $$ Hfree
  icases Hfd with ⟨%fd, Hfd⟩
  iapply (Rounds.wp_send_pointsTo 𝒱₀ ER (sched X A) (c : Thread nD τ) none (c' := (e : Thread nD τ)) (κ₁ := K (c, ⟨64 + kk, by omega⟩)) (κ₂ := K (e, ⟨96 - kk, by omega⟩))
    (r₁ := 0) (r₂ := 0) (d₁ := true) (d₂ := true) (q := leafK kk) (fs := amaxes A c) (fd := fd)
    (by rw [g1, duties_dma X A c hu1]; exact Finset.mem_singleton_self _) (by rw [g2, duties_dma X A e hu2]; exact Finset.mem_singleton_self _)
    () () NA (sem := .dma sR) hN (by rw [g1, amount_dma X A c (by omega), ha1]) (by rw [g2, amount_dma X A e (by omega), ha2])
    (O₀ := owed c (33 + kk)) (owed c (33 + (kk + 1))) (W := W)
    (by rw [owed_peel c (show 33 + kk < 49 by omega), g2]; unfold pay payAmt
        rw [if_neg (show ¬33 + kk = 0 by omega), if_neg (show ¬33 + kk = 1 by omega), if_neg (show ¬33 + kk < 34 by omega), if_neg (show ¬33 + kk < 2 by omega), if_neg (show ¬33 + kk < 34 by omega), Nat.add_sub_cancel_left]
        rfl)
    (by rw [g1, payload_dma X A c (by omega)]; unfold dmaPay
        rw [if_neg (show ¬64 + kk < 32 by omega), if_neg (show ¬64 + kk < 64 by omega), if_pos (show 64 + kk < 80 by omega), Nat.add_sub_cancel_left, hsrcE])
    (by rw [g2, payload_dma X A e (by omega)]; unfold dmaPay
        rw [if_neg (show ¬96 - kk < 32 by omega), if_neg (show ¬96 - kk < 64 by omega), if_neg (show ¬96 - kk < 80 by omega), if_pos (show 96 - kk < 96 by omega), show 96 - kk - 80 = j by omega]
        exact hland fd)) $$ [HO Ht1 Ht2 Hsrc Hfd]
  · isplitr; · iapply i1; iexact HR
    isplitr; · iapply i2; iexact HR
    isplitl [Hsrc]; · iapply (Entails.of_eq hsrcE); iexact Hsrc
    isplitl [Hfd]; · iexact Hfd
    isplitl [HO]; · iexact HO
    isplitl [Ht1]; · iapply (Entails.of_eq t1); iexact Ht1
    isplitr; · iapply r1; iexact HR
    isplitl [Ht2]; · iapply (Entails.of_eq t2); iexact Ht2
    iapply r2; iexact HR
  iintro ⟨Hc, HO⟩
  iapply h
  isplitr; · iexact HR
  isplitr [Hrest]
  · isplitl [HO]; · iexists W; iexact HO
    isplitl [Htoks]; · iexact Htoks
    isplitl [Hsrcs]; · iexact Hsrcs
    isplitl [Hc Hat]
    · isplitl [Hc]; · iapply (Entails.of_eq c1); iexact Hc
      iexact Hat
    iexact Hp
  iexact Hrest

end Ops

end Cert.Mesh
end
-- ==== Proof.Join.lean ====
/-
# Buffers in pieces

The ring buffers, the copy of `x` and the slots of maxima, cut along the transfers and put together again.
-/
module

public import proofs.«01_k».proof.Proof.Gather

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → S256x4096.Idx → Elt F .bf16) (W : Dev nD → S4096x128.Idx → Elt F .bf16) (A : Dev nD → S1x8x128.Idx → Elt F .f32)

/-! ## Any buffer -/

section Pieces

variable {ℓ : Loc nD τ sig} (S : Finset ℕ) (P : ℕ → Finset (Idx ℓ)) (H : Finset (Idx ℓ))
  (hd : ∀ t ∈ S, ∀ t' ∈ S, t ≠ t' → Disjoint (P t) (P t')) (hH : Disjoint (S.biUnion P) H) (hc : S.biUnion P ∪ H = Finset.univ)
include hd hH hc

omit [FloatOps F] [Named F] in
theorem pieces_open : (iprop(∃ f : Buf (Elt F) ℓ, ℓ ↦[Finset.univ]{fullShare} f) : sProp 𝕄)
    ⊢ iprop((bigSep S fun n => iprop(∃ f : Buf (Elt F) ℓ, ℓ ↦[P n]{fullShare} f)) ∗ ∃ f : Buf (Elt F) ℓ, ℓ ↦[H]{fullShare} f) := by
  iintro ⟨%f, Hf⟩
  have e0 (n : ℕ) : iprop(ℓ ↦[P n]{fullShare} f) ⊢ (iprop(∃ f : Buf (Elt F) ℓ, ℓ ↦[P n]{fullShare} f) : sProp 𝕄) := by
    iintro H; iexists f; iexact H
  have e1 : (ℓ ↦[Finset.univ]{fullShare} f : sProp 𝕄) ⊢ iprop((ℓ ↦[S.biUnion P]{fullShare} f) ∗ ℓ ↦[H]{fullShare} f) := by
    rw [← hc]; exact (pointsTo_union hH).1
  have e2 : (ℓ ↦[S.biUnion P]{fullShare} f : sProp 𝕄) ⊢ bigSep S fun n => iprop(∃ f : Buf (Elt F) ℓ, ℓ ↦[P n]{fullShare} f) := by
    rw [pointsTo_biUnion S P hd]
    exact bigSep_mono fun n _ => e0 n
  ihave Hf' := e1 $$ Hf
  icases Hf' with ⟨Ha, Hb⟩
  isplitl [Ha]; · iapply e2; iexact Ha
  iexists f; iexact Hb

omit [FloatOps F] [Named F] in
theorem pieces_close : iprop((bigSep S fun n => iprop(∃ f : Buf (Elt F) ℓ, ℓ ↦[P n]{fullShare} f)) ∗ ∃ f : Buf (Elt F) ℓ, ℓ ↦[H]{fullShare} f)
    ⊢ (iprop(∃ f : Buf (Elt F) ℓ, ℓ ↦[Finset.univ]{fullShare} f) : sProp 𝕄) := by
  iintro ⟨Hs, ⟨%g, Hb⟩⟩
  haveI : Nonempty (Buf (Elt F) ℓ) := ⟨g⟩
  have e1 : (bigSep S fun n => iprop(∃ f : Buf (Elt F) ℓ, ℓ ↦[P n]{fullShare} f) : sProp 𝕄) ⊢ iprop(∃ fs : ℕ → Buf (Elt F) ℓ, bigSep S fun n => ℓ ↦[P n]{fullShare} fs n) :=
    BI.bigSep_exists_pi S _
  ihave Hs' := e1 $$ Hs
  icases Hs' with ⟨%fs, Hs⟩
  ihave Hs' := (pointsTo_biUnion_join S P fs g hd) $$ Hs
  icases Hs' with ⟨%f, -, Ha⟩
  iexists (H.piecewise g f)
  rw [← hc]
  iapply (pointsTo_join hH)
  isplitl [Ha] <;> iassumption

end Pieces

/-! ## The ring buffers -/

/-- Transfers of stream `d`. -/
abbrev nsOf (d : Bool) : Finset ℕ := (Finset.Ico 0 32).filter fun n => dir n = d
/-- The rows of slot 7 nothing is sent to. -/
abbrev home (d : Bool) : Finset S8x256x4096.Idx := slab 7 (bif d then 0 else 128) 128

theorem slabN_disjoint (d : Bool) : ∀ n ∈ nsOf d, ∀ m ∈ nsOf d, n ≠ m → Disjoint (slabN n) (slabN m) := by
  intro n hn m hm hne
  rw [Finset.mem_filter, Finset.mem_Ico] at hn hm
  have h2 : n % 2 = m % 2 := by
    have := hn.2.trans hm.2.symm
    unfold dir at this
    rcases Nat.mod_two_eq_zero_or_one n with h | h <;> rcases Nat.mod_two_eq_zero_or_one m with h' | h' <;> rw [h, h'] at this ⊢ <;> simp at this
  refine slab_disjoint ?_
  unfold hop row0 rows
  split_ifs <;> omega

theorem home_disjoint (d : Bool) : Disjoint ((nsOf d).biUnion slabN) (home d) := by
  rw [Finset.disjoint_biUnion_left]
  intro n hn
  rw [Finset.mem_filter, Finset.mem_Ico] at hn
  refine slab_disjoint ?_
  cases d
  · have h2 : n % 2 = 0 := by have := hn.2; unfold dir at this; simpa using this
    dsimp only [cond]; unfold hop row0 rows; split_ifs <;> omega
  · have h2 : n % 2 = 1 := by have := hn.2; unfold dir at this; simpa using this
    dsimp only [cond]; unfold hop row0 rows; split_ifs <;> omega

theorem ring_cover (d : Bool) : (nsOf d).biUnion slabN ∪ home d = Finset.univ := by
  ext i
  simp only [Finset.mem_union, Finset.mem_biUnion, Finset.mem_univ, iff_true]
  have h0 := (i 0).isLt; have h1 := (i 1).isLt
  change (i 0).val < 8 at h0; change (i 1).val < 256 at h1
  have key (n : ℕ) (hn : n < 32) (hd : dir n = d) (h : (i 0).val = hop n ∧ row0 n ≤ (i 1).val ∧ (i 1).val < row0 n + rows n) :
      (∃ a ∈ nsOf d, i ∈ slabN a) ∨ i ∈ home d :=
    Or.inl ⟨n, Finset.mem_filter.mpr ⟨Finset.mem_Ico.mpr ⟨Nat.zero_le _, hn⟩, hd⟩, mem_slab.mpr h⟩
  cases d
  · by_cases h7 : (i 0).val < 7
    · refine key (4 * (i 0).val + 2 * ((i 1).val / 128)) (by omega) (dir_false (by omega)) ?_
      unfold hop row0 rows; rw [if_pos (by omega), if_pos (by omega)]; omega
    · by_cases h128 : (i 1).val < 128
      · refine key (28 + 2 * ((i 1).val / 64)) (by omega) (dir_false (by omega)) ?_
        unfold hop row0 rows; rw [if_neg (by omega), if_pos (by omega), if_neg (by omega)]; omega
      · exact Or.inr (mem_slab.mpr ⟨by omega, by dsimp only [cond]; omega⟩)
  · by_cases h7 : (i 0).val < 7
    · refine key (4 * (i 0).val + 1 + 2 * (1 - (i 1).val / 128)) (by omega) (dir_true (by omega)) ?_
      unfold hop row0 rows; rw [if_pos (by omega), if_pos (by omega)]; omega
    · by_cases h128 : (i 1).val < 128
      · exact Or.inr (mem_slab.mpr ⟨by omega, by dsimp only [cond]; omega⟩)
      · refine key (29 + 2 * (1 - ((i 1).val - 128) / 64)) (by omega) (dir_true (by omega)) ?_
        unfold hop row0 rows; rw [if_neg (by omega), if_neg (by omega), if_neg (by omega)]; omega

/-- Rows `S` of the ring buffer of stream `d`, at any contents. -/
def ringFree (d : Bool) (c : Dev nD) (S : Finset S8x256x4096.Idx) : sProp 𝕄 := iprop(∃ f, ringPts d c fullShare S f)

omit [FloatOps F] [Named F] in
theorem landFree_of (d : Bool) (c : Dev nD) : bigSep (nsOf d) (landFree (F := F) c) = bigSep (nsOf d) (fun n => ringFree (F := F) d c (slabN n)) :=
  bigSep_congr fun n hn => by unfold landFree ringFree; rw [(Finset.mem_filter.mp hn).2]

omit [FloatOps F] [Named F] in
theorem ring_open (d : Bool) (c : Dev nD) : (ringFree d c Finset.univ : sProp 𝕄) ⊢ iprop(bigSep (nsOf d) (landFree (F := F) c) ∗ ringFree d c (home d)) := by
  rw [landFree_of]
  cases d
  · exact pieces_open (ℓ := (c : Thread nD τ).loc cc0_scratch2) (nsOf false) slabN (home false) (slabN_disjoint _) (home_disjoint _) (ring_cover _)
  · exact pieces_open (ℓ := (c : Thread nD τ).loc cc0_scratch3) (nsOf true) slabN (home true) (slabN_disjoint _) (home_disjoint _) (ring_cover _)
omit [FloatOps F] [Named F] in
theorem ring_close (d : Bool) (c : Dev nD) : iprop(bigSep (nsOf d) (landFree (F := F) c) ∗ ringFree d c (home d)) ⊢ (ringFree d c Finset.univ : sProp 𝕄) := by
  rw [landFree_of]
  cases d
  · exact pieces_close (ℓ := (c : Thread nD τ).loc cc0_scratch2) (nsOf false) slabN (home false) (slabN_disjoint _) (home_disjoint _) (ring_cover _)
  · exact pieces_close (ℓ := (c : Thread nD τ).loc cc0_scratch3) (nsOf true) slabN (home true) (slabN_disjoint _) (home_disjoint _) (ring_cover _)

omit [FloatOps F] [Named F] in
theorem split_dirs (Φ : ℕ → sProp 𝕄) : bigSep (Finset.Ico 0 32) Φ = iprop(bigSep (nsOf true) Φ ∗ bigSep (nsOf false) Φ) := by
  rw [bigSep_filter_split (Finset.Ico 0 32) (fun n => dir n = true)]
  have : (Finset.Ico 0 32).filter (fun n => ¬dir n = true) = nsOf false := Finset.filter_congr fun n _ => by rw [Bool.not_eq_true]
  rw [this]; rfl

/-! ## The copy of `x` -/

theorem xrows_cover : xrows 0 128 ∪ xrows 128 128 = Finset.univ := by
  ext i; have h0 := (i 0).isLt; change (i 0).val < 256 at h0
  rw [Finset.mem_union, mem_xrows, mem_xrows]; simp only [Finset.mem_univ, iff_true]; omega
theorem xrows_disjoint : Disjoint (xrows 0 128) (xrows 128 128) := by
  rw [Finset.disjoint_left]; intro i hi hi'; rw [mem_xrows] at hi hi'; omega

theorem x_open (c : Dev nD) : (xPts c fullShare Finset.univ (X c) : sProp 𝕄)
    = iprop(xPts c fullShare.left Finset.univ (X c) ∗ (Mesh.src X c 0 ∗ Mesh.src X c 2) ∗ (Mesh.src X c 3 ∗ Mesh.src X c 1)) := by
  have hu (q : PosShare TreeShare) : (xPts c q Finset.univ (X c) : sProp 𝕄) = iprop(xPts c q (xrows 0 128) (X c) ∗ xPts c q (xrows 128 128) (X c)) := by
    unfold xPts; rw [← xrows_cover]; exact eqv (pointsTo_union xrows_disjoint)
  have h0 : (Mesh.src X c 0 : sProp 𝕄) = xPts c fullShare.right.left (xrows 0 128) (X c) := rfl
  have h1 : (Mesh.src X c 1 : sProp 𝕄) = xPts c fullShare.right.right (xrows 128 128) (X c) := rfl
  have h2 : (Mesh.src X c 2 : sProp 𝕄) = xPts c fullShare.right.left (xrows 128 128) (X c) := rfl
  have h3 : (Mesh.src X c 3 : sProp 𝕄) = xPts c fullShare.right.right (xrows 0 128) (X c) := rfl
  have hs (q : PosShare TreeShare) : (xPts c q Finset.univ (X c) : sProp 𝕄) = iprop(xPts c q.left Finset.univ (X c) ∗ xPts c q.right Finset.univ (X c)) :=
    eqv (pointsTo_share (PosShare.mem_left_op_right q))
  rw [hs fullShare, hs fullShare.right, hu fullShare.right.left, hu fullShare.right.right, h0, h1, h2, h3]

/-! ## The slots of maxima -/

theorem aslab_disjoint {j k : ℕ} (h : j ≠ k) : Disjoint (aslab j) (aslab k) := by
  rw [Finset.disjoint_left]; intro i hi hi'; rw [mem_aslab] at hi hi'; omega
theorem aslab_cover : (Finset.Ico 0 16).biUnion aslab = Finset.univ := by
  ext i; have h0 := (i 0).isLt; change (i 0).val < 16 at h0
  simp only [Finset.mem_biUnion, Finset.mem_univ, iff_true]
  exact ⟨(i 0).val, Finset.mem_Ico.mpr ⟨Nat.zero_le _, h0⟩, mem_aslab.mpr rfl⟩
theorem aslab_cover' : (Finset.Ico 1 16).biUnion aslab ∪ aslab 0 = Finset.univ := by
  rw [← aslab_cover, show Finset.Ico 0 16 = insert 0 (Finset.Ico 1 16) by decide, Finset.biUnion_insert, Finset.union_comm]
theorem aslab_disjoint' : Disjoint ((Finset.Ico 1 16).biUnion aslab) (aslab 0) := by
  rw [Finset.disjoint_biUnion_left]; intro j hj; exact aslab_disjoint (by rw [Finset.mem_Ico] at hj; omega)

/-- Slot `j` at any contents. -/
def slotAny (c : Dev nD) (j : ℕ) : sProp 𝕄 := iprop(∃ f, aPts c fullShare (aslab j) f)

omit [FloatOps F] [Named F] in
theorem a_open (c : Dev nD) : (iprop(∃ f, aPts c fullShare Finset.univ f) : sProp 𝕄) ⊢ iprop(bigSep (Finset.Ico 1 16) (slotAny (F := F) c) ∗ slotAny c 0) :=
  pieces_open (ℓ := (c : Thread nD τ).loc cc0_scratch4) (Finset.Ico 1 16) aslab (aslab 0) (fun _ _ _ _ h => aslab_disjoint h) aslab_disjoint' aslab_cover'

theorem after_inj : ∀ c : Dev nD, Set.InjOn (fun j : ℕ => (c + Fin.ofNat 16 j : Dev nD)) (Finset.Ico 1 16) := by
  intro c i hi j hj h
  have h' : ∀ (c : Dev nD) (i j : Fin 16), (c + Fin.ofNat 16 i.val : Dev nD) = c + Fin.ofNat 16 j.val → i = j := by decide +kernel
  rw [Finset.coe_Ico, Set.mem_Ico] at hi hj
  exact congrArg Fin.val (h' c ⟨i, hi.2⟩ ⟨j, hj.2⟩ h)
theorem step_inj (d : Bool) : ∀ c : Dev nD, Set.InjOn (fun t : ℕ => (step d)^[t] c) (Finset.Ico 1 (reach d)) := by
  intro c i hi j hj h
  have h' : ∀ (d : Bool) (c : Dev nD) (i j : Fin 16), (step d)^[i.val] c = (step d)^[j.val] c → i = j := by decide +kernel
  rw [Finset.coe_Ico, Set.mem_Ico] at hi hj
  have hr : reach d ≤ 16 := by cases d <;> decide
  exact congrArg Fin.val (h' d c ⟨i, by omega⟩ ⟨j, by omega⟩ h)
theorem after_steps : ∀ c : Dev nD, (Finset.Ico 1 16).image (fun j : ℕ => (c + Fin.ofNat 16 j : Dev nD))
    = (Finset.Ico 1 9).image (fun t : ℕ => (step false)^[t] c) ∪ (Finset.Ico 1 8).image (fun t : ℕ => (step true)^[t] c) := by decide +kernel
theorem steps_disjoint : ∀ c : Dev nD, Disjoint ((Finset.Ico 1 9).image (fun t : ℕ => (step false)^[t] c)) ((Finset.Ico 1 8).image (fun t : ℕ => (step true)^[t] c)) := by decide +kernel
theorem after_dist : ∀ (c : Dev nD) (j : Fin 16), ((c + Fin.ofNat 16 j.val : Dev nD) - c : Dev nD).val = j.val := by decide +kernel

omit [FloatOps F] [Named F] in
/-- A device's own slots set out to the devices that are to fill them. -/
theorem slots_out (c : Dev nD) : bigSep (Finset.Ico 1 16) (slotAny (F := F) c) ⊢ iprop(carried (right c) 0 ∗ carried (left c) 1) := by
  have h0 : (carried (right c) 0 : sProp 𝕄) = bigSep ((Finset.Ico 1 9).image (fun t : ℕ => (step false)^[t] c)) (slotFree (F := F) c) := by
    refine Eq.trans ?_ (bigSep_image_of_injOn (step_inj false c) (slotFree (F := F) c)).symm
    show bigSep (Finset.Ico 1 9) (fun t => slotFree (orig false 0 (step false c)) ((step false)^[t] (orig false 0 (step false c)))) = _
    rw [orig_zero_step]; rfl
  have h1 : (carried (left c) 1 : sProp 𝕄) = bigSep ((Finset.Ico 1 8).image (fun t : ℕ => (step true)^[t] c)) (slotFree (F := F) c) := by
    refine Eq.trans ?_ (bigSep_image_of_injOn (step_inj true c) (slotFree (F := F) c)).symm
    show bigSep (Finset.Ico 1 8) (fun t => slotFree (orig true 0 (step true c)) ((step true)^[t] (orig true 0 (step true c)))) = _
    rw [orig_zero_step]; rfl
  have h2 : bigSep (Finset.Ico 1 16) (slotAny (F := F) c) = bigSep ((Finset.Ico 1 16).image (fun j : ℕ => (c + Fin.ofNat 16 j : Dev nD))) (slotFree (F := F) c) := by
    rw [bigSep_image_of_injOn (after_inj c)]
    refine bigSep_congr fun j hj => ?_
    unfold slotAny slotFree
    rw [after_dist c ⟨j, (Finset.mem_Ico.mp hj).2⟩]
  rw [h0, h1, h2, after_steps]
  exact Entails.of_eq (bigSep_union (steps_disjoint c))

abbrev hasSlot (n : ℕ) : Prop := n / 2 % 2 = 0 ∧ hop n + 1 < reach (dir n)
theorem orig_after : ∀ c : Dev nD, ((Finset.Ico 0 32).filter hasSlot).image (fun n : ℕ => orig (dir n) (hop n) c) = (Finset.Ico 1 16).image (fun j : ℕ => (c + Fin.ofNat 16 j : Dev nD)) := by
  decide +kernel
theorem orig_inj : ∀ c : Dev nD, Set.InjOn (fun n : ℕ => orig (dir n) (hop n) c) ((Finset.Ico 0 32).filter hasSlot : Finset ℕ) := by
  intro c i hi j hj h
  have h' : ∀ (c : Dev nD) (i j : Fin 32), hasSlot i.val → hasSlot j.val → orig (dir i.val) (hop i.val) c = orig (dir j.val) (hop j.val) c → i = j := by decide +kernel
  rw [Finset.mem_coe, Finset.mem_filter, Finset.mem_Ico] at hi hj
  exact congrArg Fin.val (h' c ⟨i, hi.1.2⟩ ⟨j, hj.1.2⟩ hi.2 hj.2 h)

omit [FloatOps F] [Named F] in
/-- The slots a device has found are those it is to fill. -/
theorem slots_in (c : Dev nD) : bigSep (Finset.Ico 0 32) (ownSlot (F := F) c) = bigSep (Finset.Ico 1 16) (fun kk => slotFree (F := F) (c + Fin.ofNat 16 kk) c) := by
  have h1 : bigSep (Finset.Ico 0 32) (ownSlot (F := F) c) = bigSep ((Finset.Ico 0 32).filter hasSlot) (fun n => slotFree (F := F) (orig (dir n) (hop n) c) c) :=
    (bigSep_filter (M := 𝕄) (Finset.Ico 0 32) hasSlot (fun n => slotFree (F := F) (orig (dir n) (hop n) c) c)).symm
  rw [h1, ← bigSep_image_of_injOn (orig_inj c) (fun e => slotFree (F := F) e c), orig_after c, bigSep_image_of_injOn (after_inj c) (fun e => slotFree (F := F) e c)]

/-- A slot in sixteen shares. -/
theorem slot_leaves (c : Dev nD) (j : ℕ) : slot A c fullShare j = bigSep (Finset.Ico 0 16) (fun k => slot A c (leafK k) j) := by
  have h1 : slot A c fullShare j = bigSep Finset.univ (fun i : Fin 16 => slot A c (leafK i.val) j) := by
    refine (ShareLeaves.pointsTo_leaves (ℓ := (c : Thread nD τ).loc cc0_scratch4) (aslab j) (amaxes A c) 4 fullShare).trans (bigSep_congr fun i _ => ?_)
    have hi : (⟨i.val % 16, Nat.mod_lt _ (by decide)⟩ : Fin 16) = i := Fin.ext (Nat.mod_eq_of_lt i.isLt)
    unfold slot aPts leafK; rw [hi]
  rw [h1, show Finset.Ico 0 16 = Finset.univ.image (Fin.val : Fin 16 → ℕ) by decide]
  exact (bigSep_image_of_injOn (M := 𝕄) (f := (Fin.val : Fin 16 → ℕ)) (fun _ _ _ _ h => Fin.ext h) (fun k => slot A c (leafK k) j)).symm

omit [FloatOps F] [Named F] in
theorem ico0 (Φ : ℕ → sProp 𝕄) : bigSep (Finset.Ico 0 16) Φ = iprop(Φ 0 ∗ bigSep (Finset.Ico 1 16) Φ) := bigSep_Ico_succ_bot (by decide) Φ

theorem a_whole (c : Dev nD) (q : PosShare TreeShare) : iprop(slot A c q 0 ∗ bigSep (Finset.Ico 1 16) (slot A c q)) = aPts c q Finset.univ (amaxes A c) := by
  rw [← ico0 (slot A c q), ← aslab_cover]
  exact (pointsTo_biUnion (ℓ := (c : Thread nD τ).loc cc0_scratch4) (Finset.Ico 0 16) aslab fun _ _ _ _ h => aslab_disjoint h).symm

/-- One share of every slot, while the rest of slot 0 is still lent. -/
theorem a_read (c : Dev nD) : iprop(slot A c (leafK 0) 0 ∗ bigSep (Finset.Ico 1 16) (slot A c fullShare))
    = iprop(aPts c (leafK 0) Finset.univ (amaxes A c) ∗ bigSep (Finset.Ico 1 16) (fun j => bigSep (Finset.Ico 1 16) (fun k => slot A c (leafK k) j))) := by
  have h1 : bigSep (Finset.Ico 1 16) (slot A c fullShare) = iprop(bigSep (Finset.Ico 1 16) (slot A c (leafK 0)) ∗ bigSep (Finset.Ico 1 16) (fun j => bigSep (Finset.Ico 1 16) (fun k => slot A c (leafK k) j))) := by
    refine Eq.trans (bigSep_congr fun j _ => (slot_leaves A c j).trans (ico0 _)) ?_
    exact bigSep_sep _ _ _
  rw [h1, ← a_whole]
  exact (eqv ⟨sep_assoc', sep_assoc⟩)

theorem a_final (c : Dev nD) : iprop(slot A c (leafK 0) 0 ∗ bigSep (Finset.Ico 1 16) (fun kk => slot A c (leafK kk) 0) ∗ bigSep (Finset.Ico 1 16) (slot A c fullShare))
    ⊢ (iprop(∃ f, aPts c fullShare Finset.univ f) : sProp 𝕄) := by
  have h1 : iprop(slot A c (leafK 0) 0 ∗ bigSep (Finset.Ico 1 16) (fun kk => slot A c (leafK kk) 0)) = slot A c fullShare 0 := by
    rw [slot_leaves A c 0, ico0]
  have h2 := a_whole A c fullShare
  iintro ⟨H1, H2, H3⟩
  iexists (amaxes A c)
  iapply (Entails.of_eq h2)
  isplitr [H3]
  · iapply (Entails.of_eq h1); isplitl [H1] <;> iassumption
  iexact H3

end Cert.Mesh
end
-- ==== Proof.Phase.lean ====
/-
# From phase to phase

What a device holds when it begins, and how it is regrouped between the barrier, the ring, the exchange of the maxima
and the end.
-/
module

public import proofs.«01_k».proof.Proof.Join

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → S256x4096.Idx → Elt F .bf16) (W : Dev nD → S4096x128.Idx → Elt F .bf16) (A : Dev nD → S1x8x128.Idx → Elt F .f32)
variable {K : Dev nD × Fin 97 → ℕ}

/-! ## The ghost state at the start -/

/-- The tokens of ring transfer `n`, without the landing rows. -/
def tok0 (c : Dev nD) (n : ℕ) : sProp 𝕄 :=
  iprop((dutyTok ER (cell c n) 0 true ∗ dutyTok ER (cell (nbr n c) (32 + n)) 0 true) ∗ atPos ER (cell c n) 0 ∅ 0)
/-- The tokens of the transfer of the maxima to the device `kk` after, without the slot. -/
def aTok0 (c : Dev nD) (kk : ℕ) : sProp 𝕄 :=
  iprop((dutyTok ER (cell c (64 + kk)) 0 true ∗ dutyTok ER (cell (c + Fin.ofNat 16 kk) (96 - kk)) 0 true) ∗ atPos ER (cell c (64 + kk)) 0 ∅ 0)

def ghostPre (c : Dev nD) : sProp 𝕄 :=
  iprop((barTok (F := F) c ∗ barPend (F := F) c) ∗ (bigSep (Finset.Ico 0 32) (tok0 c) ∗ bigSep (Finset.Ico 0 32) (fun n => pend (F := F) c (32 + n)))
    ∗ (bigSep (Finset.Ico 1 16) (aTok0 c) ∗ bigSep (Finset.Ico 1 16) (fun n => pend (F := F) c (80 + n)))
    ∗ atPos ER (cell c 64) 0 ∅ 0 ∗ atPos ER (cell c 80) 0 ∅ 0)

omit [FloatOps F] [Named F] in
theorem bs_mono {S : Finset ℕ} {Φ Ψ : ℕ → sProp 𝕄} (h : ∀ n ∈ S, Φ n ⊢ Ψ n) : bigSep S Φ ⊢ bigSep S Ψ := bigSep_mono h

omit [FloatOps F] [Named F] in
theorem bs_emp (Φ : ℕ → sProp 𝕄) (n : ℕ) : bigSep (Finset.Ico n n) Φ = iprop(emp) := by rw [Finset.Ico_self]; exact bigSep_empty

/-! ## Ring -/

omit [FloatOps F] [Named F] in
theorem lands_of_barrier (c : Dev nD) : iprop(barPay (F := F) true c ∗ barPay (F := F) false c) = bigSep (Finset.Ico 0 32) (fun n => landFree (F := F) (nbr n c) n) := by
  rw [split_dirs]
  have h (d : Bool) : barPay (F := F) d c = bigSep (nsOf d) (fun n => landFree (F := F) (nbr n c) n) :=
    bigSep_congr fun n hn => by unfold nbr; rw [(Finset.mem_filter.mp hn).2]
  rw [h, h]

/-- Behind the barrier the ring can begin. -/
theorem ring_begin (c : Dev nD) :
    iprop(owesAt c 2 ∗ (barPay true c ∗ barPay false c) ∗ (bigSep (Finset.Ico 0 32) (tok0 c) ∗ bigSep (Finset.Ico 0 32) (fun n => pend c (32 + n)))
      ∗ ((Mesh.src X c 0 ∗ Mesh.src X c 2) ∗ (Mesh.src X c 3 ∗ Mesh.src X c 1)) ∗ (carried (right c) 0 ∗ carried (left c) 1)) ⊢ ringSt X c 0 0 := by
  have e1 : iprop(bigSep (Finset.Ico 0 32) (fun n => landFree (F := F) (nbr n c) n) ∗ bigSep (Finset.Ico 0 32) (tok0 (F := F) c)) ⊢ bigSep (Finset.Ico 0 32) (tok (F := F) c) := by
    rw [← bigSep_sep']
    refine bs_mono fun n _ => ?_
    unfold tok0 tok ringTok
    iintro ⟨H1, ⟨H2, H3⟩, H4⟩
    isplitr [H4]
    · isplitl [H2]; · iexact H2
      isplitl [H3] <;> iassumption
    iexact H4
  have e2 : bigSep (Finset.Ico 0 (min 32 (0 + 4))) (hand X c) = iprop((Mesh.src X c 0 ∗ carried (right c) 0) ∗ (Mesh.src X c 1 ∗ carried (left c) 1) ∗ (Mesh.src X c 2 ∗ emp) ∗ (Mesh.src X c 3 ∗ emp)) := by
    rw [bigSep_eq_bigSepL_of_eq [0, 1, 2, 3] (by decide) (by decide), bigSepL_cons_cons, bigSepL_cons_cons, bigSepL_cons_cons, bigSepL_singleton]
    rfl
  have e4 : spare X c 0 = iprop(emp) := rfl
  rw [lands_of_barrier]
  unfold ringSt
  rw [e2, e4, bs_emp, bs_emp, bs_emp]
  iintro ⟨HO, Hl, ⟨Ht, Hp⟩, ⟨⟨S0, S2⟩, S3, S1⟩, C0, C1⟩
  isplitl [HO]; · iexact HO
  isplitl [Hl Ht]
  · iapply e1; isplitl [Hl] <;> iassumption
  isplitl [Hp]; · iexact Hp
  isplitr; · iempintro
  isplitr; · iempintro
  isplitr; · iempintro
  isplitl [S0 C0 S1 C1 S2 S3]
  · isplitl [S0 C0]; · isplitl [S0] <;> iassumption
    isplitl [S1 C1]; · isplitl [S1] <;> iassumption
    isplitl [S2]; · isplitl [S2]; · iexact S2
                    iempintro
    isplitl [S3]; · iexact S3
    iempintro
  iempintro

/-- All transfers started and arrived: the sends are to be waited for. -/
theorem ring_sent (c : Dev nD) : ringSt X c 32 32 ⊢ iprop(waitSt X A 0 0 32 34 c 0 ∗ bigSep (Finset.Ico 0 32) (keep X c) ∗ bigSep (Finset.Ico 0 32) (done X c)) := by
  have e1 : bigSep (Finset.Ico 0 32) (fun j => pend (F := F) c (0 + j)) = bigSep (Finset.Ico 0 32) (pend (F := F) c) := bigSep_congr fun n _ => by rw [Nat.zero_add]
  unfold ringSt waitSt
  rw [e1, bs_emp]
  iintro ⟨HO, -, -, Hk, Hd, Hp, -, -⟩
  isplitr [Hk Hd]
  · isplitl [HO]; · iexact HO
    isplitl [Hp]; · iexact Hp
    iempintro
  isplitl [Hk] <;> iassumption

/-- A counter closed at nought. -/
abbrev zero (c : Dev nD) (i : ℕ) : sProp 𝕄 := semVal (cell c i) 0

theorem sends_back (c : Dev nD) : waitSt X A 0 0 32 34 c 32 ⊢ iprop(owesAt c 34 ∗ bigSep (Finset.Ico 0 32) (zero (F := F) c) ∗ bigSep (Finset.Ico 0 32) (Mesh.src X c)) := by
  unfold waitSt
  rw [← bigSep_sep']
  have e : bigSep (Finset.Ico 0 32) (fun j => got X A c (0 + j)) = bigSep (Finset.Ico 0 32) (fun j => iprop(zero (F := F) c j ∗ Mesh.src X c j)) := by
    refine bigSep_congr fun n hn => ?_
    rw [Nat.zero_add]; unfold got dmaPay; rw [if_pos (Finset.mem_Ico.mp hn).2]
  rw [e]
  iintro ⟨HO, -, Hg⟩
  isplitl [HO] <;> iassumption

theorem done_split (c : Dev nD) : bigSep (Finset.Ico 0 32) (done X c)
    = iprop(bigSep (Finset.Ico 0 32) (fun n => zero (F := F) c (32 + n)) ∗ bigSep (Finset.Ico 1 16) (fun kk => slotFree (F := F) (c + Fin.ofNat 16 kk) c) ∗ bigSep (Finset.Ico 0 32) (Mesh.rest X c)) := by
  rw [← slots_in, ← bigSep_sep', ← bigSep_sep']
  rfl

/-! ## The maxima -/

/-- The exchange of the maxima can begin. -/
theorem a_begin (c : Dev nD) :
    iprop(owesAt c 34 ∗ bigSep (Finset.Ico 1 16) (aTok0 c) ∗ bigSep (Finset.Ico 1 16) (fun kk => slotFree (F := F) (c + Fin.ofNat 16 kk) c)
      ∗ bigSep (Finset.Ico 0 16) (fun kk => slot A c (leafK kk) 0)) ⊢ iprop(aSt A c 1 ∗ slot A c (leafK 0) 0) := by
  have e1 : iprop(bigSep (Finset.Ico 1 16) (aTok0 (F := F) c) ∗ bigSep (Finset.Ico 1 16) (fun kk => slotFree (F := F) (c + Fin.ofNat 16 kk) c)) ⊢ bigSep (Finset.Ico 1 16) (aTok (F := F) c) := by
    rw [← bigSep_sep']
    refine bs_mono fun n _ => ?_
    unfold aTok0 aTok
    iintro ⟨⟨⟨H1, H2⟩, H3⟩, H4⟩
    isplitr [H3]
    · isplitl [H1]; · iexact H1
      isplitl [H2] <;> iassumption
    iexact H3
  unfold aSt
  rw [ico0 (fun kk => slot A c (leafK kk) 0), bs_emp]
  iintro ⟨HO, H1, H2, H0, H3⟩
  isplitr [H0]
  · isplitl [HO]; · iexact HO
    isplitl [H1 H2]; · iapply e1; isplitl [H1] <;> iassumption
    isplitl [H3]; · iexact H3
    iempintro
  iexact H0

/-- All maxima sent: those of the others are to be waited for. -/
theorem a_sent (c : Dev nD) : iprop(aSt A c 16 ∗ bigSep (Finset.Ico 1 16) (fun n => pend c (80 + n)))
    ⊢ iprop(waitSt X A 80 1 16 49 c 1 ∗ bigSep (Finset.Ico 1 16) (fun kk => pend c (64 + kk))) := by
  unfold aSt waitSt
  rw [bs_emp _ 16, bs_emp _ 16, bs_emp _ 1]
  iintro ⟨⟨HO, -, -, Hp⟩, Hq⟩
  isplitr [Hp]
  · isplitl [HO]; · iexact HO
    isplitl [Hq]; · iexact Hq
    iempintro
  iexact Hp

/-- All maxima there: the sends are to be waited for. -/
theorem a_here (c : Dev nD) : iprop(waitSt X A 80 1 16 49 c 16 ∗ bigSep (Finset.Ico 1 16) (fun kk => pend c (64 + kk)))
    ⊢ iprop(waitSt X A 64 1 16 49 c 1 ∗ bigSep (Finset.Ico 1 16) (fun j => zero (F := F) c (80 + j)) ∗ bigSep (Finset.Ico 1 16) (slot A c fullShare)) := by
  unfold waitSt
  rw [← bigSep_sep', bs_emp _ 16, bs_emp _ 1]
  have e : bigSep (Finset.Ico 1 16) (fun j => got X A c (80 + j)) = bigSep (Finset.Ico 1 16) (fun j => iprop(zero (F := F) c (80 + j) ∗ slot A c fullShare j)) := by
    refine bigSep_congr fun n hn => ?_
    have := Finset.mem_Ico.mp hn
    unfold got dmaPay
    rw [if_neg (show ¬80 + n < 32 by omega), if_neg (show ¬80 + n < 64 by omega), if_neg (show ¬80 + n < 80 by omega), if_pos (show 80 + n < 96 by omega), Nat.add_sub_cancel_left]
  rw [e]
  iintro ⟨⟨HO, -, Hg⟩, Hp⟩
  isplitr [Hg]
  · isplitl [HO]; · iexact HO
    isplitl [Hp]; · iexact Hp
    iempintro
  iexact Hg

theorem a_back (c : Dev nD) : waitSt X A 64 1 16 49 c 16 ⊢ iprop(owesAt c 49 ∗ bigSep (Finset.Ico 1 16) (fun j => zero (F := F) c (64 + j)) ∗ bigSep (Finset.Ico 1 16) (fun kk => slot A c (leafK kk) 0)) := by
  unfold waitSt
  rw [← bigSep_sep']
  have e : bigSep (Finset.Ico 1 16) (fun j => got X A c (64 + j)) = bigSep (Finset.Ico 1 16) (fun j => iprop(zero (F := F) c (64 + j) ∗ slot A c (leafK j) 0)) := by
    refine bigSep_congr fun n hn => ?_
    have := Finset.mem_Ico.mp hn
    unfold got dmaPay
    rw [if_neg (show ¬64 + n < 32 by omega), if_neg (show ¬64 + n < 64 by omega), if_pos (show 64 + n < 80 by omega), Nat.add_sub_cancel_left]
  rw [e]
  iintro ⟨HO, -, Hg⟩
  isplitl [HO] <;> iassumption

/-! ## The end -/

theorem gives_back (c : Dev nD) : iprop(bigSep (Finset.Ico 0 32) (Mesh.src X c) ∗ bigSep (Finset.Ico 0 32) (Mesh.rest X c))
    ⊢ iprop(((Mesh.src X c 0 ∗ Mesh.src X c 2) ∗ (Mesh.src X c 3 ∗ Mesh.src X c 1)) ∗ bigSep (Finset.Ico 0 32) (give X c)) := by
  have u1 : bigSep (Finset.Ico 0 32) (Mesh.src X c) = iprop(bigSep (Finset.Ico 0 4) (Mesh.src X c) ∗ bigSep (Finset.Ico 4 28) (Mesh.src X c) ∗ bigSep (Finset.Ico 28 32) (Mesh.src X c)) := by
    rw [show Finset.Ico 0 32 = Finset.Ico 0 4 ∪ (Finset.Ico 4 28 ∪ Finset.Ico 28 32) by decide]
    exact (bigSep_union (by decide)).trans (congrArg _ (bigSep_union (by decide)))
  have u2 : bigSep (Finset.Ico 4 28) (Mesh.src X c) = bigSep (Finset.Ico 0 24) (give X c) := by
    rw [show Finset.Ico 4 28 = (Finset.Ico 0 24).image (· + 4) by decide]
    refine (bigSep_image_of_injOn (fun _ _ _ _ h => Nat.add_right_cancel h) _).trans (bigSep_congr fun n hn => ?_)
    exact (give_src X c (Finset.mem_Ico.mp hn).2).symm
  have u3 : bigSep (Finset.Ico 0 32) (give X c) = iprop(bigSep (Finset.Ico 0 24) (give X c) ∗ bigSep (Finset.Ico 24 26) (give X c) ∗ bigSep (Finset.Ico 26 32) (give X c)) := by
    rw [show Finset.Ico 0 32 = Finset.Ico 0 24 ∪ (Finset.Ico 24 26 ∪ Finset.Ico 26 32) by decide]
    exact (bigSep_union (by decide)).trans (congrArg _ (bigSep_union (by decide)))
  have u4 : bigSep (Finset.Ico 0 32) (Mesh.rest X c) ⊢ bigSep (Finset.Ico 26 32) (give X c) := by
    refine BI.Entails.trans (bigSep_subset (by decide : Finset.Ico 26 32 ⊆ Finset.Ico 0 32)) (bs_mono fun n hn => ?_)
    unfold Mesh.rest; rw [if_neg (by have := Finset.mem_Ico.mp hn; omega)]
  have u5 : bigSep (Finset.Ico 28 32) (Mesh.src X c) = iprop(Mesh.src X c 28 ∗ Mesh.src X c 29 ∗ Mesh.src X c 30 ∗ Mesh.src X c 31) := by
    rw [bigSep_eq_bigSepL_of_eq [28, 29, 30, 31] (by decide) (by decide), bigSepL_cons_cons, bigSepL_cons_cons, bigSepL_cons_cons, bigSepL_singleton]; rfl
  have u6 : bigSep (Finset.Ico 0 4) (Mesh.src X c) = iprop(Mesh.src X c 0 ∗ Mesh.src X c 1 ∗ Mesh.src X c 2 ∗ Mesh.src X c 3) := by
    rw [bigSep_eq_bigSepL_of_eq [0, 1, 2, 3] (by decide) (by decide), bigSepL_cons_cons, bigSepL_cons_cons, bigSepL_cons_cons, bigSepL_singleton]; rfl
  have u7 : bigSep (Finset.Ico 24 26) (give X c) = iprop(give X c 24 ∗ give X c 25) := by
    rw [bigSep_eq_bigSepL_of_eq [24, 25] (by decide) (by decide), bigSepL_cons_cons, bigSepL_singleton]; rfl
  have g24 : iprop(Mesh.src X c 28 ∗ Mesh.src X c 30) ⊢ give X c 24 := by
    have h := (ringPts_union (F := F) false c fullShare.right (S := slab 6 0 64) (T := slab 6 64 64) (slab_disjoint (by omega)) (conts X false c)).2
    rw [← slab_union 6 0 64 64] at h
    exact h
  have g25 : iprop(Mesh.src X c 31 ∗ Mesh.src X c 29) ⊢ give X c 25 := by
    have h := (ringPts_union (F := F) true c fullShare.right (S := slab 6 128 64) (T := slab 6 192 64) (slab_disjoint (by omega)) (conts X true c)).2
    rw [← slab_union 6 128 64 64] at h
    exact h
  rw [u1, u2, u3, u5, u6, u7]
  iintro ⟨⟨⟨S0, S1, S2, S3⟩, HG, S28, S29, S30, S31⟩, HR⟩
  isplitl [S0 S1 S2 S3]
  · isplitl [S0 S2]
    · isplitl [S0] <;> iassumption
    isplitl [S3] <;> iassumption
  isplitl [HG]; · iexact HG
  isplitr [HR]
  · isplitl [S28 S30]
    · iapply g24; isplitl [S28] <;> iassumption
    iapply g25; isplitl [S31] <;> iassumption
  iapply u4; iexact HR

/-- The buffers of the ring and the copy of `x`, whole again. -/
theorem ring_end (c : Dev nD) :
    iprop(bigSep (Finset.Ico 0 32) (keep X c) ∗ bigSep (Finset.Ico 0 32) (Mesh.rest X c) ∗ bigSep (Finset.Ico 0 32) (Mesh.src X c) ∗ (ringFree false c (home false) ∗ ringFree true c (home true))
      ∗ xPts c fullShare.left Finset.univ (X c))
      ⊢ iprop((ringFree false c Finset.univ ∗ ringFree true c Finset.univ) ∗ xPts c fullShare Finset.univ (X c)) := by
  have e1 : iprop(bigSep (Finset.Ico 0 32) (keep X c) ∗ bigSep (Finset.Ico 0 32) (give X c)) ⊢ bigSep (Finset.Ico 0 32) (landFree (F := F) c) := by
    rw [← bigSep_sep']
    refine bs_mono fun n _ => tr (landed_split X c n).2 ?_
    unfold landFree landed
    iintro H; iexists _; iexact H
  rw [split_dirs (landFree (F := F) c)] at e1
  rw [x_open]
  iintro ⟨Hk, Hr, Hs, ⟨H0, H1⟩, Hx⟩
  ihave Hg := (gives_back X c) $$ [Hs Hr]; · isplitl [Hs] <;> iassumption
  icases Hg with ⟨Hxs, Hg⟩
  ihave Hl := e1 $$ [Hk Hg]; · isplitl [Hk] <;> iassumption
  icases Hl with ⟨Ht, Hf⟩
  isplitr [Hx Hxs]
  · isplitl [Hf H0]
    · iapply ring_close; isplitl [Hf] <;> iassumption
    · iapply ring_close; isplitl [Ht] <;> iassumption
  isplitl [Hx] <;> iassumption

/-- A cell nothing uses is closed as it stands. -/
theorem close_unused (c : Dev nD) {i : ℕ} (h96 : i < 96) (h : usedB i = false) :
    iprop(recs X A K ∗ atPos ER (cell c i) 0 ∅ 0) ⊢ iprop(|={Set.univ}=> zero (F := F) c i) := by
  iintro ⟨#HR, Hp⟩
  iapply (Rounds.cell_close ER (sched X A) (κ := K (c, ⟨i, by omega⟩)) (g := cell c i) (Set.mem_univ _) (fun h => h) (R := 0) (duties_unused X A c h96 h))
  isplitr
  · iapply (recs_inv X A (K := K) c (i := i) _); iexact HR
  iexact Hp

end Cert.Mesh
end
-- ==== Proof.Front.lean ====
/-
# Loads and stores at the start, and the values stored

The copies of the device's own blocks, and that each product stored is its rows of `prod`.
-/
module

public import proofs.«01_k».proof.Proof.Phase

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → S256x4096.Idx → Elt F .bf16) (W : Dev nD → S4096x128.Idx → Elt F .bf16) (A : Dev nD → S1x8x128.Idx → Elt F .f32)
variable {K : Dev nD × Fin 97 → ℕ}

/-! ## Rows stored -/

theorem off2 (c : Dev nD) {h : ℕ} (hh : h < 7) : k0_off2 c (BitVec.ofNat 32 h) = ![256 * (orig false h c).val, 0] :=
  (by decide +kernel : ∀ (c : Dev nD) (h : Fin 7), k0_off2 c (BitVec.ofNat 32 h.val) = ![256 * (orig false h.val c).val, 0]) c ⟨h, hh⟩
theorem off3 (c : Dev nD) {h : ℕ} (hh : h < 7) : k0_off3 c (BitVec.ofNat 32 h) = ![256 * (orig true h c).val, 0] :=
  (by decide +kernel : ∀ (c : Dev nD) (h : Fin 7), k0_off3 c (BitVec.ofNat 32 h.val) = ![256 * (orig true h.val c).val, 0]) c ⟨h, hh⟩
theorem off4 : ∀ c : Dev nD, k0_off4 c = ![256 * (orig false 7 c).val, 0] := by decide +kernel
theorem off5 : ∀ c : Dev nD, k0_off5 c = ![256 * (orig false 7 c).val + 128, 0] := by decide +kernel

theorem orig_ne (b : Bool) (c : Dev nD) {h : ℕ} (hh : h < 7) : orig b h c ≠ orig false 7 c :=
  (by decide +kernel : ∀ (b : Bool) (c : Dev nD) (h : Fin 7), orig b h.val c ≠ orig false 7 c) b c ⟨h, hh⟩
theorem self_ne : ∀ c : Dev nD, c ≠ orig false 7 c := by decide +kernel
theorem far_eq : ∀ c : Dev nD, orig true 7 c = orig false 7 c := by decide +kernel

theorem prod_own (c e : Dev nD) (he : e ≠ orig false 7 c) (x : (⟨2, ![256, 128]⟩ : Shape).Idx) (hr : 256 * e.val + (x 0).val < 4096) :
    k0_pay3 (X e) (W c) x = prod X W c (ix2 ⟨256 * e.val + (x 0).val, hr⟩ (x 1)) := by
  have h0 : (x 0).val < 256 := (x 0).isLt
  have hq : (256 * e.val + (x 0).val) / 256 = e.val := by omega
  unfold prod
  show _ = if (256 * e.val + (x 0).val) / 256 = (orig false 7 c).val then _ else
    k0_pay3 (X (Fin.ofNat 16 ((256 * e.val + (x 0).val) / 256))) (W c) (ix2 (Fin.ofNat 256 (256 * e.val + (x 0).val)) (x 1))
  rw [hq, if_neg fun h => he (Fin.ext h)]
  have h1 : (Fin.ofNat 16 e.val : Dev nD) = e := Fin.ext (Nat.mod_eq_of_lt e.isLt)
  have h2 : (Fin.ofNat 256 (256 * e.val + (x 0).val) : Fin 256) = x 0 := Fin.ext (by show (256 * e.val + (x 0).val) % 256 = (x 0).val; omega)
  rw [h1, h2]
  exact congrArg _ (funext fun a => by fin_cases a <;> rfl)

theorem prod_half (c : Dev nD) {r : ℕ} (hr2 : r = 0 ∨ r = 128) (x : (⟨2, ![128, 128]⟩ : Shape).Idx) (hr : 256 * (orig false 7 c).val + r + (x 0).val < 4096) :
    k0_pay38 (rows128 (X (orig false 7 c)) r) (W c) x = prod X W c (ix2 ⟨256 * (orig false 7 c).val + r + (x 0).val, hr⟩ (x 1)) := by
  have h0 : (x 0).val < 128 := (x 0).isLt
  unfold prod
  generalize orig false 7 c = e at hr ⊢
  show _ = if (256 * e.val + r + (x 0).val) / 256 = e.val then
    k0_pay38 (rows128 (X e) (128 * ((256 * e.val + r + (x 0).val) % 256 / 128))) (W c) (ix2 (Fin.ofNat 128 (256 * e.val + r + (x 0).val)) (x 1)) else _
  rw [if_pos (by omega), show 128 * ((256 * e.val + r + (x 0).val) % 256 / 128) = r by omega]
  have h2 : (Fin.ofNat 128 (256 * e.val + r + (x 0).val) : Fin 128) = x 0 := Fin.ext (by show (256 * e.val + r + (x 0).val) % 128 = (x 0).val; omega)
  rw [h2]
  exact congrArg _ (funext fun a => by fin_cases a <;> rfl)

omit [FloatOps F] [Named F] in
theorem rowsV_full (Y : S256x4096.Idx → Elt F .bf16) : shapeCast S256x4096 (rowsV Y 0 256) shapeCasts_S1x256x4096_S256x4096 = Y := by
  funext x
  show rowsV Y 0 256 (Shape.reshapeEquiv _ x) = Y x
  rw [Shape.reshapeEquiv_cons_one _ x]
  show Y (ix2 (Fin.ofNat 256 (0 + (x 0).val)) (x 1)) = Y x
  rw [Nat.zero_add, show (Fin.ofNat 256 (x 0).val : Fin 256) = x 0 from Fin.ext (Nat.mod_eq_of_lt (x 0).isLt)]
  exact congrArg _ (funext fun a => by fin_cases a <;> rfl)
theorem rowsV_half (Y : S256x4096.Idx → Elt F .bf16) (r : ℕ) : k0_pay37 (rowsV Y r 128) = rows128 Y r := by
  funext x
  show rowsV Y r 128 (Shape.reshapeEquiv _ x) = _
  rw [Shape.reshapeEquiv_cons_one _ x]
  rfl

/-- What is stored of the rows of the device `h` steps on. -/
theorem pay_block (b : Bool) (c : Dev nD) {h : ℕ} (hh : h < 7) (x : (⟨2, ![256, 128]⟩ : Shape).Idx) (hr : 256 * (orig b h c).val + (x 0).val < 4096) :
    k0_pay5 (rowsV (X (orig b h c)) 0 256) (W c) x = prod X W c (ix2 ⟨256 * (orig b h c).val + (x 0).val, hr⟩ (x 1)) := by
  have h1 : k0_pay5 (rowsV (X (orig b h c)) 0 256) (W c) = k0_pay3 (shapeCast S256x4096 (rowsV (X (orig b h c)) 0 256) shapeCasts_S1x256x4096_S256x4096) (W c) := rfl
  rw [h1, rowsV_full]
  exact prod_own X W c _ (orig_ne b c hh) x hr
theorem pay_first (c : Dev nD) (x : (⟨2, ![128, 128]⟩ : Shape).Idx) (hr : 256 * (orig false 7 c).val + (x 0).val < 4096) :
    k0_pay35 (rowsV (X (orig false 7 c)) 0 128) (W c) x = prod X W c (ix2 ⟨256 * (orig false 7 c).val + (x 0).val, hr⟩ (x 1)) := by
  have h1 : k0_pay35 (rowsV (X (orig false 7 c)) 0 128) (W c) = k0_pay38 (k0_pay37 (rowsV (X (orig false 7 c)) 0 128)) (W c) := rfl
  rw [h1, rowsV_half]
  exact prod_half X W c (.inl rfl) x hr
theorem pay_second (c : Dev nD) (x : (⟨2, ![128, 128]⟩ : Shape).Idx) (hr : 256 * (orig false 7 c).val + 128 + (x 0).val < 4096) :
    k0_pay38 (k0_pay37 (rowsV (X (orig true 7 c)) 128 128)) (W c) x = prod X W c (ix2 ⟨256 * (orig false 7 c).val + 128 + (x 0).val, hr⟩ (x 1)) := by
  rw [rowsV_half, far_eq]
  exact prod_half X W c (.inr rfl) x hr

/-! ## The rows of a slot that two arrivals cover -/

theorem cov (b : Bool) {h : ℕ} (hh : h < 7) (x : ℕ) : (0 ≤ x ∧ x < 0 + 256) ↔
    (row0 (4 * h + b.toNat) ≤ x ∧ x < row0 (4 * h + b.toNat) + rows (4 * h + b.toNat)) ∨ (row0 (4 * h + b.toNat + 2) ≤ x ∧ x < row0 (4 * h + b.toNat + 2) + rows (4 * h + b.toNat + 2)) := by
  cases b <;> (simp only [Bool.toNat_false, Bool.toNat_true]; unfold row0 rows; split_ifs <;> omega)

/-! ## The device's own blocks -/

section Ops

variable {α : Type}

/-- The block of `x` is copied. -/
theorem copy_x (c : Dev nD) {R : sProp 𝕄} {Q : α → sProp 𝕄} {inb inb' inb'' : ∀ a, (![0, 0] : Fin 2 → ℕ) a + S256x4096.size a ≤ S256x4096.size a}
    {hl : (Memref.whole cc0_stg0_0).view.LoadsAt (Rect.unit (s := S256x4096) ![0, 0] S256x4096.size inb).toLoadRect}
    {hl' : xM.view.LoadsAt (Rect.unit (s := S256x4096) ![0, 0] S256x4096.size inb').toLoadRect}
    {hx : (xM.access (Rect.unit (s := S256x4096) ![0, 0] S256x4096.size inb'')).Stores Finset.univ}
    {hm : (Finset.univ : Finset (Rect.unit (s := S256x4096) ![0, 0] S256x4096.size inb'').shape.Idx) = Finset.univ ∨ ∀ a, (Rect.unit (s := S256x4096) ![0, 0] S256x4096.size inb'').stride a = 1}
    {kk : PUnit → Prog (TpuEff nD τ sig (Elt F) Λ₀ .tc) α}
    (hk : iprop(recs X A K ∗ ((((c : Thread nD τ).loc cc0_stg0_0) ↦[Finset.univ]{fullShare} X c) ∗ xPts c fullShare Finset.univ (X c)) ∗ R)
      ⊢ wp frame (wpE (defs₀ (F := F)) 𝒱₀ (c : Thread nD τ) none) Set.univ (kk ⟨⟩) Q) :
    iprop(recs X A K ∗ ((((c : Thread nD τ).loc cc0_stg0_0) ↦[Finset.univ]{fullShare} X c) ∗ ∃ f, xPts c fullShare Finset.univ f) ∗ R)
      ⊢ wp frame (wpE (defs₀ (F := F)) 𝒱₀ (c : Thread nD τ) none) Set.univ
        (.op (.load (Memref.whole cc0_stg0_0) (Rect.unit (s := S256x4096) ![0, 0] S256x4096.size inb).toLoadRect hl) fun v =>
          .op (.load xM (Rect.unit (s := S256x4096) ![0, 0] S256x4096.size inb').toLoadRect hl') fun _ =>
          .op (.store xM (Rect.unit (s := S256x4096) ![0, 0] S256x4096.size inb'') (k0_pay1 v) Finset.univ hx hm) kk) Q := by
  iintro ⟨#HR, ⟨H0, ⟨%f, H1⟩⟩, H⟩
  unfold xPts at *
  iapply (wp_load 𝒱₀ (c : Thread nD τ) none Set.univ (m := Memref.whole cc0_stg0_0) (Finset.subset_univ _)) $$ H0
  iintro H0
  iapply (wp_load 𝒱₀ (c : Thread nD τ) none Set.univ (m := xM) (Finset.subset_univ _)) $$ H1
  iintro H1
  rw [show View.readAt (Elt F) (Memref.whole cc0_stg0_0).view (Rect.unit (s := S256x4096) ![0, 0] S256x4096.size inb).toLoadRect (X c) = X c from
    Memref.readAt_unit_zero (Elt F) cc0_stg0_0 (by decide) inb (X c)]
  iapply (wp_store 𝒱₀ (c : Thread nD τ) none Set.univ (m := xM) (r := Rect.unit (s := S256x4096) ![0, 0] S256x4096.size inb'') (Mk := Finset.univ) (Finset.subset_univ _)) $$ H1
  rw [show (xM.access (Rect.unit (s := S256x4096) ![0, 0] S256x4096.size inb'')).write (Elt F) f (k0_pay1 (X c)) Finset.univ = k0_pay1 (X c) from
    Memref.write_access_unit_zero_univ (Elt F) cc0_scratch0 (by decide) inb'' f (k0_pay1 (X c))]
  iintro H1
  have e1 : k0_pay1 (X c) = X c := by
    funext x; show X c (Shape.reshapeEquiv _ (Shape.reshapeEquiv _ x)) = X c x
    rw [Shape.reshapeEquiv_self, Shape.reshapeEquiv_self]
  rw [e1]
  iapply hk
  isplitr; · iexact HR
  isplitr [H]
  · isplitl [H0] <;> iassumption
  iexact H

/-- The block of `w` is copied. -/
theorem copy_w (c : Dev nD) {P R : sProp 𝕄} {Q : α → sProp 𝕄} {inb inb' inb'' : ∀ a, (![0, 0] : Fin 2 → ℕ) a + S4096x128.size a ≤ S4096x128.size a}
    {hl : (Memref.whole cc0_stg1_0).view.LoadsAt (Rect.unit (s := S4096x128) ![0, 0] S4096x128.size inb).toLoadRect}
    {hl' : wM.view.LoadsAt (Rect.unit (s := S4096x128) ![0, 0] S4096x128.size inb').toLoadRect}
    {hx : (wM.access (Rect.unit (s := S4096x128) ![0, 0] S4096x128.size inb'')).Stores Finset.univ}
    {hm : (Finset.univ : Finset (Rect.unit (s := S4096x128) ![0, 0] S4096x128.size inb'').shape.Idx) = Finset.univ ∨ ∀ a, (Rect.unit (s := S4096x128) ![0, 0] S4096x128.size inb'').stride a = 1}
    {kk : PUnit → Prog (TpuEff nD τ sig (Elt F) Λ₀ .tc) α}
    (hk : iprop(recs X A K ∗ P ∗ ((((c : Thread nD τ).loc cc0_stg1_0) ↦[Finset.univ]{fullShare} W c) ∗ (((c : Thread nD τ).loc cc0_scratch1) ↦[Finset.univ]{fullShare} W c)) ∗ R)
      ⊢ wp frame (wpE (defs₀ (F := F)) 𝒱₀ (c : Thread nD τ) none) Set.univ (kk ⟨⟩) Q) :
    iprop(recs X A K ∗ P ∗ ((((c : Thread nD τ).loc cc0_stg1_0) ↦[Finset.univ]{fullShare} W c) ∗ ∃ f : Buf (Elt F) ((c : Thread nD τ).loc cc0_scratch1), (((c : Thread nD τ).loc cc0_scratch1) ↦[Finset.univ]{fullShare} f)) ∗ R)
      ⊢ wp frame (wpE (defs₀ (F := F)) 𝒱₀ (c : Thread nD τ) none) Set.univ
        (.op (.load (Memref.whole cc0_stg1_0) (Rect.unit (s := S4096x128) ![0, 0] S4096x128.size inb).toLoadRect hl) fun v =>
          .op (.load wM (Rect.unit (s := S4096x128) ![0, 0] S4096x128.size inb').toLoadRect hl') fun _ =>
          .op (.store wM (Rect.unit (s := S4096x128) ![0, 0] S4096x128.size inb'') (k0_pay2 v) Finset.univ hx hm) kk) Q := by
  iintro ⟨#HR, HP, ⟨H0, ⟨%f, H1⟩⟩, H⟩
  iapply (wp_load 𝒱₀ (c : Thread nD τ) none Set.univ (m := Memref.whole cc0_stg1_0) (Finset.subset_univ _)) $$ H0
  iintro H0
  iapply (wp_load 𝒱₀ (c : Thread nD τ) none Set.univ (m := wM) (Finset.subset_univ _)) $$ H1
  iintro H1
  rw [show View.readAt (Elt F) (Memref.whole cc0_stg1_0).view (Rect.unit (s := S4096x128) ![0, 0] S4096x128.size inb).toLoadRect (W c) = W c from
    Memref.readAt_unit_zero (Elt F) cc0_stg1_0 (by decide) inb (W c)]
  iapply (wp_store 𝒱₀ (c : Thread nD τ) none Set.univ (m := wM) (r := Rect.unit (s := S4096x128) ![0, 0] S4096x128.size inb'') (Mk := Finset.univ) (Finset.subset_univ _)) $$ H1
  rw [show (wM.access (Rect.unit (s := S4096x128) ![0, 0] S4096x128.size inb'')).write (Elt F) f (k0_pay2 (W c)) Finset.univ = k0_pay2 (W c) from
    Memref.write_access_unit_zero_univ (Elt F) cc0_scratch1 (by decide) inb'' f (k0_pay2 (W c))]
  iintro H1
  have e1 : k0_pay2 (W c) = W c := by
    funext x; show W c (Shape.reshapeEquiv _ (Shape.reshapeEquiv _ x)) = W c x
    rw [Shape.reshapeEquiv_self, Shape.reshapeEquiv_self]
  rw [e1]
  iapply hk
  isplitr; · iexact HR
  isplitl [HP]; · iexact HP
  isplitr [H]
  · isplitl [H0] <;> iassumption
  iexact H

/-- A load of the copy of `x`. -/
theorem load_x (c : Dev nD) {P G R : sProp 𝕄} {Q : α → sProp 𝕄} {q : PosShare TreeShare} {inb : ∀ a, (![0, 0] : Fin 2 → ℕ) a + S256x4096.size a ≤ S256x4096.size a}
    {hl : xM.view.LoadsAt (Rect.unit (s := S256x4096) ![0, 0] S256x4096.size inb).toLoadRect}
    {kk : (S256x4096.Idx → Elt F .bf16) → Prog (TpuEff nD τ sig (Elt F) Λ₀ .tc) α}
    (hk : iprop(recs X A K ∗ P ∗ G ∗ xPts c q Finset.univ (X c) ∗ R) ⊢ wp frame (wpE (defs₀ (F := F)) 𝒱₀ (c : Thread nD τ) none) Set.univ (kk (X c)) Q) :
    iprop(recs X A K ∗ P ∗ G ∗ xPts c q Finset.univ (X c) ∗ R)
      ⊢ wp frame (wpE (defs₀ (F := F)) 𝒱₀ (c : Thread nD τ) none) Set.univ
        (.op (.load xM (Rect.unit (s := S256x4096) ![0, 0] S256x4096.size inb).toLoadRect hl) kk) Q := by
  unfold xPts at hk ⊢
  refine load_step c (m := xM) (R := iprop(recs X A K ∗ P ∗ G ∗ R)) (S := Finset.univ) (q := q) (f := X c)
    (Finset.subset_univ _) (Memref.readAt_unit_zero (Elt F) cc0_scratch0 (by decide) inb (X c)) ?_ ?_ hk
  · iintro ⟨#HR, HP, HG, Hx, H⟩
    isplitl [Hx]; · iexact Hx
    isplitr; · iexact HR
    isplitl [HP]; · iexact HP
    isplitl [HG] <;> iassumption
  · iintro ⟨Hx, #HR, HP, HG, H⟩
    isplitr; · iexact HR
    isplitl [HP]; · iexact HP
    isplitl [HG]; · iexact HG
    isplitl [Hx] <;> iassumption

/-- A product with the weights: they are loaded, the rows' present contents are loaded and dropped, the product is stored. -/
theorem gemm_step (c : Dev nD) {D : List (ℕ × ℕ)} {o n : ℕ} {off : Fin 2 → ℕ} {P R : sProp 𝕄} {Q : α → sProp 𝕄} {inbw : ∀ a, (![0, 0] : Fin 2 → ℕ) a + S4096x128.size a ≤ S4096x128.size a}
    {hlw : wM.view.LoadsAt (Rect.unit (s := S4096x128) ![0, 0] S4096x128.size inbw).toLoadRect}
    {inb inb' : ∀ a, off a + (![n, 128] : Fin 2 → ℕ) a ≤ S4096x128.size a} {pay : (S4096x128.Idx → Elt F .bf16) → (⟨2, ![n, 128]⟩ : Shape).Idx → Elt F .f32}
    {hlo : oM.view.LoadsAt (Rect.unit (s := S4096x128) off ![n, 128] inb').toLoadRect}
    {hx : (oM.access (Rect.unit (s := S4096x128) off ![n, 128] inb)).Stores Finset.univ}
    {hm : (Finset.univ : Finset (Rect.unit (s := S4096x128) off ![n, 128] inb).shape.Idx) = Finset.univ ∨ ∀ a, (Rect.unit (s := S4096x128) off ![n, 128] inb).stride a = 1}
    {kk : (S4096x128.Idx → Elt F .bf16) → PUnit → Prog (TpuEff nD τ sig (Elt F) Λ₀ .tc) α}
    (hoff : off = ![o, 0]) (hw : ∀ (x : (⟨2, ![n, 128]⟩ : Shape).Idx) (hr : o + (x 0).val < 4096), pay (W c) x = prod X W c (ix2 ⟨o + (x 0).val, hr⟩ (x 1)))
    (hk : iprop(recs X A K ∗ P ∗ gemmSt X W c ((o, n) :: D) ∗ R) ⊢ wp frame (wpE (defs₀ (F := F)) 𝒱₀ (c : Thread nD τ) none) Set.univ (kk (W c) ⟨⟩) Q) :
    iprop(recs X A K ∗ P ∗ gemmSt X W c D ∗ R)
      ⊢ wp frame (wpE (defs₀ (F := F)) 𝒱₀ (c : Thread nD τ) none) Set.univ
        (.op (.load wM (Rect.unit (s := S4096x128) ![0, 0] S4096x128.size inbw).toLoadRect hlw) fun w =>
          .op (.load oM (Rect.unit (s := S4096x128) off ![n, 128] inb').toLoadRect hlo) fun _ =>
          .op (.store oM (Rect.unit (s := S4096x128) off ![n, 128] inb) (pay w) Finset.univ hx hm) (kk w)) Q :=
  load_w X W A c (load_out X W A c fun _ => store_out X W A c hoff hw hk)

end Ops

/-! ## The maximum of a device's product -/

/-- The largest entry of the product with the rows of the device `h` steps on. -/
def blockMax (b : Bool) (h : ℕ) (c : Dev nD) : F .f32 := k0_pay6 (rowsV (X (orig b h c)) 0 256) (W c)
/-- The largest entry of the product with half of the rows of the device opposite. -/
def halfMax (b : Bool) (r : ℕ) (c : Dev nD) : F .f32 := k0_pay36 (rowsV (X (orig b 7 c)) r 128) (W c)
/-- What a device contributes to the maximum over all. -/
def devMax (c : Dev nD) : S1x8x128.Idx → Elt F .f32 :=
  k0_pay41 (halfMax X W false 0 c) (halfMax X W true 128 c)
    (k0_pay40 (k0_pay4 (X c) (W c)) (blockMax X W false 0 c) (blockMax X W true 0 c) (blockMax X W false 1 c) (blockMax X W true 1 c) (blockMax X W false 2 c) (blockMax X W true 2 c)
      (blockMax X W false 3 c) (blockMax X W true 3 c) (blockMax X W false 4 c) (blockMax X W true 4 c) (blockMax X W false 5 c) (blockMax X W true 5 c) (blockMax X W false 6 c) (blockMax X W true 6 c))

end Cert.Mesh
end
-- ==== Proof.Walk.lean ====
/-
# The exchange and the products

A device's run from its first load to the last product.
-/
module

public import proofs.«01_k».proof.Proof.Front

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → S256x4096.Idx → Elt F .bf16) (W : Dev nD → S4096x128.Idx → Elt F .bf16) (A : Dev nD → S1x8x128.Idx → Elt F .f32)
variable {K : Dev nD × Fin 97 → ℕ}

theorem skip_pure {α β : Type} {c : Dev nD} {E : sProp 𝕄} {Q : β → sProp 𝕄} {p : Prog (TpuEff nD τ sig (Elt F) Λ₀ .tc) α} {k : α → Prog (TpuEff nD τ sig (Elt F) Λ₀ .tc) β}
    (hp : ∃ r, p = .ret r) (h : ∀ r, E ⊢ wp frame (wpE (defs₀ (F := F)) 𝒱₀ (c : Thread nD τ) none) Set.univ (k r) Q) :
    E ⊢ wp frame (wpE (defs₀ (F := F)) 𝒱₀ (c : Thread nD τ) none) Set.univ (p >>= k) Q := by
  obtain ⟨r, rfl⟩ := hp
  exact h r

/-- The buffers as a device finds them. -/
def memPre (c : Dev nD) : sProp 𝕄 :=
  iprop(((((c : Thread nD τ).loc cc0_stg0_0) ↦[Finset.univ]{fullShare} X c) ∗ ∃ f, xPts c fullShare Finset.univ f)
    ∗ ((((c : Thread nD τ).loc cc0_stg1_0) ↦[Finset.univ]{fullShare} W c) ∗ ∃ f : Buf (Elt F) ((c : Thread nD τ).loc cc0_scratch1), (((c : Thread nD τ).loc cc0_scratch1) ↦[Finset.univ]{fullShare} f))
    ∗ (∃ f : S4096x128.Idx → Elt F .f32, (((c : Thread nD τ).loc cc0_stg2_0) ↦[Finset.univ]{fullShare} f))
    ∗ (ringFree false c Finset.univ ∗ ringFree true c Finset.univ) ∗ ∃ f, aPts c fullShare Finset.univ f)

/-- What waits for the second half of the run. -/
def aside (c : Dev nD) : sProp 𝕄 :=
  iprop((bigSep (Finset.Ico 1 16) (aTok0 (F := F) c) ∗ bigSep (Finset.Ico 1 16) (fun n => pend (F := F) c (80 + n))) ∗ (atPos ER (cell c 64) 0 ∅ 0 ∗ atPos ER (cell c 80) 0 ∅ 0)
    ∗ (ringFree false c (home false) ∗ ringFree true c (home true)) ∗ slotAny c 0)

theorem walk_open (c : Dev nD) : iprop(recs X A K ∗ ghostPre c ∗ owesAt c 0 ∗ memPre X W c)
    ⊢ iprop(recs X A K ∗ ((((c : Thread nD τ).loc cc0_stg0_0) ↦[Finset.univ]{fullShare} X c) ∗ ∃ f, xPts c fullShare Finset.univ f)
      ∗ owesAt c 0 ∗ barTok c ∗ barPend c ∗ (barPay false (left c) ∗ barPay true (right c))
      ∗ (bigSep (Finset.Ico 0 32) (tok0 c) ∗ bigSep (Finset.Ico 0 32) (fun n => pend (F := F) c (32 + n))) ∗ (carried (right c) 0 ∗ carried (left c) 1)
      ∗ ((((c : Thread nD τ).loc cc0_stg1_0) ↦[Finset.univ]{fullShare} W c) ∗ ∃ f : Buf (Elt F) ((c : Thread nD τ).loc cc0_scratch1), (((c : Thread nD τ).loc cc0_scratch1) ↦[Finset.univ]{fullShare} f))
      ∗ (∃ f : S4096x128.Idx → Elt F .f32, (((c : Thread nD τ).loc cc0_stg2_0) ↦[Finset.univ]{fullShare} f)) ∗ aside c) := by
  have e1 : (barPay false (left c) : sProp 𝕄) = bigSep (nsOf false) (landFree c) := by
    unfold barPay nsOf; rw [show step false (left c) = c from step_step true c]
  have e2 : (barPay true (right c) : sProp 𝕄) = bigSep (nsOf true) (landFree c) := by
    unfold barPay nsOf; rw [show step true (right c) = c from step_step false c]
  rw [e1, e2]
  unfold ghostPre memPre aside
  iintro ⟨#HR, ⟨⟨G1, G2⟩, G3, ⟨G4, G4'⟩, G5, G6⟩, HO, ⟨M0, M1, M2, ⟨M3, M4⟩, M5⟩⟩
  ihave M3' := (ring_open false c) $$ M3; icases M3' with ⟨L0, H0⟩
  ihave M4' := (ring_open true c) $$ M4; icases M4' with ⟨L1, H1⟩
  ihave M5' := (a_open c) $$ M5; icases M5' with ⟨S1, S0⟩
  ihave S1' := (slots_out c) $$ S1
  isplitr; · iexact HR
  isplitl [M0]; · iexact M0
  isplitl [HO]; · iexact HO
  isplitl [G1]; · iexact G1
  isplitl [G2]; · iexact G2
  isplitl [L0 L1]
  · isplitl [L0] <;> iassumption
  isplitl [G3]; · iexact G3
  isplitl [S1']; · iexact S1'
  isplitl [M1]; · iexact M1
  isplitl [M2]; · iexact M2
  isplitl [G4 G4']
  · isplitl [G4] <;> iassumption
  isplitl [G5 G6]
  · isplitl [G5] <;> iassumption
  isplitl [H0 H1]
  · isplitl [H0] <;> iassumption
  iexact S0

/-- The copy of `x` is shared out and the first transfers may be sent. -/
theorem walk_begin (c : Dev nD) : iprop(recs X A K ∗ owesAt c 2 ∗ semVal (cell c 96) 0 ∗ (barPay true c ∗ barPay false c)
      ∗ (((bigSep (Finset.Ico 0 32) (tok0 c) ∗ bigSep (Finset.Ico 0 32) (fun n => pend (F := F) c (32 + n))) ∗ (carried (right c) 0 ∗ carried (left c) 1)
      ∗ ((((c : Thread nD τ).loc cc0_stg1_0) ↦[Finset.univ]{fullShare} W c) ∗ ∃ f : Buf (Elt F) ((c : Thread nD τ).loc cc0_scratch1), (((c : Thread nD τ).loc cc0_scratch1) ↦[Finset.univ]{fullShare} f))
      ∗ (∃ f : S4096x128.Idx → Elt F .f32, (((c : Thread nD τ).loc cc0_stg2_0) ↦[Finset.univ]{fullShare} f)) ∗ aside c)
      ∗ (((c : Thread nD τ).loc cc0_stg0_0) ↦[Finset.univ]{fullShare} X c) ∗ xPts c fullShare Finset.univ (X c)))
    ⊢ iprop(recs X A K ∗ ringSt X c 0 0 ∗ ((((c : Thread nD τ).loc cc0_stg1_0) ↦[Finset.univ]{fullShare} W c) ∗ ∃ f : Buf (Elt F) ((c : Thread nD τ).loc cc0_scratch1), (((c : Thread nD τ).loc cc0_scratch1) ↦[Finset.univ]{fullShare} f))
      ∗ ((∃ f : S4096x128.Idx → Elt F .f32, (((c : Thread nD τ).loc cc0_stg2_0) ↦[Finset.univ]{fullShare} f)) ∗ xPts c fullShare.left Finset.univ (X c)
        ∗ aside c ∗ semVal (cell c 96) 0 ∗ (((c : Thread nD τ).loc cc0_stg0_0) ↦[Finset.univ]{fullShare} X c))) := by
  rw [x_open]
  iintro ⟨#HR, HO, HZ, HB, ⟨HT, HC, HW, H2, HA⟩, H0, ⟨HX, HS⟩⟩
  isplitr; · iexact HR
  isplitl [HO HB HT HS HC]
  · iapply (ring_begin X c)
    isplitl [HO]; · iexact HO
    isplitl [HB]; · iexact HB
    isplitl [HT]; · iexact HT
    isplitl [HS]; · iexact HS
    iexact HC
  isplitl [HW]; · iexact HW
  isplitl [H2]; · iexact H2
  isplitl [HX]; · iexact HX
  isplitl [HA]; · iexact HA
  isplitl [HZ] <;> iassumption

/-- Beside the ring buffers and the products' operands. -/
def beside (c : Dev nD) : sProp 𝕄 :=
  iprop(xPts c fullShare.left Finset.univ (X c) ∗ aside c ∗ semVal (cell c 96) 0 ∗ (((c : Thread nD τ).loc cc0_stg0_0) ↦[Finset.univ]{fullShare} X c)
    ∗ (((c : Thread nD τ).loc cc0_stg1_0) ↦[Finset.univ]{fullShare} W c))

theorem walk_weights (c : Dev nD) {P : sProp 𝕄} : iprop(recs X A K ∗ P ∗ ((((c : Thread nD τ).loc cc0_stg1_0) ↦[Finset.univ]{fullShare} W c) ∗ (((c : Thread nD τ).loc cc0_scratch1) ↦[Finset.univ]{fullShare} W c))
      ∗ ((∃ f : S4096x128.Idx → Elt F .f32, (((c : Thread nD τ).loc cc0_stg2_0) ↦[Finset.univ]{fullShare} f)) ∗ xPts c fullShare.left Finset.univ (X c)
        ∗ aside c ∗ semVal (cell c 96) 0 ∗ (((c : Thread nD τ).loc cc0_stg0_0) ↦[Finset.univ]{fullShare} X c)))
    ⊢ iprop(recs X A K ∗ P ∗ gemmSt X W c [] ∗ xPts c fullShare.left Finset.univ (X c) ∗ (aside c ∗ semVal (cell c 96) 0 ∗ (((c : Thread nD τ).loc cc0_stg0_0) ↦[Finset.univ]{fullShare} X c)
    ∗ (((c : Thread nD τ).loc cc0_stg1_0) ↦[Finset.univ]{fullShare} W c))) := by
  unfold gemmSt outIs
  iintro ⟨#HR, HP, ⟨H1, Hw⟩, ⟨%f, H2⟩, Hx, Ha, H96, H0⟩
  isplitr; · iexact HR
  isplitl [HP]; · iexact HP
  isplitl [Hw H2]
  · isplitl [Hw]; · iexact Hw
    iexists f
    isplitr
    · ipureintro; rintro i ⟨p, hp, -⟩; cases hp
    iexact H2
  isplitl [Hx]; · iexact Hx
  isplitl [Ha]; · iexact Ha
  isplitl [H96]; · iexact H96
  isplitl [H0] <;> iassumption

theorem walk_bar (c : Dev nD) {P0 P1 O B1 B2 B3 R : sProp 𝕄} : iprop(recs X A K ∗ (P0 ∗ P1) ∗ O ∗ B1 ∗ B2 ∗ B3 ∗ R) ⊢ iprop(recs X A K ∗ O ∗ B1 ∗ B2 ∗ B3 ∗ (R ∗ P0 ∗ P1)) := by
  iintro ⟨#HR, H0, HO, H1, H2, H3, H⟩
  isplitr; · iexact HR
  isplitl [HO]; · iexact HO
  isplitl [H1]; · iexact H1
  isplitl [H2]; · iexact H2
  isplitl [H3]; · iexact H3
  isplitl [H] <;> iassumption

theorem walk_beside (c : Dev nD) {P G : sProp 𝕄} : iprop(recs X A K ∗ P ∗ G ∗ xPts c fullShare.left Finset.univ (X c) ∗ (aside c ∗ semVal (cell c 96) 0 ∗ (((c : Thread nD τ).loc cc0_stg0_0) ↦[Finset.univ]{fullShare} X c)
    ∗ (((c : Thread nD τ).loc cc0_stg1_0) ↦[Finset.univ]{fullShare} W c))) ⊢ iprop(recs X A K ∗ P ∗ G ∗ beside X W c) := BIBase.Entails.rfl

/-- All transfers are sent: what remains is to wait for them. -/
theorem walk_sent (c : Dev nD) {ns nr : ℕ} {G R : sProp 𝕄} (hs : ns = 32) (hr : nr = 32) : iprop(recs X A K ∗ ringSt X c ns nr ∗ G ∗ R)
    ⊢ iprop(recs X A K ∗ waitSt X A 0 0 32 34 c 0 ∗ (bigSep (Finset.Ico 0 32) (keep X c) ∗ bigSep (Finset.Ico 0 32) (done X c)) ∗ G ∗ R) := by
  subst hs hr
  iintro ⟨#HR, HS, H⟩
  ihave HS' := (ring_sent X A c) $$ HS
  icases HS' with ⟨H1, H2⟩
  isplitr; · iexact HR
  isplitl [H1]; · iexact H1
  isplitl [H2] <;> iassumption

theorem cov_r (x : ℕ) : (0 ≤ x ∧ x < 0 + 128) ↔ (row0 28 ≤ x ∧ x < row0 28 + rows 28) ∨ (row0 30 ≤ x ∧ x < row0 30 + rows 30) := by
  rw [show row0 28 = 0 from rfl, show rows 28 = 64 from rfl, show row0 30 = 64 from rfl, show rows 30 = 64 from rfl]; omega
theorem cov_l (x : ℕ) : (128 ≤ x ∧ x < 128 + 128) ↔ (row0 29 ≤ x ∧ x < row0 29 + rows 29) ∨ (row0 31 ≤ x ∧ x < row0 31 + rows 31) := by
  rw [show row0 29 = 192 from rfl, show rows 29 = 64 from rfl, show row0 31 = 128 from rfl, show rows 31 = 64 from rfl]; omega

section Run

variable {α : Type}

set_option maxHeartbeats 40000000
set_option maxRecDepth 8000

/-- The rows stored by the last product. -/
def allRows (c : Dev nD) : List (ℕ × ℕ) :=
  [(256 * (orig false 7 c).val + 128, 128), (256 * (orig false 7 c).val, 128), (256 * (orig true 6 c).val, 256), (256 * (orig false 6 c).val, 256), (256 * (orig true 5 c).val, 256), (256 * (orig false 5 c).val, 256), (256 * (orig true 4 c).val, 256), (256 * (orig false 4 c).val, 256), (256 * (orig true 3 c).val, 256), (256 * (orig false 3 c).val, 256), (256 * (orig true 2 c).val, 256), (256 * (orig false 2 c).val, 256), (256 * (orig true 1 c).val, 256), (256 * (orig false 1 c).val, 256), (256 * (orig true 0 c).val, 256), (256 * (orig false 0 c).val, 256), (256 * c.val, 256)]

/-- The run from the first load to the last product and the first waits for the transfers sent. -/
theorem walk (c : Dev nD) {Q : α → sProp 𝕄} {kk : _ → Prog (TpuEff nD τ sig (Elt F) Λ₀ .tc) α}
    (hk : ∀ v2, iprop(recs X A K ∗ waitSt X A 0 0 32 34 c 19 ∗ (bigSep (Finset.Ico 0 32) (keep X c) ∗ bigSep (Finset.Ico 0 32) (done X c)) ∗ gemmSt X W c (allRows c) ∗ beside X W c)
      ⊢ wp frame (wpE (defs₀ (F := F)) 𝒱₀ (c : Thread nD τ) none) Set.univ (kk ⟨c, v2, k0_pay4 (X c) (W c), blockMax X W false 0 c, blockMax X W true 0 c, blockMax X W false 1 c, blockMax X W true 1 c, blockMax X W false 2 c, blockMax X W true 2 c, blockMax X W false 3 c, blockMax X W true 3 c, blockMax X W false 4 c, blockMax X W true 4 c, blockMax X W false 5 c, blockMax X W true 5 c, blockMax X W false 6 c, blockMax X W true 6 c, halfMax X W false 0 c, halfMax X W true 128 c⟩) Q) :
    iprop(recs X A K ∗ ghostPre c ∗ owesAt c 0 ∗ memPre X W c)
      ⊢ wp frame (wpE (defs₀ (F := F)) 𝒱₀ (c : Thread nD τ) none) Set.univ
        (k0_part84 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 >>= kk) Q := by
  refine tr (walk_open X W A c) ?_
  rw [k0_part84_eq_skeleton]; unfold k0_part84_skel
  simp only [Prog.bind_assoc]
  rw [k0_part1_eq_skeleton]; unfold k0_part1_skel
  simp only [Prog.lift, Prog.bind_op, Prog.bind_ret, Prog.pure_eq_ret, Prog.bind_assoc, wp_deviceId]
  refine skip_pure ⟨_, rfl⟩ fun _ => ?_
  refine skip_pure ⟨_, rfl⟩ fun _ => ?_
  rw [k0_part4_eq_skeleton]; unfold k0_part4_skel
  simp only [semSignalWord, semWaitWord, Prog.lift, Prog.bind_op, Prog.bind_ret, Prog.pure_eq_ret, Prog.bind_assoc]
  refine copy_x X A c (K := K) ?_
  refine tr (walk_bar X A c) (barrier_step X A c (K := K) (by decide +kernel) (by decide +kernel) (tr (walk_begin X W A c) ?_))
  refine ring_send X A c (K := K) (by decide) (by decide) (by decide +kernel) rfl rfl (ends_xr X c _ _ _ _ (by decide) rfl rfl rfl rfl) ?_
  rw [k0_part5_eq_skeleton]; unfold k0_part5_skel
  simp only [Prog.lift, Prog.bind_op, Prog.bind_ret, Prog.pure_eq_ret, Prog.bind_assoc]
  refine ring_send X A c (K := K) (by decide) (by decide) (by decide +kernel) rfl rfl (ends_xl X c _ _ _ _ (by decide) rfl rfl rfl rfl) ?_
  refine ring_send X A c (K := K) (by decide) (by decide) (by decide +kernel) rfl rfl (ends_xr X c _ _ _ _ (by decide) rfl rfl rfl rfl) ?_
  refine ring_send X A c (K := K) (by decide) (by decide) (by decide +kernel) rfl rfl (ends_xl X c _ _ _ _ (by decide) rfl rfl rfl rfl) ?_
  rw [k0_part6_eq_skeleton]; unfold k0_part6_skel
  simp only [Prog.lift, Prog.bind_op, Prog.bind_ret, Prog.pure_eq_ret, Prog.bind_assoc]
  refine copy_w X W A c (K := K) (tr (walk_weights X W A c) ?_)
  refine load_x X A c (K := K) (tr (walk_beside X W A c) ?_)
  refine gemm_step X W A c (K := K) (k0_off1_eq c) (prod_own X W c c (self_ne c)) ?_
  refine ring_recv X A c (K := K) (by decide) rfl rfl rfl ?_
  rw [k0_part7_eq_skeleton]; unfold k0_part7_skel
  simp only [Prog.lift, Prog.bind_op, Prog.bind_ret, Prog.pure_eq_ret, Prog.bind_assoc]
  refine ring_send X A c (K := K) (by decide) (by decide) (by decide +kernel) rfl rfl (ends_rr X c _ _ _ _ (by decide) rfl rfl rfl rfl rfl) ?_
  refine ring_recv X A c (K := K) (by decide) rfl rfl rfl ?_
  refine ring_send X A c (K := K) (by decide) (by decide) (by decide +kernel) rfl rfl (ends_ll X c _ _ _ _ (by decide) rfl rfl rfl rfl rfl) ?_
  rw [k0_part8_eq_skeleton]; unfold k0_part8_skel
  simp only [Prog.lift, Prog.bind_op, Prog.bind_ret, Prog.pure_eq_ret, Prog.bind_assoc]
  refine ring_recv X A c (K := K) (by decide) rfl rfl rfl ?_
  refine ring_send X A c (K := K) (by decide) (by decide) (by decide +kernel) rfl rfl (ends_rr X c _ _ _ _ (by decide) rfl rfl rfl rfl rfl) ?_
  rw [k0_part9_eq_skeleton]; unfold k0_part9_skel
  simp only [Prog.lift, Prog.bind_op, Prog.bind_ret, Prog.pure_eq_ret, Prog.bind_assoc]
  refine ring_recv X A c (K := K) (by decide) rfl rfl rfl ?_
  refine ring_send X A c (K := K) (by decide) (by decide) (by decide +kernel) rfl rfl (ends_ll X c _ _ _ _ (by decide) rfl rfl rfl rfl rfl) ?_
  refine skip_pure ⟨_, rfl⟩ fun _ => ?_
  refine skip_pure ⟨_, rfl⟩ fun _ => ?_
  rw [k0_part12_eq_skeleton]; unfold k0_part12_skel
  simp only [Prog.lift, Prog.bind_op, Prog.bind_ret, Prog.pure_eq_ret, Prog.bind_assoc]
  refine load_r X A c (K := K) (n := 0) rfl (by decide) (cov false (h := 0) (by decide)) (by decide) ?_
  refine gemm_step X W A c (K := K) (off2 c (by decide)) (pay_block X W false c (h := 0) (by decide)) ?_
  refine load_l X A c (K := K) (n := 1) rfl (by decide) (cov true (h := 0) (by decide)) (by decide) ?_
  refine gemm_step X W A c (K := K) (off3 c (by decide)) (pay_block X W true c (h := 0) (by decide)) ?_
  rw [k0_part13_eq_skeleton]; unfold k0_part13_skel
  simp only [Prog.lift, Prog.bind_op, Prog.bind_ret, Prog.pure_eq_ret, Prog.bind_assoc]
  refine ring_recv X A c (K := K) (by decide) rfl rfl rfl ?_
  refine ring_send X A c (K := K) (by decide) (by decide) (by decide +kernel) rfl rfl (ends_rr X c _ _ _ _ (by decide) rfl rfl rfl rfl rfl) ?_
  rw [k0_part14_eq_skeleton]; unfold k0_part14_skel
  simp only [Prog.lift, Prog.bind_op, Prog.bind_ret, Prog.pure_eq_ret, Prog.bind_assoc]
  refine ring_recv X A c (K := K) (by decide) rfl rfl rfl ?_
  refine ring_send X A c (K := K) (by decide) (by decide) (by decide +kernel) rfl rfl (ends_ll X c _ _ _ _ (by decide) rfl rfl rfl rfl rfl) ?_
  refine ring_recv X A c (K := K) (by decide) rfl rfl rfl ?_
  rw [k0_part15_eq_skeleton]; unfold k0_part15_skel
  simp only [Prog.lift, Prog.bind_op, Prog.bind_ret, Prog.pure_eq_ret, Prog.bind_assoc]
  refine ring_send X A c (K := K) (by decide) (by decide) (by decide +kernel) rfl rfl (ends_rr X c _ _ _ _ (by decide) rfl rfl rfl rfl rfl) ?_
  refine ring_recv X A c (K := K) (by decide) rfl rfl rfl ?_
  refine ring_send X A c (K := K) (by decide) (by decide) (by decide +kernel) rfl rfl (ends_ll X c _ _ _ _ (by decide) rfl rfl rfl rfl rfl) ?_
  refine skip_pure ⟨_, rfl⟩ fun _ => ?_
  refine skip_pure ⟨_, rfl⟩ fun _ => ?_
  rw [k0_part18_eq_skeleton]; unfold k0_part18_skel
  simp only [Prog.lift, Prog.bind_op, Prog.bind_ret, Prog.pure_eq_ret, Prog.bind_assoc]
  refine load_r X A c (K := K) (n := 4) rfl (by decide) (cov false (h := 1) (by decide)) (by decide) ?_
  refine gemm_step X W A c (K := K) (off2 c (by decide)) (pay_block X W false c (h := 1) (by decide)) ?_
  rw [k0_part19_eq_skeleton]; unfold k0_part19_skel
  simp only [Prog.lift, Prog.bind_op, Prog.bind_ret, Prog.pure_eq_ret, Prog.bind_assoc]
  refine load_l X A c (K := K) (n := 5) rfl (by decide) (cov true (h := 1) (by decide)) (by decide) ?_
  refine gemm_step X W A c (K := K) (off3 c (by decide)) (pay_block X W true c (h := 1) (by decide)) ?_
  refine ring_recv X A c (K := K) (by decide) rfl rfl rfl ?_
  rw [k0_part20_eq_skeleton]; unfold k0_part20_skel
  simp only [Prog.lift, Prog.bind_op, Prog.bind_ret, Prog.pure_eq_ret, Prog.bind_assoc]
  refine ring_send X A c (K := K) (by decide) (by decide) (by decide +kernel) rfl rfl (ends_rr X c _ _ _ _ (by decide) rfl rfl rfl rfl rfl) ?_
  refine ring_recv X A c (K := K) (by decide) rfl rfl rfl ?_
  refine ring_send X A c (K := K) (by decide) (by decide) (by decide +kernel) rfl rfl (ends_ll X c _ _ _ _ (by decide) rfl rfl rfl rfl rfl) ?_
  rw [k0_part21_eq_skeleton]; unfold k0_part21_skel
  simp only [Prog.lift, Prog.bind_op, Prog.bind_ret, Prog.pure_eq_ret, Prog.bind_assoc]
  refine ring_recv X A c (K := K) (by decide) rfl rfl rfl ?_
  refine ring_send X A c (K := K) (by decide) (by decide) (by decide +kernel) rfl rfl (ends_rr X c _ _ _ _ (by decide) rfl rfl rfl rfl rfl) ?_
  refine ring_recv X A c (K := K) (by decide) rfl rfl rfl ?_
  rw [k0_part22_eq_skeleton]; unfold k0_part22_skel
  simp only [Prog.lift, Prog.bind_op, Prog.bind_ret, Prog.pure_eq_ret, Prog.bind_assoc]
  refine ring_send X A c (K := K) (by decide) (by decide) (by decide +kernel) rfl rfl (ends_ll X c _ _ _ _ (by decide) rfl rfl rfl rfl rfl) ?_
  refine skip_pure ⟨_, rfl⟩ fun _ => ?_
  refine skip_pure ⟨_, rfl⟩ fun _ => ?_
  rw [k0_part25_eq_skeleton]; unfold k0_part25_skel
  simp only [Prog.lift, Prog.bind_op, Prog.bind_ret, Prog.pure_eq_ret, Prog.bind_assoc]
  refine load_r X A c (K := K) (n := 8) rfl (by decide) (cov false (h := 2) (by decide)) (by decide) ?_
  refine gemm_step X W A c (K := K) (off2 c (by decide)) (pay_block X W false c (h := 2) (by decide)) ?_
  refine load_l X A c (K := K) (n := 9) rfl (by decide) (cov true (h := 2) (by decide)) (by decide) ?_
  refine gemm_step X W A c (K := K) (off3 c (by decide)) (pay_block X W true c (h := 2) (by decide)) ?_
  rw [k0_part26_eq_skeleton]; unfold k0_part26_skel
  simp only [Prog.lift, Prog.bind_op, Prog.bind_ret, Prog.pure_eq_ret, Prog.bind_assoc]
  refine ring_recv X A c (K := K) (by decide) rfl rfl rfl ?_
  refine ring_send X A c (K := K) (by decide) (by decide) (by decide +kernel) rfl rfl (ends_rr X c _ _ _ _ (by decide) rfl rfl rfl rfl rfl) ?_
  refine ring_recv X A c (K := K) (by decide) rfl rfl rfl ?_
  rw [k0_part27_eq_skeleton]; unfold k0_part27_skel
  simp only [Prog.lift, Prog.bind_op, Prog.bind_ret, Prog.pure_eq_ret, Prog.bind_assoc]
  refine ring_send X A c (K := K) (by decide) (by decide) (by decide +kernel) rfl rfl (ends_ll X c _ _ _ _ (by decide) rfl rfl rfl rfl rfl) ?_
  refine ring_recv X A c (K := K) (by decide) rfl rfl rfl ?_
  rw [k0_part28_eq_skeleton]; unfold k0_part28_skel
  simp only [Prog.lift, Prog.bind_op, Prog.bind_ret, Prog.pure_eq_ret, Prog.bind_assoc]
  refine ring_send X A c (K := K) (by decide) (by decide) (by decide +kernel) rfl rfl (ends_rr X c _ _ _ _ (by decide) rfl rfl rfl rfl rfl) ?_
  refine ring_recv X A c (K := K) (by decide) rfl rfl rfl ?_
  refine ring_send X A c (K := K) (by decide) (by decide) (by decide +kernel) rfl rfl (ends_ll X c _ _ _ _ (by decide) rfl rfl rfl rfl rfl) ?_
  refine skip_pure ⟨_, rfl⟩ fun _ => ?_
  refine skip_pure ⟨_, rfl⟩ fun _ => ?_
  rw [k0_part31_eq_skeleton]; unfold k0_part31_skel
  simp only [Prog.lift, Prog.bind_op, Prog.bind_ret, Prog.pure_eq_ret, Prog.bind_assoc]
  refine load_r X A c (K := K) (n := 12) rfl (by decide) (cov false (h := 3) (by decide)) (by decide) ?_
  refine gemm_step X W A c (K := K) (off2 c (by decide)) (pay_block X W false c (h := 3) (by decide)) ?_
  rw [k0_part32_eq_skeleton]; unfold k0_part32_skel
  simp only [Prog.lift, Prog.bind_op, Prog.bind_ret, Prog.pure_eq_ret, Prog.bind_assoc]
  refine load_l X A c (K := K) (n := 13) rfl (by decide) (cov true (h := 3) (by decide)) (by decide) ?_
  refine gemm_step X W A c (K := K) (off3 c (by decide)) (pay_block X W true c (h := 3) (by decide)) ?_
  refine ring_recv X A c (K := K) (by decide) rfl rfl rfl ?_
  rw [k0_part33_eq_skeleton]; unfold k0_part33_skel
  simp only [Prog.lift, Prog.bind_op, Prog.bind_ret, Prog.pure_eq_ret, Prog.bind_assoc]
  refine ring_send X A c (K := K) (by decide) (by decide) (by decide +kernel) rfl rfl (ends_rr X c _ _ _ _ (by decide) rfl rfl rfl rfl rfl) ?_
  refine ring_recv X A c (K := K) (by decide) rfl rfl rfl ?_
  refine ring_send X A c (K := K) (by decide) (by decide) (by decide +kernel) rfl rfl (ends_ll X c _ _ _ _ (by decide) rfl rfl rfl rfl rfl) ?_
  rw [k0_part34_eq_skeleton]; unfold k0_part34_skel
  simp only [Prog.lift, Prog.bind_op, Prog.bind_ret, Prog.pure_eq_ret, Prog.bind_assoc]
  refine ring_recv X A c (K := K) (by decide) rfl rfl rfl ?_
  refine ring_send X A c (K := K) (by decide) (by decide) (by decide +kernel) rfl rfl (ends_rr X c _ _ _ _ (by decide) rfl rfl rfl rfl rfl) ?_
  refine ring_recv X A c (K := K) (by decide) rfl rfl rfl ?_
  rw [k0_part35_eq_skeleton]; unfold k0_part35_skel
  simp only [Prog.lift, Prog.bind_op, Prog.bind_ret, Prog.pure_eq_ret, Prog.bind_assoc]
  refine ring_send X A c (K := K) (by decide) (by decide) (by decide +kernel) rfl rfl (ends_ll X c _ _ _ _ (by decide) rfl rfl rfl rfl rfl) ?_
  refine skip_pure ⟨_, rfl⟩ fun _ => ?_
  refine skip_pure ⟨_, rfl⟩ fun _ => ?_
  rw [k0_part38_eq_skeleton]; unfold k0_part38_skel
  simp only [Prog.lift, Prog.bind_op, Prog.bind_ret, Prog.pure_eq_ret, Prog.bind_assoc]
  refine load_r X A c (K := K) (n := 16) rfl (by decide) (cov false (h := 4) (by decide)) (by decide) ?_
  refine gemm_step X W A c (K := K) (off2 c (by decide)) (pay_block X W false c (h := 4) (by decide)) ?_
  refine load_l X A c (K := K) (n := 17) rfl (by decide) (cov true (h := 4) (by decide)) (by decide) ?_
  refine gemm_step X W A c (K := K) (off3 c (by decide)) (pay_block X W true c (h := 4) (by decide)) ?_
  rw [k0_part39_eq_skeleton]; unfold k0_part39_skel
  simp only [Prog.lift, Prog.bind_op, Prog.bind_ret, Prog.pure_eq_ret, Prog.bind_assoc]
  refine ring_recv X A c (K := K) (by decide) rfl rfl rfl ?_
  refine ring_send X A c (K := K) (by decide) (by decide) (by decide +kernel) rfl rfl (ends_rr X c _ _ _ _ (by decide) rfl rfl rfl rfl rfl) ?_
  refine ring_recv X A c (K := K) (by decide) rfl rfl rfl ?_
  rw [k0_part40_eq_skeleton]; unfold k0_part40_skel
  simp only [Prog.lift, Prog.bind_op, Prog.bind_ret, Prog.pure_eq_ret, Prog.bind_assoc]
  refine ring_send X A c (K := K) (by decide) (by decide) (by decide +kernel) rfl rfl (ends_ll X c _ _ _ _ (by decide) rfl rfl rfl rfl rfl) ?_
  refine ring_recv X A c (K := K) (by decide) rfl rfl rfl ?_
  rw [k0_part41_eq_skeleton]; unfold k0_part41_skel
  simp only [Prog.lift, Prog.bind_op, Prog.bind_ret, Prog.pure_eq_ret, Prog.bind_assoc]
  refine ring_send X A c (K := K) (by decide) (by decide) (by decide +kernel) rfl rfl (ends_rr X c _ _ _ _ (by decide) rfl rfl rfl rfl rfl) ?_
  refine ring_recv X A c (K := K) (by decide) rfl rfl rfl ?_
  refine ring_send X A c (K := K) (by decide) (by decide) (by decide +kernel) rfl rfl (ends_ll X c _ _ _ _ (by decide) rfl rfl rfl rfl rfl) ?_
  refine skip_pure ⟨_, rfl⟩ fun _ => ?_
  refine skip_pure ⟨_, rfl⟩ fun _ => ?_
  rw [k0_part44_eq_skeleton]; unfold k0_part44_skel
  simp only [Prog.lift, Prog.bind_op, Prog.bind_ret, Prog.pure_eq_ret, Prog.bind_assoc]
  refine load_r X A c (K := K) (n := 20) rfl (by decide) (cov false (h := 5) (by decide)) (by decide) ?_
  refine gemm_step X W A c (K := K) (off2 c (by decide)) (pay_block X W false c (h := 5) (by decide)) ?_
  refine load_l X A c (K := K) (n := 21) rfl (by decide) (cov true (h := 5) (by decide)) (by decide) ?_
  rw [k0_part45_eq_skeleton]; unfold k0_part45_skel
  simp only [Prog.lift, Prog.bind_op, Prog.bind_ret, Prog.pure_eq_ret, Prog.bind_assoc]
  refine gemm_step X W A c (K := K) (off3 c (by decide)) (pay_block X W true c (h := 5) (by decide)) ?_
  refine ring_recv X A c (K := K) (by decide) rfl rfl rfl ?_
  rw [k0_part46_eq_skeleton]; unfold k0_part46_skel
  simp only [Prog.lift, Prog.bind_op, Prog.bind_ret, Prog.pure_eq_ret, Prog.bind_assoc]
  refine ring_send X A c (K := K) (by decide) (by decide) (by decide +kernel) rfl rfl (ends_rr X c _ _ _ _ (by decide) rfl rfl rfl rfl rfl) ?_
  refine ring_recv X A c (K := K) (by decide) rfl rfl rfl ?_
  refine ring_send X A c (K := K) (by decide) (by decide) (by decide +kernel) rfl rfl (ends_ll X c _ _ _ _ (by decide) rfl rfl rfl rfl rfl) ?_
  rw [k0_part47_eq_skeleton]; unfold k0_part47_skel
  simp only [Prog.lift, Prog.bind_op, Prog.bind_ret, Prog.pure_eq_ret, Prog.bind_assoc]
  refine ring_recv X A c (K := K) (by decide) rfl rfl rfl ?_
  refine ring_send X A c (K := K) (by decide) (by decide) (by decide +kernel) rfl rfl (ends_rr X c _ _ _ _ (by decide) rfl rfl rfl rfl rfl) ?_
  refine ring_recv X A c (K := K) (by decide) rfl rfl rfl ?_
  rw [k0_part48_eq_skeleton]; unfold k0_part48_skel
  simp only [Prog.lift, Prog.bind_op, Prog.bind_ret, Prog.pure_eq_ret, Prog.bind_assoc]
  refine ring_send X A c (K := K) (by decide) (by decide) (by decide +kernel) rfl rfl (ends_ll X c _ _ _ _ (by decide) rfl rfl rfl rfl rfl) ?_
  refine skip_pure ⟨_, rfl⟩ fun _ => ?_
  refine skip_pure ⟨_, rfl⟩ fun _ => ?_
  rw [k0_part51_eq_skeleton]; unfold k0_part51_skel
  simp only [Prog.lift, Prog.bind_op, Prog.bind_ret, Prog.pure_eq_ret, Prog.bind_assoc]
  refine load_r X A c (K := K) (n := 24) rfl (by decide) (cov false (h := 6) (by decide)) (by decide) ?_
  refine gemm_step X W A c (K := K) (off2 c (by decide)) (pay_block X W false c (h := 6) (by decide)) ?_
  refine load_l X A c (K := K) (n := 25) rfl (by decide) (cov true (h := 6) (by decide)) (by decide) ?_
  refine gemm_step X W A c (K := K) (off3 c (by decide)) (pay_block X W true c (h := 6) (by decide)) ?_
  rw [k0_part52_eq_skeleton]; unfold k0_part52_skel
  simp only [Prog.lift, Prog.bind_op, Prog.bind_ret, Prog.pure_eq_ret, Prog.bind_assoc]
  refine ring_recv X A c (K := K) (by decide) rfl rfl rfl ?_
  refine ring_recv X A c (K := K) (by decide) rfl rfl rfl ?_
  refine ring_recv X A c (K := K) (by decide) rfl rfl rfl ?_
  rw [k0_part53_eq_skeleton]; unfold k0_part53_skel
  simp only [Prog.lift, Prog.bind_op, Prog.bind_ret, Prog.pure_eq_ret, Prog.bind_assoc]
  refine ring_recv X A c (K := K) (by decide) rfl rfl rfl ?_
  rw [k0_part54_eq_skeleton]; unfold k0_part54_skel
  simp only [Prog.lift, Prog.bind_op, Prog.bind_ret, Prog.pure_eq_ret, Prog.bind_assoc]
  refine load_r X A c (K := K) (n := 28) rfl (by decide) cov_r (by decide) ?_
  refine gemm_step X W A c (K := K) (off4 c) (pay_first X W c) ?_
  refine load_l X A c (K := K) (n := 29) rfl (by decide) cov_l (by decide) ?_
  rw [k0_part55_eq_skeleton]; unfold k0_part55_skel
  simp only [Prog.lift, Prog.bind_op, Prog.bind_ret, Prog.pure_eq_ret, Prog.bind_assoc]
  refine gemm_step X W A c (K := K) (off5 c) (pay_second X W c) ?_
  refine tr (walk_sent X A c rfl rfl) ?_
  iterate 2 refine range_wait X A 0 0 32 34 c (K := K) (by decide) (by decide) (by decide) rfl (fun _ => by decide) rfl rfl ?_
  rw [k0_part56_eq_skeleton]; unfold k0_part56_skel
  simp only [Prog.lift, Prog.bind_op, Prog.bind_ret, Prog.pure_eq_ret, Prog.bind_assoc]
  iterate 4 refine range_wait X A 0 0 32 34 c (K := K) (by decide) (by decide) (by decide) rfl (fun _ => by decide) rfl rfl ?_
  rw [k0_part57_eq_skeleton]; unfold k0_part57_skel
  simp only [Prog.lift, Prog.bind_op, Prog.bind_ret, Prog.pure_eq_ret, Prog.bind_assoc]
  iterate 3 refine range_wait X A 0 0 32 34 c (K := K) (by decide) (by decide) (by decide) rfl (fun _ => by decide) rfl rfl ?_
  rw [k0_part58_eq_skeleton]; unfold k0_part58_skel
  simp only [Prog.lift, Prog.bind_op, Prog.bind_ret, Prog.pure_eq_ret, Prog.bind_assoc]
  iterate 3 refine range_wait X A 0 0 32 34 c (K := K) (by decide) (by decide) (by decide) rfl (fun _ => by decide) rfl rfl ?_
  rw [k0_part59_eq_skeleton]; unfold k0_part59_skel
  simp only [Prog.lift, Prog.bind_op, Prog.bind_ret, Prog.pure_eq_ret, Prog.bind_assoc]
  iterate 4 refine range_wait X A 0 0 32 34 c (K := K) (by decide) (by decide) (by decide) rfl (fun _ => by decide) rfl rfl ?_
  rw [k0_part60_eq_skeleton]; unfold k0_part60_skel
  simp only [Prog.lift, Prog.bind_op, Prog.bind_ret, Prog.pure_eq_ret, Prog.bind_assoc]
  iterate 3 refine range_wait X A 0 0 32 34 c (K := K) (by decide) (by decide) (by decide) rfl (fun _ => by decide) rfl rfl ?_
  exact hk _

end Run

end Cert.Mesh
end
-- ==== Proof.Tail.lean ====
/-
# The maxima and the quantised result

A device's run from its last product: the transfers sent are waited for, the maxima go to every other device and the
product is scaled, cut, rounded and scaled back.
-/
module

public import proofs.«01_k».proof.Proof.Walk

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → S256x4096.Idx → Elt F .bf16) (W : Dev nD → S4096x128.Idx → Elt F .bf16) (A : Dev nD → S1x8x128.Idx → Elt F .f32)
variable {K : Dev nD × Fin 97 → ℕ}

/-! ## All rows of the product are there -/

theorem rows_cover : ∀ (c : Dev nD) (r : Fin 32), ∃ p ∈ allRows c, p.1 ≤ 128 * r.val ∧ 128 * r.val + 128 ≤ p.1 + p.2 := by decide +kernel

theorem gemm_all (c : Dev nD) : gemmSt X W c (allRows c)
    ⊢ iprop((((c : Thread nD τ).loc cc0_scratch1) ↦[Finset.univ]{fullShare} W c) ∗ (((c : Thread nD τ).loc cc0_stg2_0) ↦[Finset.univ]{fullShare} prod X W c)) := by
  unfold gemmSt outIs
  iintro ⟨H1, ⟨%f, %hf, H2⟩⟩
  have hfe : f = prod X W c := by
    funext i
    have hi : (i 0).val < 4096 := (i 0).isLt
    obtain ⟨p, hp, h1, h2⟩ := rows_cover c ⟨(i 0).val / 128, by omega⟩
    exact hf i ⟨p, hp, by simp only at h1; omega, by simp only at h2; omega⟩
  rw [hfe]
  isplitl [H1] <;> iassumption

/-- The result. -/
def result (c : Dev nD) : S4096x128.Idx → Elt F .f32 :=
  k0_pay44 (k0_pay42 (amaxes A c)) (k0_pay43 (amaxes A c) (prod X W c)) (Scalar.ofBits .f32 0x43E00000#32)

/-- What the exchange of the maxima leaves alone. -/
def kept (c : Dev nD) : sProp 𝕄 :=
  iprop(((((c : Thread nD τ).loc cc0_stg0_0) ↦[Finset.univ]{fullShare} X c) ∗ (((c : Thread nD τ).loc cc0_stg1_0) ↦[Finset.univ]{fullShare} W c) ∗ (((c : Thread nD τ).loc cc0_scratch1) ↦[Finset.univ]{fullShare} W c))
    ∗ (bigSep (Finset.Ico 0 32) (keep X c) ∗ bigSep (Finset.Ico 0 32) (Mesh.rest X c) ∗ bigSep (Finset.Ico 0 32) (Mesh.src X c) ∗ (ringFree false c (home false) ∗ ringFree true c (home true))
      ∗ xPts c fullShare.left Finset.univ (X c))
    ∗ (atPos ER (cell c 64) 0 ∅ 0 ∗ atPos ER (cell c 80) 0 ∅ 0)
    ∗ (bigSep (Finset.Ico 0 32) (zero (F := F) c) ∗ bigSep (Finset.Ico 0 32) (fun n => zero (F := F) c (32 + n)) ∗ semVal (cell c 96) 0))

theorem tail_a (c : Dev nD) : iprop(recs X A K ∗ waitSt X A 0 0 32 34 c 32 ∗ (bigSep (Finset.Ico 0 32) (keep X c) ∗ bigSep (Finset.Ico 0 32) (done X c)) ∗ gemmSt X W c (allRows c) ∗ beside X W c)
    ⊢ iprop(recs X A K ∗ slotAny c 0 ∗ (owesAt c 34 ∗ bigSep (Finset.Ico 1 16) (aTok0 (F := F) c) ∗ bigSep (Finset.Ico 1 16) (fun kk => slotFree (F := F) (c + Fin.ofNat 16 kk) c))
      ∗ bigSep (Finset.Ico 1 16) (fun n => pend (F := F) c (80 + n)) ∗ (((c : Thread nD τ).loc cc0_stg2_0) ↦[Finset.univ]{fullShare} prod X W c) ∗ kept X W c) := by
  rw [done_split]
  unfold beside aside kept
  iintro ⟨#HR, HW, ⟨Hk, ⟨Hz, Hf, Hr⟩⟩, HG, ⟨Hx, ⟨⟨Ht, Hp⟩, H6, Hh, Hs⟩, H96, H0, H1⟩⟩
  ihave HW' := (sends_back X A c) $$ HW; icases HW' with ⟨HO, Hz0, Hsrc⟩
  ihave HG' := (gemm_all X W c) $$ HG; icases HG' with ⟨Hw, H2⟩
  isplitr; · iexact HR
  isplitl [Hs]; · iexact Hs
  isplitl [HO Ht Hf]
  · isplitl [HO]; · iexact HO
    isplitl [Ht] <;> iassumption
  isplitl [Hp]; · iexact Hp
  isplitl [H2]; · iexact H2
  isplitl [H0 H1 Hw]
  · isplitl [H0]; · iexact H0
    isplitl [H1] <;> iassumption
  isplitl [Hk Hr Hsrc Hh Hx]
  · isplitl [Hk]; · iexact Hk
    isplitl [Hr]; · iexact Hr
    isplitl [Hsrc]; · iexact Hsrc
    isplitl [Hh] <;> iassumption
  isplitl [H6]; · iexact H6
  isplitl [Hz0]; · iexact Hz0
  isplitl [Hz] <;> iassumption

theorem tail_b (c : Dev nD) {R : sProp 𝕄} : iprop(recs X A K ∗ bigSep (Finset.Ico 0 16) (fun kk => slot A c (leafK kk) 0)
      ∗ (owesAt c 34 ∗ bigSep (Finset.Ico 1 16) (aTok0 (F := F) c) ∗ bigSep (Finset.Ico 1 16) (fun kk => slotFree (F := F) (c + Fin.ofNat 16 kk) c)) ∗ R)
    ⊢ iprop(recs X A K ∗ aSt A c 1 ∗ slot A c (leafK 0) 0 ∗ R) := by
  iintro ⟨#HR, HS, ⟨HO, Ht, Hf⟩, H⟩
  isplitr; · iexact HR
  ihave H' := (a_begin A c) $$ [HO Ht Hf HS]
  · isplitl [HO]; · iexact HO
    isplitl [Ht]; · iexact Ht
    isplitl [Hf] <;> iassumption
  icases H' with ⟨H1, H2⟩
  isplitl [H1]; · iexact H1
  isplitl [H2] <;> iassumption

theorem tail_c (c : Dev nD) {S R : sProp 𝕄} : iprop(recs X A K ∗ aSt A c 16 ∗ S ∗ bigSep (Finset.Ico 1 16) (fun n => pend (F := F) c (80 + n)) ∗ R)
    ⊢ iprop(recs X A K ∗ waitSt X A 80 1 16 49 c 1 ∗ bigSep (Finset.Ico 1 16) (fun kk => pend (F := F) c (64 + kk)) ∗ S ∗ R) := by
  iintro ⟨#HR, HS, Hs, Hp, H⟩
  isplitr; · iexact HR
  ihave H' := (a_sent X A c) $$ [HS Hp]
  · isplitl [HS] <;> iassumption
  icases H' with ⟨H1, H2⟩
  isplitl [H1]; · iexact H1
  isplitl [H2]; · iexact H2
  isplitl [Hs] <;> iassumption

theorem tail_d (c : Dev nD) {R : sProp 𝕄} : iprop(recs X A K ∗ waitSt X A 80 1 16 49 c 16 ∗ bigSep (Finset.Ico 1 16) (fun kk => pend (F := F) c (64 + kk)) ∗ slot A c (leafK 0) 0 ∗ R)
    ⊢ iprop(recs X A K ∗ waitSt X A 64 1 16 49 c 1 ∗ aPts c (leafK 0) Finset.univ (amaxes A c)
      ∗ R ∗ bigSep (Finset.Ico 1 16) (fun j => bigSep (Finset.Ico 1 16) (fun k => slot A c (leafK k) j)) ∗ bigSep (Finset.Ico 1 16) (fun j => zero (F := F) c (80 + j))) := by
  iintro ⟨#HR, HW, Hp, Hs, H⟩
  isplitr; · iexact HR
  ihave H' := (a_here X A c) $$ [HW Hp]
  · isplitl [HW] <;> iassumption
  icases H' with ⟨H1, H2, H3⟩
  isplitl [H1]; · iexact H1
  ihave H4 := (Entails.of_eq (a_read A c)) $$ [Hs H3]
  · isplitl [Hs] <;> iassumption
  icases H4 with ⟨H4, H5⟩
  isplitl [H4]; · iexact H4
  isplitl [H]; · iexact H
  isplitl [H5] <;> iassumption

/-- The buffers as a device leaves them. -/
def memPost (c : Dev nD) : sProp 𝕄 :=
  iprop(((((c : Thread nD τ).loc cc0_stg0_0) ↦[Finset.univ]{fullShare} X c) ∗ (((c : Thread nD τ).loc cc0_stg1_0) ↦[Finset.univ]{fullShare} W c) ∗ (((c : Thread nD τ).loc cc0_stg2_0) ↦[Finset.univ]{fullShare} result X W A c))
    ∗ (∃ f, xPts c fullShare Finset.univ f) ∗ (∃ f : Buf (Elt F) ((c : Thread nD τ).loc cc0_scratch1), (((c : Thread nD τ).loc cc0_scratch1) ↦[Finset.univ]{fullShare} f))
    ∗ (ringFree false c Finset.univ ∗ ringFree true c Finset.univ) ∗ ∃ f, aPts c fullShare Finset.univ f)

/-- The semaphores as a device leaves them. -/
def semPost (c : Dev nD) : sProp 𝕄 :=
  iprop((bigSep (Finset.Ico 0 32) (zero (F := F) c) ∗ bigSep (Finset.Ico 0 32) (fun n => zero (F := F) c (32 + n)) ∗ semVal (cell c 96) 0)
    ∗ (zero c 64 ∗ bigSep (Finset.Ico 1 16) (fun n => zero (F := F) c (64 + n))) ∗ (zero c 80 ∗ bigSep (Finset.Ico 1 16) (fun n => zero (F := F) c (80 + n))))

theorem tail_e (c : Dev nD) : iprop(recs X A K ∗ waitSt X A 64 1 16 49 c 16 ∗ aPts c (leafK 0) Finset.univ (amaxes A c)
      ∗ ((((c : Thread nD τ).loc cc0_stg2_0) ↦[Finset.univ]{fullShare} result X W A c) ∗ kept X W c) ∗ bigSep (Finset.Ico 1 16) (fun j => bigSep (Finset.Ico 1 16) (fun k => slot A c (leafK k) j)) ∗ bigSep (Finset.Ico 1 16) (fun j => zero (F := F) c (80 + j)))
    ⊢ iprop(|={Set.univ}=> (memPost X W A c ∗ owesAt c 49 ∗ semPost c)) := by
  unfold kept memPost semPost
  iintro ⟨#HR, HW, Ha, ⟨H2, ⟨⟨H0, H1, Hw⟩, Hring, ⟨Hp, Hq⟩, Hz⟩⟩, Hl, Hz80⟩
  ihave HW' := (a_back X A c) $$ HW; icases HW' with ⟨HO, Hz64, Hs0⟩
  ihave Hc := (Entails.of_eq (a_read A c).symm) $$ [Ha Hl]
  · isplitl [Ha] <;> iassumption
  icases Hc with ⟨Ha, Hl⟩
  ihave Hf := (a_final A c) $$ [Ha Hs0 Hl]
  · isplitl [Ha]; · iexact Ha
    isplitl [Hs0] <;> iassumption
  ihave Hr := (ring_end X c) $$ Hring
  icases Hr with ⟨Hr, Hx⟩
  imod (close_unused X A c (K := K) (i := 64) (by decide) rfl) $$ [Hp] with H64
  · isplitr; · iexact HR
    iexact Hp
  imod (close_unused X A c (K := K) (i := 80) (by decide) rfl) $$ [Hq] with H80
  · isplitr; · iexact HR
    iexact Hq
  imodintro
  isplitl [H0 H1 H2 Hx Hw Hr Hf]
  · isplitl [H0 H1 H2]
    · isplitl [H0]; · iexact H0
      isplitl [H1] <;> iassumption
    isplitl [Hx]; · iexists (X c); iexact Hx
    isplitl [Hw]; · iexists (W c); iexact Hw
    isplitl [Hr] <;> iassumption
  isplitl [HO]; · iexact HO
  isplitl [Hz]; · iexact Hz
  isplitl [H64 Hz64]
  · isplitl [H64] <;> iassumption
  isplitl [H80] <;> iassumption

section Run

variable {α : Type}

/-- All transfers have left. -/
theorem walk_done (c : Dev nD) {j : ℕ} (hj : j = 32) : iprop(recs X A K ∗ waitSt X A 0 0 32 34 c j ∗ (bigSep (Finset.Ico 0 32) (keep X c) ∗ bigSep (Finset.Ico 0 32) (done X c)) ∗ gemmSt X W c (allRows c) ∗ beside X W c)
    ⊢ iprop(recs X A K ∗ slotAny c 0 ∗ (owesAt c 34 ∗ bigSep (Finset.Ico 1 16) (aTok0 (F := F) c) ∗ bigSep (Finset.Ico 1 16) (fun kk => slotFree (F := F) (c + Fin.ofNat 16 kk) c))
      ∗ bigSep (Finset.Ico 1 16) (fun n => pend (F := F) c (80 + n)) ∗ (((c : Thread nD τ).loc cc0_stg2_0) ↦[Finset.univ]{fullShare} prod X W c) ∗ kept X W c) := by
  subst hj; exact tail_a X W A c

/-- The device's own maximum goes to its slot 0. -/
theorem store_a (c : Dev nD) {R : sProp 𝕄} {Q : α → sProp 𝕄} {inb inb' : AIn 0} {hl : aM.view.LoadsAt (aRect 0 inb).toLoadRect} {w : S1x8x128.Idx → Elt F .f32}
    {hx : (aM.access (aRect 0 inb')).Stores Finset.univ} {hm : (Finset.univ : Finset (aRect 0 inb').shape.Idx) = Finset.univ ∨ ∀ a, (aRect 0 inb').stride a = 1}
    {kk : PUnit → Prog (TpuEff nD τ sig (Elt F) Λ₀ .tc) α} (hw : ∀ x, w x = A c x)
    (hk : iprop(recs X A K ∗ bigSep (Finset.Ico 0 16) (fun kk => slot A c (leafK kk) 0) ∗ R) ⊢ wp frame (wpE (defs₀ (F := F)) 𝒱₀ (c : Thread nD τ) none) Set.univ (kk ⟨⟩) Q) :
    iprop(recs X A K ∗ slotAny c 0 ∗ R) ⊢ wp frame (wpE (defs₀ (F := F)) 𝒱₀ (c : Thread nD τ) none) Set.univ (.op (.load aM (aRect 0 inb).toLoadRect hl) fun _ => .op (.store aM (aRect 0 inb') w Finset.univ hx hm) kk) Q := by
  have hset (inb : AIn 0) : aM.view.setOn (aRect 0 inb).toLoadRect.set = aslab 0 := by
    have e1 : (aM.view.slice (aRect 0 inb)).set = (aRect 0 inb).set := View.set_slice_whole _ _
    rw [View.set_slice] at e1; exact e1.trans (aRect_set inb)
  have hset' : (aM.access (aRect 0 inb')).set = aslab 0 := (View.set_slice_whole _ _).trans (aRect_set inb')
  have hval (f : S16x8x128.Idx → Elt F .f32) : ∀ i ∈ aslab 0, (aM.access (aRect 0 inb')).write (Elt F) f w Finset.univ i = amaxes A c i := by
    intro i hi
    rw [mem_aslab] at hi
    let x : (⟨3, ![1, 8, 128]⟩ : Shape).Idx := ix3 0 (i 1) (i 2)
    have hix : (ix3 ⟨0, by omega⟩ (x 1) (x 2) : S16x8x128.Idx) = i := by
      funext a; fin_cases a
      · exact Fin.ext hi.symm
      · rfl
      · rfl
    have hex : (aM.access (aRect 0 inb')).emb x = i := (aRect_emb inb' x (by omega)).trans hix
    refine ((congrArg ((aM.access (aRect 0 inb')).write (Elt F) f w Finset.univ) hex.symm).trans (View.write_emb_of_mem _ _ (Finset.mem_univ x))).trans ((hw x).trans ?_)
    show A c (ix3 0 (i 1) (i 2)) = A (c + Fin.ofNat 16 (i 0).val) (ix3 0 (i 1) (i 2))
    rw [hi, show c + Fin.ofNat 16 0 = c from add_zero c]
  unfold slotAny
  iintro ⟨#HR, ⟨%f, HS⟩, H⟩
  unfold aPts
  iapply (wp_load 𝒱₀ (c : Thread nD τ) none Set.univ (m := aM) (le_of_eq (hset inb))) $$ HS
  iintro HS
  iapply (wp_store 𝒱₀ (c : Thread nD τ) none Set.univ (m := aM) (r := aRect 0 inb') (Mk := Finset.univ) (le_of_eq hset')) $$ HS
  rw [show (((aM.access (aRect 0 inb')).loc (c : Thread nD τ)) ↦[aslab 0]{fullShare} ((aM.access (aRect 0 inb')).write (Elt F) f w Finset.univ) : sProp 𝕄) = slot A c fullShare 0 from
    pointsTo_congr (hval f), slot_leaves]
  iintro HS
  iapply hk
  isplitr; · iexact HR
  isplitl [HS] <;> iassumption

/-- A load of all maxima. -/
theorem load_a (c : Dev nD) {P R : sProp 𝕄} {Q : α → sProp 𝕄} {q : PosShare TreeShare} {inb : ∀ a, (![0, 0, 0] : Fin 3 → ℕ) a + S16x8x128.size a ≤ S16x8x128.size a}
    {hl : aM.view.LoadsAt (Rect.unit (s := S16x8x128) ![0, 0, 0] S16x8x128.size inb).toLoadRect}
    {kk : (S16x8x128.Idx → Elt F .f32) → Prog (TpuEff nD τ sig (Elt F) Λ₀ .tc) α}
    (hk : iprop(recs X A K ∗ P ∗ aPts c q Finset.univ (amaxes A c) ∗ R) ⊢ wp frame (wpE (defs₀ (F := F)) 𝒱₀ (c : Thread nD τ) none) Set.univ (kk (amaxes A c)) Q) :
    iprop(recs X A K ∗ P ∗ aPts c q Finset.univ (amaxes A c) ∗ R)
      ⊢ wp frame (wpE (defs₀ (F := F)) 𝒱₀ (c : Thread nD τ) none) Set.univ (.op (.load aM (Rect.unit (s := S16x8x128) ![0, 0, 0] S16x8x128.size inb).toLoadRect hl) kk) Q := by
  unfold aPts at hk ⊢
  refine load_step c (m := aM) (R := iprop(recs X A K ∗ P ∗ R)) (S := Finset.univ) (q := q) (f := amaxes A c)
    (Finset.subset_univ _) (Memref.readAt_unit_zero (Elt F) cc0_scratch4 (by decide) inb (amaxes A c)) ?_ ?_ hk
  · iintro ⟨#HR, HP, Hx, H⟩
    isplitl [Hx]; · iexact Hx
    isplitr; · iexact HR
    isplitl [HP] <;> iassumption
  · iintro ⟨Hx, #HR, HP, H⟩
    isplitr; · iexact HR
    isplitl [HP]; · iexact HP
    isplitl [Hx] <;> iassumption

/-- A load of all of the result's buffer. -/
theorem load_o (c : Dev nD) {P G R R' : sProp 𝕄} {Q : α → sProp 𝕄} {f : S4096x128.Idx → Elt F .f32} {inb : ∀ a, (![0, 0] : Fin 2 → ℕ) a + S4096x128.size a ≤ S4096x128.size a}
    {hl : oM.view.LoadsAt (Rect.unit (s := S4096x128) ![0, 0] S4096x128.size inb).toLoadRect}
    {kk : (S4096x128.Idx → Elt F .f32) → Prog (TpuEff nD τ sig (Elt F) Λ₀ .tc) α}
    (hk : iprop(recs X A K ∗ P ∗ G ∗ ((((c : Thread nD τ).loc cc0_stg2_0) ↦[Finset.univ]{fullShare} f) ∗ R) ∗ R') ⊢ wp frame (wpE (defs₀ (F := F)) 𝒱₀ (c : Thread nD τ) none) Set.univ (kk f) Q) :
    iprop(recs X A K ∗ P ∗ G ∗ ((((c : Thread nD τ).loc cc0_stg2_0) ↦[Finset.univ]{fullShare} f) ∗ R) ∗ R')
      ⊢ wp frame (wpE (defs₀ (F := F)) 𝒱₀ (c : Thread nD τ) none) Set.univ (.op (.load oM (Rect.unit (s := S4096x128) ![0, 0] S4096x128.size inb).toLoadRect hl) kk) Q := by
  refine load_step c (m := oM) (R := iprop(recs X A K ∗ P ∗ G ∗ R ∗ R')) (S := Finset.univ) (q := fullShare) (f := f)
    (Finset.subset_univ _) (Memref.readAt_unit_zero (Elt F) cc0_stg2_0 (by decide) inb f) ?_ ?_ hk
  · iintro ⟨#HR, HP, HG, ⟨Hx, H⟩, H'⟩
    isplitl [Hx]; · iexact Hx
    isplitr; · iexact HR
    isplitl [HP]; · iexact HP
    isplitl [HG]; · iexact HG
    isplitl [H] <;> iassumption
  · iintro ⟨Hx, #HR, HP, HG, H, H'⟩
    isplitr; · iexact HR
    isplitl [HP]; · iexact HP
    isplitl [HG]; · iexact HG
    isplitl [Hx H]
    · isplitl [Hx] <;> iassumption
    iexact H'

/-- A store to all of the result's buffer. -/
theorem store_o (c : Dev nD) {P G R R' : sProp 𝕄} {Q : α → sProp 𝕄} {f w : S4096x128.Idx → Elt F .f32} {inb : ∀ a, (![0, 0] : Fin 2 → ℕ) a + S4096x128.size a ≤ S4096x128.size a}
    {hx : (oM.access (Rect.unit (s := S4096x128) ![0, 0] S4096x128.size inb)).Stores Finset.univ}
    {hm : (Finset.univ : Finset (Rect.unit (s := S4096x128) ![0, 0] S4096x128.size inb).shape.Idx) = Finset.univ ∨ ∀ a, (Rect.unit (s := S4096x128) ![0, 0] S4096x128.size inb).stride a = 1}
    {kk : PUnit → Prog (TpuEff nD τ sig (Elt F) Λ₀ .tc) α}
    (hk : iprop(recs X A K ∗ P ∗ G ∗ ((((c : Thread nD τ).loc cc0_stg2_0) ↦[Finset.univ]{fullShare} w) ∗ R) ∗ R') ⊢ wp frame (wpE (defs₀ (F := F)) 𝒱₀ (c : Thread nD τ) none) Set.univ (kk ⟨⟩) Q) :
    iprop(recs X A K ∗ P ∗ G ∗ ((((c : Thread nD τ).loc cc0_stg2_0) ↦[Finset.univ]{fullShare} f) ∗ R) ∗ R')
      ⊢ wp frame (wpE (defs₀ (F := F)) 𝒱₀ (c : Thread nD τ) none) Set.univ (.op (.store oM (Rect.unit (s := S4096x128) ![0, 0] S4096x128.size inb) w Finset.univ hx hm) kk) Q := by
  refine store_step c (m := oM) (R := iprop(recs X A K ∗ P ∗ G ∗ R ∗ R')) (S := Finset.univ) (f := f) (f' := w)
    (Finset.subset_univ _) (fun i _ => congrFun (Memref.write_access_unit_zero_univ (Elt F) cc0_stg2_0 (by decide) inb f w) i) ?_ ?_ hk
  · iintro ⟨#HR, HP, HG, ⟨Hx, H⟩, H'⟩
    isplitl [Hx]; · iexact Hx
    isplitr; · iexact HR
    isplitl [HP]; · iexact HP
    isplitl [HG]; · iexact HG
    isplitl [H] <;> iassumption
  · iintro ⟨Hx, #HR, HP, HG, H, H'⟩
    isplitr; · iexact HR
    isplitl [HP]; · iexact HP
    isplitl [HG]; · iexact HG
    isplitl [Hx H]
    · isplitl [Hx] <;> iassumption
    iexact H'

set_option maxHeartbeats 40000000
set_option maxRecDepth 8000

/-- The whole run of a device. -/
theorem body_run (c : Dev nD) (hA : A c = devMax X W c) {Q : PUnit → sProp 𝕄} (hQ : iprop(memPost X W A c ∗ owesAt c 49 ∗ semPost c) ⊢ Q ⟨⟩) :
    iprop(recs X A K ∗ ghostPre c ∗ owesAt c 0 ∗ memPre X W c)
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) Q := by
  rw [cc0_body_eq_skeleton]; unfold cc0_body_skel
  refine walk X W A c (K := K) fun v2 => ?_
  dsimp only
  rw [k0_part61_eq_skeleton]; unfold k0_part61_skel
  simp only [Prog.lift, Prog.bind_op, Prog.bind_ret, Prog.pure_eq_ret, Prog.bind_assoc]
  iterate 3 refine range_wait X A 0 0 32 34 c (K := K) (by decide) (by decide) (by decide) rfl (fun _ => by decide) rfl rfl ?_
  rw [k0_part62_eq_skeleton]; unfold k0_part62_skel
  simp only [Prog.lift, Prog.bind_op, Prog.bind_ret, Prog.pure_eq_ret, Prog.bind_assoc]
  iterate 4 refine range_wait X A 0 0 32 34 c (K := K) (by decide) (by decide) (by decide) rfl (fun _ => by decide) rfl rfl ?_
  rw [k0_part63_eq_skeleton]; unfold k0_part63_skel
  simp only [Prog.lift, Prog.bind_op, Prog.bind_ret, Prog.pure_eq_ret, Prog.bind_assoc]
  iterate 3 refine range_wait X A 0 0 32 34 c (K := K) (by decide) (by decide) (by decide) rfl (fun _ => by decide) rfl rfl ?_
  rw [k0_part64_eq_skeleton]; unfold k0_part64_skel
  simp only [Prog.lift, Prog.bind_op, Prog.bind_ret, Prog.pure_eq_ret, Prog.bind_assoc]
  iterate 3 refine range_wait X A 0 0 32 34 c (K := K) (by decide) (by decide) (by decide) rfl (fun _ => by decide) rfl rfl ?_
  refine tr (walk_done X W A c rfl) ?_
  rw [k0_part65_eq_skeleton]; unfold k0_part65_skel
  simp only [Prog.lift, Prog.bind_op, Prog.bind_ret, Prog.pure_eq_ret, Prog.bind_assoc]
  refine store_a X A c (K := K) (fun x => congrFun hA.symm x) (tr (tail_b X A c) ?_)
  refine a_send X A c (K := K) (by decide) (by decide) rfl (by decide +kernel) rfl rfl rfl ?_
  rw [k0_part66_eq_skeleton]; unfold k0_part66_skel
  simp only [Prog.lift, Prog.bind_op, Prog.bind_ret, Prog.pure_eq_ret, Prog.bind_assoc]
  refine a_send X A c (K := K) (by decide) (by decide) rfl (by decide +kernel) rfl rfl rfl ?_
  rw [k0_part67_eq_skeleton]; unfold k0_part67_skel
  simp only [Prog.lift, Prog.bind_op, Prog.bind_ret, Prog.pure_eq_ret, Prog.bind_assoc]
  refine a_send X A c (K := K) (by decide) (by decide) rfl (by decide +kernel) rfl rfl rfl ?_
  refine a_send X A c (K := K) (by decide) (by decide) rfl (by decide +kernel) rfl rfl rfl ?_
  rw [k0_part68_eq_skeleton]; unfold k0_part68_skel
  simp only [Prog.lift, Prog.bind_op, Prog.bind_ret, Prog.pure_eq_ret, Prog.bind_assoc]
  refine a_send X A c (K := K) (by decide) (by decide) rfl (by decide +kernel) rfl rfl rfl ?_
  rw [k0_part69_eq_skeleton]; unfold k0_part69_skel
  simp only [Prog.lift, Prog.bind_op, Prog.bind_ret, Prog.pure_eq_ret, Prog.bind_assoc]
  refine a_send X A c (K := K) (by decide) (by decide) rfl (by decide +kernel) rfl rfl rfl ?_
  refine a_send X A c (K := K) (by decide) (by decide) rfl (by decide +kernel) rfl rfl rfl ?_
  rw [k0_part70_eq_skeleton]; unfold k0_part70_skel
  simp only [Prog.lift, Prog.bind_op, Prog.bind_ret, Prog.pure_eq_ret, Prog.bind_assoc]
  refine a_send X A c (K := K) (by decide) (by decide) rfl (by decide +kernel) rfl rfl rfl ?_
  rw [k0_part71_eq_skeleton]; unfold k0_part71_skel
  simp only [Prog.lift, Prog.bind_op, Prog.bind_ret, Prog.pure_eq_ret, Prog.bind_assoc]
  refine a_send X A c (K := K) (by decide) (by decide) rfl (by decide +kernel) rfl rfl rfl ?_
  refine a_send X A c (K := K) (by decide) (by decide) rfl (by decide +kernel) rfl rfl rfl ?_
  rw [k0_part72_eq_skeleton]; unfold k0_part72_skel
  simp only [Prog.lift, Prog.bind_op, Prog.bind_ret, Prog.pure_eq_ret, Prog.bind_assoc]
  refine a_send X A c (K := K) (by decide) (by decide) rfl (by decide +kernel) rfl rfl rfl ?_
  refine a_send X A c (K := K) (by decide) (by decide) rfl (by decide +kernel) rfl rfl rfl ?_
  rw [k0_part73_eq_skeleton]; unfold k0_part73_skel
  simp only [Prog.lift, Prog.bind_op, Prog.bind_ret, Prog.pure_eq_ret, Prog.bind_assoc]
  refine a_send X A c (K := K) (by decide) (by decide) rfl (by decide +kernel) rfl rfl rfl ?_
  rw [k0_part74_eq_skeleton]; unfold k0_part74_skel
  simp only [Prog.lift, Prog.bind_op, Prog.bind_ret, Prog.pure_eq_ret, Prog.bind_assoc]
  refine a_send X A c (K := K) (by decide) (by decide) rfl (by decide +kernel) rfl rfl rfl ?_
  refine a_send X A c (K := K) (by decide) (by decide) rfl (by decide +kernel) rfl rfl rfl ?_
  refine tr (tail_c X A c) ?_
  rw [k0_part75_eq_skeleton]; unfold k0_part75_skel
  simp only [Prog.lift, Prog.bind_op, Prog.bind_ret, Prog.pure_eq_ret, Prog.bind_assoc]
  iterate 3 refine range_wait X A 80 1 16 49 c (K := K) (by decide) (by decide) (by decide) rfl (fun h => absurd h (by decide)) rfl rfl ?_
  rw [k0_part76_eq_skeleton]; unfold k0_part76_skel
  simp only [Prog.lift, Prog.bind_op, Prog.bind_ret, Prog.pure_eq_ret, Prog.bind_assoc]
  iterate 3 refine range_wait X A 80 1 16 49 c (K := K) (by decide) (by decide) (by decide) rfl (fun h => absurd h (by decide)) rfl rfl ?_
  rw [k0_part77_eq_skeleton]; unfold k0_part77_skel
  simp only [Prog.lift, Prog.bind_op, Prog.bind_ret, Prog.pure_eq_ret, Prog.bind_assoc]
  iterate 3 refine range_wait X A 80 1 16 49 c (K := K) (by decide) (by decide) (by decide) rfl (fun h => absurd h (by decide)) rfl rfl ?_
  rw [k0_part78_eq_skeleton]; unfold k0_part78_skel
  simp only [Prog.lift, Prog.bind_op, Prog.bind_ret, Prog.pure_eq_ret, Prog.bind_assoc]
  iterate 3 refine range_wait X A 80 1 16 49 c (K := K) (by decide) (by decide) (by decide) rfl (fun h => absurd h (by decide)) rfl rfl ?_
  rw [k0_part79_eq_skeleton]; unfold k0_part79_skel
  simp only [Prog.lift, Prog.bind_op, Prog.bind_ret, Prog.pure_eq_ret, Prog.bind_assoc]
  iterate 3 refine range_wait X A 80 1 16 49 c (K := K) (by decide) (by decide) (by decide) rfl (fun h => absurd h (by decide)) rfl rfl ?_
  refine tr (tail_d X A c) ?_
  refine load_a X A c (K := K) ?_
  refine load_o X A c (K := K) ?_
  rw [k0_part80_eq_skeleton]; unfold k0_part80_skel
  simp only [Prog.lift, Prog.bind_op, Prog.bind_ret, Prog.pure_eq_ret, Prog.bind_assoc]
  refine load_o X A c (K := K) ?_
  refine store_o X A c (K := K) ?_
  iterate 3 refine range_wait X A 64 1 16 49 c (K := K) (by decide) (by decide) (by decide) rfl (fun h => absurd h (by decide)) rfl rfl ?_
  rw [k0_part81_eq_skeleton]; unfold k0_part81_skel
  simp only [Prog.lift, Prog.bind_op, Prog.bind_ret, Prog.pure_eq_ret, Prog.bind_assoc]
  iterate 3 refine range_wait X A 64 1 16 49 c (K := K) (by decide) (by decide) (by decide) rfl (fun h => absurd h (by decide)) rfl rfl ?_
  rw [k0_part82_eq_skeleton]; unfold k0_part82_skel
  simp only [Prog.lift, Prog.bind_op, Prog.bind_ret, Prog.pure_eq_ret, Prog.bind_assoc]
  iterate 4 refine range_wait X A 64 1 16 49 c (K := K) (by decide) (by decide) (by decide) rfl (fun h => absurd h (by decide)) rfl rfl ?_
  rw [k0_part83_eq_skeleton]; unfold k0_part83_skel
  simp only [Prog.lift, Prog.bind_op, Prog.bind_ret, Prog.pure_eq_ret, Prog.bind_assoc]
  iterate 4 refine range_wait X A 64 1 16 49 c (K := K) (by decide) (by decide) (by decide) rfl (fun h => absurd h (by decide)) rfl rfl ?_
  simp only [Prog.lift, Prog.bind_op, Prog.bind_ret, Prog.pure_eq_ret, Prog.bind_assoc]
  iterate 1 refine range_wait X A 64 1 16 49 c (K := K) (by decide) (by decide) (by decide) rfl (fun h => absurd h (by decide)) rfl rfl ?_
  rw [wp_ret]
  exact tr (tail_e X W A c) (fupd_mono hQ)

end Run

end Cert.Mesh
end
-- ==== Proof.Ghost.lean ====
/-
# What the launch deals out

The rounds of all semaphores are begun at once; each device then holds its own positions, the tokens of what it will
pay, and the credit of what the others owe it.
-/
module

public import proofs.«01_k».proof.Proof.Tail

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → S256x4096.Idx → Elt F .bf16) (A : Dev nD → S1x8x128.Idx → Elt F .f32)

/-! ## Sums over semaphores by number -/

omit [FloatOps F] [Named F] in
theorem ico_fin (n : ℕ) (Φ : ℕ → sProp 𝕄) : bigSep Finset.univ (fun k : Fin n => Φ k.val) = bigSep (Finset.Ico 0 n) Φ := by
  have h : Finset.Ico 0 n = (Finset.univ : Finset (Fin n)).map Fin.valEmbedding := by
    ext i
    rw [Finset.mem_map, Finset.mem_Ico]
    exact ⟨fun hi => ⟨⟨i, hi.2⟩, Finset.mem_univ _, rfl⟩, fun ⟨k, _, hk⟩ => ⟨Nat.zero_le _, hk ▸ k.isLt⟩⟩
  rw [h, bigSep_map]; rfl

omit [FloatOps F] [Named F] in
theorem ico_cut {a b d : ℕ} (h₁ : a ≤ b) (h₂ : b ≤ d) (Φ : ℕ → sProp 𝕄) :
    bigSep (Finset.Ico a d) Φ = iprop(bigSep (Finset.Ico a b) Φ ∗ bigSep (Finset.Ico b d) Φ) := by
  rw [← Finset.Ico_union_Ico_eq_Ico h₁ h₂]
  exact bigSep_union (Finset.Ico_disjoint_Ico_consecutive a b d)

omit [FloatOps F] [Named F] in
theorem ico_shift (k a b : ℕ) (Φ : ℕ → sProp 𝕄) : bigSep (Finset.Ico (k + a) (k + b)) Φ = bigSep (Finset.Ico a b) (fun n => Φ (k + n)) := by
  rw [← Finset.image_add_left_Ico a b k]
  exact bigSep_image_of_injOn (M := 𝕄) (fun _ _ _ _ h => Nat.add_left_cancel h) Φ

omit [FloatOps F] [Named F] in
/-- All semaphores, by what they are for. -/
theorem cells_cut (Φ : ℕ → sProp 𝕄) : bigSep (Finset.Ico 0 97) Φ
    = iprop(bigSep (Finset.Ico 0 32) Φ ∗ bigSep (Finset.Ico 0 32) (fun n => Φ (32 + n)) ∗ (Φ 64 ∗ bigSep (Finset.Ico 1 16) (fun n => Φ (64 + n)))
        ∗ (Φ 80 ∗ bigSep (Finset.Ico 1 16) (fun n => Φ (80 + n))) ∗ Φ 96) := by
  have h₁ := ico_cut (a := 0) (b := 32) (d := 97) (by decide) (by decide) Φ
  have h₂ := ico_cut (a := 32) (b := 64) (d := 97) (by decide) (by decide) Φ
  have h₃ := ico_cut (a := 64) (b := 80) (d := 97) (by decide) (by decide) Φ
  have h₄ := ico_cut (a := 80) (b := 96) (d := 97) (by decide) (by decide) Φ
  have s₂ := ico_shift 32 0 32 Φ
  have s₃ := ico_shift 64 0 16 Φ
  have s₄ := ico_shift 80 0 16 Φ
  have s₅ : bigSep (Finset.Ico 96 97) Φ = Φ 96 := by rw [show Finset.Ico 96 97 = {96} from by decide, bigSep_singleton]
  rw [ico0] at s₃ s₄
  rw [h₁, h₂, h₃, h₄, show bigSep (Finset.Ico 32 64) Φ = _ from s₂, show bigSep (Finset.Ico 64 80) Φ = _ from s₃, show bigSep (Finset.Ico 80 96) Φ = _ from s₄, s₅]

omit [FloatOps F] [Named F] in
theorem flip (Φ : ℕ → sProp 𝕄) : bigSep (Finset.Ico 1 16) (fun n => Φ (80 + n)) = bigSep (Finset.Ico 1 16) (fun kk => Φ (96 - kk)) := by
  have h : (Finset.Ico 1 16).image (fun kk : ℕ => 96 - kk) = Finset.Ico (80 + 1) (80 + 16) := by decide
  rw [← ico_shift 80 1 16 Φ, ← h]
  exact bigSep_image_of_injOn (M := 𝕄) (fun a ha b hb e => by
    have ha' := Finset.mem_Ico.mp ha
    have hb' := Finset.mem_Ico.mp hb
    have e' : 96 - a = 96 - b := e
    omega) Φ

omit [FloatOps F] [Named F] in
/-- What every device holds by number, dealt out by one permutation of the devices per number. -/
theorem turn (S : Finset ℕ) (e : ℕ → Dev nD ≃ Dev nD) (Φ : Dev nD → ℕ → sProp 𝕄) :
    bigSep Finset.univ (fun c => bigSep S (Φ c)) = bigSep Finset.univ (fun c => bigSep S fun n => Φ (e n c) n) := by
  induction S using Finset.induction_on with
  | empty => simp only [bigSep_empty]
  | insert a S ha ih =>
    have h (Ψ : Dev nD → ℕ → sProp 𝕄) : bigSep Finset.univ (fun c => bigSep (insert a S) (Ψ c))
        = iprop((bigSep Finset.univ fun c => Ψ c a) ∗ bigSep Finset.univ fun c => bigSep S (Ψ c)) := by
      rw [← bigSep_sep']
      exact bigSep_congr fun c _ => bigSep_insert ha
    rw [h Φ, h (fun c n => Φ (e n c) n), ih, bigSep_univ_equiv (e a) (fun c => Φ c a)]

/-! ## The permutations -/

def stepE (d : Bool) : Dev nD ≃ Dev nD := ⟨step d, step (!d), step_step d, fun x => by have := step_step (!d) x; rwa [Bool.not_not] at this⟩
def shiftE (k : ℕ) : Dev nD ≃ Dev nD := ⟨fun c => c + Fin.ofNat 16 k, fun c => c - Fin.ofNat 16 k, fun c => add_sub_cancel_right c _, fun c => sub_add_cancel c _⟩

/-! ## Semaphores by number -/

def noS (s : SemLoc sig) : ℕ := match s with
  | .reg _ => 96
  | .dma q => semIx q

theorem noS_gs {i : ℕ} (h : i < 97) : noS (gs i) = i := by
  rcases Nat.lt_or_ge i 96 with h' | h'
  · rw [gs_dma h']; exact semIx_semQ' h'
  · obtain rfl : i = 96 := by omega
    rfl

theorem gs_inj {i j : ℕ} (hi : i < 97) (hj : j < 97) (h : gs i = gs j) : i = j := by rw [← noS_gs hi, ← noS_gs hj, h]

theorem cell_eq {c e : Dev nD} {i j : ℕ} (hi : i < 97) (hj : j < 97) : cell c i = cell e j ↔ c = e ∧ i = j :=
  ⟨fun h => ⟨congrArg (fun g : GSem nD τ sig => g.1.1) h, gs_inj hi hj (congrArg Prod.snd h)⟩, fun ⟨h, h'⟩ => by rw [h, h']⟩

abbrev kcell (ck : Dev nD × Fin 97) : GSem nD τ sig := cell ck.1 ck.2.val
theorem kcell_inj : Function.Injective kcell := fun ⟨c, k⟩ ⟨e, j⟩ h => by
  have := (cell_eq k.isLt j.isLt).mp h
  exact Prod.ext this.1 (Fin.ext this.2)
def allCells : Finset (GSem nD τ sig) := Finset.univ.map ⟨kcell, kcell_inj⟩

/-- The tokens: one for each semaphore, and a second one for the barrier's. -/
abbrev tokOf (cj : Dev nD × Fin 98) : GSem nD τ sig × ℕ × Bool := (cell cj.1 (min cj.2.val 96), 0, decide (cj.2.val < 97))
theorem tokOf_inj : Function.Injective tokOf := fun ⟨c, k⟩ ⟨e, j⟩ h => by
  have h₁ := (cell_eq (by omega) (by omega)).mp (congrArg Prod.fst h)
  have h₂ : decide (k.val < 97) = decide (j.val < 97) := congrArg (fun x : GSem nD τ sig × ℕ × Bool => x.2.2) h
  have h₃ := h₁.2
  have h₄ : k.val < 97 ↔ j.val < 97 := decide_eq_decide.mp h₂
  refine Prod.ext h₁.1 (Fin.ext ?_)
  have := k.isLt; have := j.isLt
  show k.val = j.val
  simp only at h₃
  omega
def allToks : Finset (GSem nD τ sig × ℕ × Bool) := Finset.univ.map ⟨tokOf, tokOf_inj⟩

def u₀ : UU := (initOf (Pipeline.cells cfgs cellOf_inj) (Pipeline.launchToks cfgs cellOf_inj), initOf allCells allToks)

/-! ## What each device is dealt at first -/

def toks (c : Dev nD) : sProp 𝕄 :=
  iprop(bigSep (Finset.Ico 0 97) (fun j => dutyTok ER (cell c j) 0 true) ∗ dutyTok ER (cell c 96) 0 false)
def places (c : Dev nD) : sProp 𝕄 := bigSep (Finset.Ico 0 97) (fun j => atPos ER (cell c j) 0 ∅ 0)
def G (c : Dev nD) : sProp 𝕄 :=
  iprop((bigSep Finset.univ fun k : Fin 97 => roundState ER (sched X A) (kcell (c, k)) 0)
    ∗ (places c ∗ bigSep Finset.univ fun k : Fin 97 => reached ER (kcell (c, k)) 0) ∗ toks c)

omit [FloatOps F] [Named F] in
theorem toks_eq (c : Dev nD) : (bigSep Finset.univ fun j : Fin 98 => dutyTok ER (tokOf (c, j)).1 (tokOf (c, j)).2.1 (tokOf (c, j)).2.2 : sProp 𝕄) = toks c := by
  have h := ico_fin (F := F) 98 (fun j => dutyTok ER (cell c (min j 96)) 0 (decide (j < 97)))
  refine Eq.trans h ?_
  rw [ico_cut (a := 0) (b := 97) (d := 98) (by decide) (by decide), show Finset.Ico 97 98 = {97} from by decide, bigSep_singleton]
  unfold toks
  rw [bigSep_congr (s := Finset.Ico 0 97) (Ψ := fun j => (dutyTok ER (cell c j) 0 true : sProp 𝕄)) fun j hj => by
    have := (Finset.mem_Ico.mp hj).2
    rw [Nat.min_eq_left (by omega), decide_eq_true this]]
  rfl

omit [FloatOps F] [Named F] in
theorem fund_all : BI.own (ER (initOf allCells allToks)) ⊢ (|==> bigSep Finset.univ (G X A) : sProp 𝕄) := by
  have hX (Φ : GSem nD τ sig → sProp 𝕄) : bigSep allCells Φ = bigSep Finset.univ fun c : Dev nD => bigSep Finset.univ fun k : Fin 97 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  have hP : bigSep allCells (fun g => (atPos ER g 0 ∅ 0 : sProp 𝕄)) = bigSep Finset.univ fun c : Dev nD => places c := by
    rw [hX]; exact bigSep_congr fun c _ => ico_fin 97 (fun j => atPos ER (cell c j) 0 ∅ 0)
  iintro HX
  imod (Rounds.fund ER (sched X A) allCells allToks) $$ HX with ⟨Hst, Hr, Hat, Htok⟩
  imodintro
  ihave Hst' := (Entails.of_eq (hX fun g => roundState ER (sched X A) g 0)) $$ Hst
  ihave Hat' := (Entails.of_eq hP) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

def osem (k : Fin 96) : SemLoc sig := gs k.val

theorem ownSemFacts : Pipeline.OwnSemFacts cfg0.spec osem where
  isScoped k := by revert k; decide
  inj a b h := Fin.ext (gs_inj (Nat.lt_trans a.isLt (by decide)) (Nat.lt_trans b.isLt (by decide)) h)
  disj k w s := by revert k; fin_cases w <;> fin_cases s <;> decide

omit [FloatOps F] [Named F] in
theorem ownSems0_eq (c : Dev nD) : (Pipeline.ownSems0 (Ix := Unit) (Name := ℕ) (U := UU) (Lvl := ℕ) (Val := Elt F) (τ := τ) osem c : sProp 𝕄)
    = bigSep (Finset.Ico 0 96) (zero c) := ico_fin 96 (zero c)

omit [FloatOps F] [Named F] in
theorem unscopedSems0_eq (c : Dev nD) : (unscopedSems0 c : sProp 𝕄) = zero c 96 := by
  unfold unscopedSems0; rw [bigSep_eq_bigSepL_of_eq [SemLoc.reg barS] (by decide) (by decide)]; rfl

omit [FloatOps F] [Named F] in
theorem sems_eq (c : Dev nD) : iprop(Pipeline.ownSems0 (Ix := Unit) (Name := ℕ) (U := UU) (Lvl := ℕ) (Val := Elt F) (τ := τ) osem c ∗ unscopedSems0 c)
    = (bigSep (Finset.Ico 0 97) (zero c) : sProp 𝕄) := by
  rw [ownSems0_eq, unscopedSems0_eq, ico_cut (a := 0) (b := 96) (d := 97) (by decide) (by decide), show Finset.Ico 96 97 = {96} from by decide, bigSep_singleton]

/-! ## The invariants -/

omit [FloatOps F] [Named F] in
theorem invs_alloc (c : Dev nD) :
    iprop(Pipeline.ownSems0 (Ix := Unit) (Name := ℕ) (U := UU) (Lvl := ℕ) (Val := Elt F) (τ := τ) osem c ∗ unscopedSems0 c ∗ G X A c)
      ⊢ |={Set.univ}=> iprop((bigSep Finset.univ fun k : Fin 97 => iprop(∃ κ : ℕ, cellInv ER (sched X A) κ (kcell (c, k))))
          ∗ (places c ∗ bigSep Finset.univ fun k : Fin 97 => reached ER (kcell (c, k)) 0) ∗ toks c) := by
  unfold G
  iintro ⟨Hos, Hus, Hst, Hat, Htok⟩
  ihave Hv := (Entails.of_eq ((sems_eq (F := F) c).trans (ico_fin 97 (zero c)).symm)) $$ [Hos Hus]
  · isplitl [Hos] <;> iassumption
  imod (show iprop((bigSep Finset.univ fun k : Fin 97 => zero c k.val) ∗ bigSep Finset.univ fun k : Fin 97 => roundState ER (sched X A) (kcell (c, k)) 0)
      ⊢ (|={Set.univ}=> bigSep Finset.univ fun k : Fin 97 => iprop(∃ κ : ℕ, cellInv ER (sched X A) κ (kcell (c, k))) : sProp 𝕄) from by
        rw [← bigSep_sep']
        exact (bigSep_mono fun k _ => (Rounds.body_intro ER (sched X A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to who pays with them -/

def payToks (c : Dev nD) : sProp 𝕄 :=
  iprop(barTok c ∗ (bigSep (Finset.Ico 0 32) (fun n => dutyTok ER (cell c n) 0 true) ∗ bigSep (Finset.Ico 0 32) (fun n => dutyTok ER (cell (nbr n c) (32 + n)) 0 true))
    ∗ bigSep (Finset.Ico 1 16) (fun kk => dutyTok ER (cell c (64 + kk)) 0 true) ∗ bigSep (Finset.Ico 1 16) (fun kk => dutyTok ER (cell (c + Fin.ofNat 16 kk) (96 - kk)) 0 true))

omit [FloatOps F] [Named F] in
theorem toks_around : (bigSep Finset.univ fun c : Dev nD => (toks c : sProp 𝕄)) ⊢ bigSep Finset.univ fun c : Dev nD => payToks c := by
  have h₁ := turn (F := F) (Finset.Ico 0 32) (fun n => stepE (dir n)) (fun c n => dutyTok ER (cell c (32 + n)) 0 true)
  have h₂ := turn (F := F) (Finset.Ico 1 16) shiftE (fun c n => dutyTok ER (cell c (96 - n)) 0 true)
  have h₃ := bigSep_univ_equiv (stepE true) (fun c : Dev nD => (dutyTok ER (cell c 96) 0 true : sProp 𝕄))
  have h₄ := bigSep_univ_equiv (stepE false) (fun c : Dev nD => (dutyTok ER (cell c 96) 0 false : sProp 𝕄))
  unfold toks payToks barTok
  simp only [cells_cut]
  rw [bigSep_congr (s := Finset.univ) fun (c : Dev nD) _ => by rw [flip (fun j => (dutyTok ER (cell c j) 0 true : sProp 𝕄))]]
  simp only [bigSep_sep']
  rw [h₁, h₂, h₃, h₄]
  iintro ⟨⟨Hs, Hr, ⟨-, Ha⟩, ⟨-, Hb⟩, Ht⟩, Hf⟩
  isplitl [Ht Hf]
  · isplitl [Ht]; · iexact Ht
    iexact Hf
  isplitl [Hs Hr]
  · isplitl [Hs]; · iexact Hs
    iexact Hr
  isplitl [Ha]; · iexact Ha
  iexact Hb

/-- What the devices have after the launch, but for the levels and the credit. -/
def G' (c : Dev nD) : sProp 𝕄 :=
  iprop(∃ K : Dev nD × Fin 97 → ℕ, ((bigSep Finset.univ fun ck : Dev nD × Fin 97 => cellInv ER (sched X A) (K ck) (cell ck.1 ck.2.val))
      ∗ bigSep Finset.univ fun ck : Dev nD × Fin 97 => reached ER (cell ck.1 ck.2.val) 0) ∗ places c ∗ payToks c)

omit [FloatOps F] [Named F] in
theorem deal :
    (bigSep Finset.univ fun c : Dev nD => iprop((bigSep Finset.univ fun k : Fin 97 => iprop(∃ κ : ℕ, cellInv ER (sched X A) κ (kcell (c, k))))
          ∗ (places c ∗ bigSep Finset.univ fun k : Fin 97 => reached ER (kcell (c, k)) 0) ∗ toks c) : sProp 𝕄)
      ⊢ bigSep Finset.univ (G' X A) := by
  rw [bigSep_sep', bigSep_sep', bigSep_sep', ← bigSep_univ_prod (fun ck : Dev nD × Fin 97 => iprop(∃ κ : ℕ, cellInv ER (sched X A) κ (kcell ck))),
    ← bigSep_univ_prod (fun ck : Dev nD × Fin 97 => (reached ER (kcell ck) 0 : sProp 𝕄))]
  iintro ⟨HI, ⟨Hat, #HR⟩, Htok⟩
  ihave HK := (BI.bigSep_exists_pi Finset.univ (fun (ck : Dev nD × Fin 97) (κ : ℕ) => (cellInv ER (sched X A) κ (kcell ck) : sProp 𝕄))) $$ HI
  icases HK with ⟨%K, #HI⟩
  ihave Htk := (toks_around (F := F)) $$ Htok
  have hp : BI.Persistent (iprop((bigSep Finset.univ fun ck : Dev nD × Fin 97 => cellInv ER (sched X A) (K ck) (kcell ck))
      ∗ bigSep Finset.univ fun ck : Dev nD × Fin 97 => reached ER (kcell ck) 0) : sProp 𝕄) := inferInstance
  have hk (c : Dev nD) : iprop(((bigSep Finset.univ fun ck : Dev nD × Fin 97 => cellInv ER (sched X A) (K ck) (kcell ck))
        ∗ bigSep Finset.univ fun ck : Dev nD × Fin 97 => reached ER (kcell ck) 0) ∗ places c ∗ payToks c) ⊢ G' X A c := by
    unfold G'
    iintro H
    iexists K
    iexact H
  have h : iprop(((bigSep Finset.univ fun ck : Dev nD × Fin 97 => cellInv ER (sched X A) (K ck) (kcell ck))
        ∗ bigSep Finset.univ fun ck : Dev nD × Fin 97 => reached ER (kcell ck) 0)
      ∗ bigSep Finset.univ fun c : Dev nD => iprop(places c ∗ payToks c)) ⊢ (bigSep Finset.univ (G' X A) : sProp 𝕄) :=
    (sep_mono_left (BI.bigSep_of_persistent Finset.univ _)).trans (by
      rw [← bigSep_sep']
      exact bigSep_mono fun c _ => hk c)
  iapply h
  isplitr
  · isplitl; · iexact HI
    iexact HR
  rw [bigSep_sep']
  isplitl [Hat]; · iexact Hat
  iexact Htk

omit [FloatOps F] [Named F] in
theorem glob : (bigSep Finset.univ fun c => iprop(Pipeline.ownSems0 (Ix := Unit) (Name := ℕ) (U := UU) (Lvl := ℕ) (Val := Elt F) (τ := τ) osem c ∗ unscopedSems0 c ∗ G X A c) : sProp 𝕄)
    ⊢ |={Set.univ}=> bigSep Finset.univ (G' X A) :=
  ((bigSep_mono fun c _ => invs_alloc X A c).trans (bigSep_fupd _ _)).trans (BI.fupd_mono (deal X A))

/-! ## The credit of what is owed -/

abbrev O₀ (c : Dev nD) : CellTallies nD τ sig Unit := owed c 0

/-- Whom and which semaphore payment `j` goes to. -/
def payTo (j : ℕ) : Dev nD ≃ Dev nD := if j = 0 then stepE true else if j = 1 then stepE false else if j < 34 then stepE (dir (j - 2)) else shiftE (j - 33)
def payIx (j : ℕ) : ℕ := if j < 2 then 96 else if j < 34 then 32 + (j - 2) else 96 - (j - 33)

theorem pay_eq (d : Dev nD) (j : ℕ) : pay d j = cell (payTo j d) (payIx j) := by
  unfold pay payTo payIx
  rcases Nat.lt_or_ge j 2 with h2 | h2
  · rcases (by omega : j = 0 ∨ j = 1) with rfl | rfl <;> rfl
  rw [if_neg (show ¬j = 0 by omega), if_neg (show ¬j = 1 by omega), if_neg (show ¬j = 0 by omega), if_neg (show ¬j = 1 by omega), if_neg (show ¬j < 2 by omega)]
  rcases Nat.lt_or_ge j 34 with h | h
  · rw [if_pos h, if_pos h, if_pos h]; rfl
  · rw [if_neg (show ¬j < 34 by omega), if_neg (show ¬j < 34 by omega), if_neg (show ¬j < 34 by omega)]; rfl

theorem payIx_lt (j : ℕ) : payIx j < 97 := by unfold payIx; (repeat' split) <;> omega

/-- What is owed to a semaphore of `c` by all devices together. -/
theorem owed_sum (c : Dev nD) {i : ℕ} (hi : i < 97) :
    (∑ d : Dev nD, O₀ d (cell c i) ()) = ∑ j ∈ Finset.Ico 0 49, if payIx j = i then payAmt j else 0 := by
  have h (d : Dev nD) : O₀ d (cell c i) () = ∑ j ∈ Finset.Ico 0 49, if payTo j d = c ∧ payIx j = i then payAmt j else 0 := by
    unfold O₀ owed
    rw [Finset.sum_apply, Finsupp.finset_sum_apply]
    refine Finset.sum_congr rfl fun j _ => ?_
    rw [tallyAt_apply, pay_eq]
    refine if_congr ?_ rfl rfl
    rw [and_iff_left rfl]
    exact ⟨fun h => (cell_eq (payIx_lt j) hi).mp h.symm, fun h => ((cell_eq (payIx_lt j) hi).mpr h).symm⟩
  rw [Finset.sum_congr rfl fun d _ => h d, Finset.sum_comm]
  refine Finset.sum_congr rfl fun j _ => ?_
  rw [Equiv.sum_comp (payTo j) (fun d => if d = c ∧ payIx j = i then payAmt j else 0)]
  by_cases h' : payIx j = i
  · simp only [h', and_true, if_true]
    rw [Finset.sum_ite_eq' Finset.univ c fun _ => payAmt j, if_pos (Finset.mem_univ _)]
  · simp only [h', and_false, if_false, Finset.sum_const_zero]

theorem launch_at (c : Dev nD) {i n : ℕ} (hi : i < 97) (hn : (∑ j ∈ Finset.Ico 0 49, if payIx j = i then payAmt j else 0) = n) :
    tallyOn (cell c i) (launchCredit (Pipeline.owing O₀) 0 (cell c i)) = (tallyAt (cell c i) () n : CellTallies nD τ sig Unit) := by
  unfold tallyAt; refine congrArg _ (Finsupp.ext fun u => ?_); cases u
  rw [Pipeline.launchCredit_owing, Finsupp.single_eq_same, owed_sum c hi, hn]

theorem sum_one {i j : ℕ} (hj : j < 49) (h : payIx j = i) (hu : ∀ j', j' < 49 → payIx j' = i → j' = j) :
    (∑ j ∈ Finset.Ico 0 49, if payIx j = i then payAmt j else 0) = payAmt j := by
  rw [Finset.sum_eq_single j (fun j' hj' hne => if_neg fun e => hne (hu j' (Finset.mem_Ico.mp hj').2 e)) (fun hn => absurd (Finset.mem_Ico.mpr ⟨Nat.zero_le _, hj⟩) hn), if_pos h]

theorem sum_ring {n : ℕ} (h : n < 32) : (∑ j ∈ Finset.Ico 0 49, if payIx j = 32 + n then payAmt j else 0) = expc (32 + n) := by
  rw [sum_one (j := n + 2) (by omega) (by unfold payIx; rw [if_neg (by omega), if_pos (by omega)]; omega)
    (fun j' _ e => by unfold payIx at e; revert e; (repeat' split) <;> omega)]
  unfold payAmt expc
  rw [if_neg (by omega), if_pos (by omega), if_neg (by omega), if_pos (by omega), Nat.add_sub_cancel, Nat.add_sub_cancel_left]

theorem sum_max {n : ℕ} (h₁ : 1 ≤ n) (h : n < 16) : (∑ j ∈ Finset.Ico 0 49, if payIx j = 80 + n then payAmt j else 0) = expc (80 + n) := by
  rw [sum_one (j := 49 - n) (by omega) (by unfold payIx; rw [if_neg (by omega), if_neg (by omega)]; omega)
    (fun j' _ e => by unfold payIx at e; revert e; (repeat' split) <;> omega)]
  unfold payAmt expc
  rw [if_neg (by omega), if_neg (by omega), if_neg (by omega), if_neg (by omega)]

theorem sum_bar : (∑ j ∈ Finset.Ico 0 49, if payIx j = 96 then payAmt j else 0) = 2 := by
  rw [Finset.sum_eq_sum_Ico_succ_bot (by decide), Finset.sum_eq_sum_Ico_succ_bot (by decide), Finset.sum_eq_zero (s := Finset.Ico (0 + 1 + 1) 49) fun j hj => ?_]
  · rfl
  · have := Finset.mem_Ico.mp hj
    exact if_neg fun e => by unfold payIx at e; revert e; (repeat' split) <;> omega

def creds (c : Dev nD) : sProp 𝕄 :=
  iprop(bigSep (Finset.Ico 0 32) (fun n => cred (tallyAt (cell c (32 + n)) () (expc (32 + n))))
    ∗ bigSep (Finset.Ico 1 16) (fun n => cred (tallyAt (cell c (80 + n)) () (expc (80 + n)))) ∗ cred (tallyAt (cell c 96) () 2))

omit [FloatOps F] [Named F] in
theorem creds_intro (c : Dev nD) : (Pipeline.launchCred O₀ c : sProp 𝕄) ⊢ creds c := by
  have h : (Pipeline.launchCred O₀ c : sProp 𝕄) ⊢ bigSep (Finset.Ico 0 97) (fun i => cred (tallyOn (cell c i) (launchCredit (Pipeline.owing O₀) 0 (cell c i)))) := by
    unfold Pipeline.launchCred
    rw [← bigSep_image_of_injOn (M := 𝕄) (f := gs) (s := Finset.Ico 0 97) (fun a ha b hb e => gs_inj (Finset.mem_Ico.mp ha).2 (Finset.mem_Ico.mp hb).2 e)
      (fun sm => cred (tallyOn ((c : Thread nD τ), sm) (launchCredit (Pipeline.owing O₀) 0 ((c : Thread nD τ), sm))))]
    exact bigSep_subset (Finset.subset_univ _)
  refine h.trans ?_
  rw [cells_cut]
  unfold creds
  rw [launch_at c (i := 96) (by decide) sum_bar,
    bigSep_congr (s := Finset.Ico 0 32) (Φ := fun n => (cred (tallyOn (cell c (32 + n)) (launchCredit (Pipeline.owing O₀) 0 (cell c (32 + n)))) : sProp 𝕄))
      fun n hn => by rw [launch_at c (i := 32 + n) (by have := (Finset.mem_Ico.mp hn).2; omega) (sum_ring (Finset.mem_Ico.mp hn).2)],
    bigSep_congr (s := Finset.Ico 1 16) (Φ := fun n => (cred (tallyOn (cell c (80 + n)) (launchCredit (Pipeline.owing O₀) 0 (cell c (80 + n)))) : sProp 𝕄))
      fun n hn => by rw [launch_at c (i := 80 + n) (by have := (Finset.mem_Ico.mp hn).2; omega) (sum_max (Finset.mem_Ico.mp hn).1 (Finset.mem_Ico.mp hn).2)]]
  iintro ⟨-, H1, -, ⟨-, H2⟩, H3⟩
  isplitl [H1]; · iexact H1
  isplitl [H2]; · iexact H2
  iexact H3

omit [FloatOps F] [Named F] in
theorem ghostPre_intro (c : Dev nD) : iprop(places c ∗ payToks c ∗ creds c) ⊢ (ghostPre c : sProp 𝕄) := by
  unfold places payToks creds ghostPre tok0 aTok0 barPend pend
  rw [cells_cut]
  simp only [bigSep_sep']
  iintro ⟨⟨P0, P1, ⟨P64, P2⟩, ⟨P80, P3⟩, P96⟩, ⟨TB, ⟨T0, T1⟩, T2, T3⟩, C1, C2, CB⟩
  isplitl [TB CB P96]
  · isplitl [TB]; · iexact TB
    isplitl [CB] <;> iassumption
  isplitl [P0 P1 T0 T1 C1]
  · isplitl [P0 T0 T1]
    · isplitl [T0 T1]
      · isplitl [T0] <;> iassumption
      iexact P0
    isplitl [C1] <;> iassumption
  isplitl [P2 P3 T2 T3 C2]
  · isplitl [P2 T2 T3]
    · isplitl [T2 T3]
      · isplitl [T2] <;> iassumption
      iexact P2
    isplitl [C2] <;> iassumption
  isplitl [P64] <;> iassumption

end Cert.Mesh
end
-- ==== Proof.Launch.lean ====
/-
# The run of the whole program

Every device's run begins with what the launch deals it and ends with its arguments as they were, its result at the
computed contents and every semaphore at zero.
-/
module

public import proofs.«01_k».proof.Proof.Ghost

@[expose] public section

noncomputable section

namespace Cert.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-- The rows of `x` of device `c`, its columns of `w`, and its maxima. -/
def xOf (c : Dev nD) : S256x4096.Idx → Elt F .bf16 := m ((c : Thread nD τ).loc main_arg0)
def wOf (c : Dev nD) : S4096x128.Idx → Elt F .bf16 := m ((c : Thread nD τ).loc main_arg1)
def aOf (c : Dev nD) : S1x8x128.Idx → Elt F .f32 := devMax (xOf m) (wOf m) c
/-- Its result. -/
def outOf (c : Dev nD) : S4096x128.Idx → Elt F .f32 := result (xOf m) (wOf m) (aOf m) c

def start (c : Dev nD) : sProp 𝕄 := iprop(∃ K, recs (xOf m) (aOf m) K ∗ ghostPre c)
def Φ₀ (c : Dev nD) : sProp 𝕄 := iprop(start m c ∗ Pipeline.scopedRest cfg0.spec c)
def Φ₁ (c : Dev nD) : sProp 𝕄 := iprop(semPost c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => wOf m c
    | ⟨2, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 : (cfg0.win (0 : Fin 3)).fetch t0_0 = true := rfl
theorem fetch_1 : (cfg0.win (1 : Fin 3)).fetch t0_0 = true := rfl

theorem origin0 : (fun a => (win0_0.index (0 : Fin 1)) a * main_arg0.ty.shape.size a) = fun _ => 0 := funext fun a => by fin_cases a <;> decide
theorem origin1 : (fun a => (win0_1.index (0 : Fin 1)) a * main_arg1.ty.shape.size a) = fun _ => 0 := funext fun a => by fin_cases a <;> decide
theorem origin2 : (fun a => (win0_2.index (0 : Fin 1)) a * main_v1.ty.shape.size a) = fun _ => 0 := funext fun a => by fin_cases a <;> decide

/-- What the staging buffers of the arguments hold. -/
theorem before_x (c : Dev nD) (d) : (dats m 0 c).before (0 : Fin 3) t0_0 d = xOf m c := by
  unfold Dat.before; rw [if_pos fetch_0]
  exact Memref.read_access_unit_zero (Elt F) main_arg0 origin0 (fun a => by fin_cases a <;> decide) _
theorem before_w (c : Dev nD) (d) : (dats m 0 c).before (1 : Fin 3) t0_0 d = wOf m c := by
  unfold Dat.before; rw [if_pos fetch_1]
  exact Memref.read_access_unit_zero (Elt F) main_arg1 origin1 (fun a => by fin_cases a <;> decide) _

/-! ## The body -/

/-- A staging buffer at contents. -/
abbrev held (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

omit [FloatOps F] [Named F] in
theorem owns_held (c : Dev nD) (b : Ref sig .tc) (v : b.ty.Contents (Elt F)) :
    (owns (Ix := Unit) (Name := ℕ) (U := UU) (Lvl := ℕ) (c : Thread nD τ) (Memref.whole b) fullShare v : sProp 𝕄) = held c b v := by
  unfold owns; simp only [Memref.view_whole, View.read_whole, View.set_whole]

omit [FloatOps F] [Named F] in
theorem scoped_eq (c : Dev nD) : (Pipeline.scopedRest (Ix := Unit) (Name := ℕ) (U := UU) (Lvl := ℕ) (Val := Elt F) cfg0.spec c : sProp 𝕄)
    = iprop((∃ f, xPts c fullShare Finset.univ f) ∗ (∃ f : Buf (Elt F) ((c : Thread nD τ).loc cc0_scratch1), (((c : Thread nD τ).loc cc0_scratch1) ↦[Finset.univ]{fullShare} f))
      ∗ ringFree false c Finset.univ ∗ ringFree true c Finset.univ ∗ ∃ f, aPts c fullShare Finset.univ f) := scopedRest0_eq c

def bodyPre (c : Dev nD) : sProp 𝕄 :=
  iprop(Φ₀ m c ∗ (dats m 0 c).owesAt () t0_0.castSucc
    ∗ (∃ d, held c cc0_stg0_0 ((dats m 0 c).before (0 : Fin 3) t0_0 d))
    ∗ (∃ d, held c cc0_stg1_0 ((dats m 0 c).before (1 : Fin 3) t0_0 d))
    ∗ (∃ d, held c cc0_stg2_0 ((dats m 0 c).before (2 : Fin 3) t0_0 d)))
def bodyPost (c : Dev nD) : sProp 𝕄 :=
  iprop(Φ₁ c ∗ (dats m 0 c).owesAt () t0_0.succ ∗ held c cc0_stg0_0 (xOf m c) ∗ held c cc0_stg1_0 (wOf m c) ∗ held c cc0_stg2_0 (outOf m c))

theorem pre_body (c : Dev nD) : bodyPre m c ⊢ iprop(∃ K, recs (xOf m) (aOf m) K ∗ ghostPre c ∗ owesAt c 0 ∗ memPre (xOf m) (wOf m) c) := by
  unfold bodyPre Φ₀ start
  rw [scoped_eq]
  unfold Dat.owesAt Pipeline.owesWithin memPre owesAt
  iintro ⟨⟨⟨%K, Hr, Hg⟩, Hx, Hw, Hf, Ht, Ha⟩, ⟨%W, %hW, HO⟩, ⟨%d0, %g0, %h0, H0⟩, ⟨%d1, %g1, %h1, H1⟩, ⟨%d2, %g2, %h2, H2⟩⟩
  have e0 : g0 = xOf m c := h0.trans (before_x m c d0)
  have e1 : g1 = wOf m c := h1.trans (before_w m c d1)
  subst e0
  subst e1
  iexists K
  isplitl [Hr]; · iexact Hr
  isplitl [Hg]; · iexact Hg
  isplitl [HO]; · iexists W; iexact HO
  isplitl [H0 Hx]
  · isplitl [H0]; · iexact H0
    iexact Hx
  isplitl [H1 Hw]
  · isplitl [H1]; · iexact H1
    iexact Hw
  isplitl [H2]; · iexists g2; iexact H2
  isplitl [Hf Ht]
  · isplitl [Hf] <;> iassumption
  iexact Ha

theorem post_body (c : Dev nD) : iprop(memPost (xOf m) (wOf m) (aOf m) c ∗ owesAt c 49 ∗ semPost c) ⊢ bodyPost m c := by
  unfold bodyPost Φ₁
  rw [scoped_eq]
  unfold Dat.owesAt Pipeline.owesWithin memPost owesAt
  rw [show (dats m 0 c).owed t0_0.succ = 0 from rfl, owed_end]
  iintro ⟨⟨⟨H0, H1, H2⟩, Hx, Hw, ⟨Hf, Ht⟩, Ha⟩, ⟨%W, HO⟩, Hs⟩
  isplitl [Hx Hw Hf Ht Ha Hs]
  · isplitl [Hs]; · iexact Hs
    isplitl [Hx]; · iexact Hx
    isplitl [Hw]; · iexact Hw
    isplitl [Hf]; · iexact Hf
    isplitl [Ht]; · iexact Ht
    iexact Ha
  isplitl [HO]
  · iexists W
    isplitr; · ipureintro; exact fun _ _ => Or.inl trivial
    iexact HO
  isplitl [H0]
  · iexists (xOf m c); isplitr; · (ipureintro; rfl)
    iexact H0
  isplitl [H1]
  · iexists (wOf m c); isplitr; · (ipureintro; rfl)
    iexact H1
  iexists (outOf m c); isplitr; · (ipureintro; rfl)
  iexact H2

set_option maxRecDepth 20000 in
theorem body_obligation (c : Dev nD) : BodyObligation (dats (F := F) m 0 c) (defs₀ (F := F)) 𝒱₀ () Set.univ := fun t => by
  rw [fin_N0 t]
  rw [bigSep_W0, bigSep_W0]
  simp only [owns_held]
  show bodyPre m c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) (fun _ => bodyPost m c)
  refine (pre_body m c).trans ?_
  exact exists_elim fun K => body_run (xOf m) (wOf m) (aOf m) c (K := K) rfl (post_body m c)

/-! ## The conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xOf m) (aOf m) c)
      ⊢ |={Set.univ}=> iprop(start m c ∗ emp) := by
  unfold G' start recs
  iintro ⟨-, Hlev, Hcr, -, ⟨%K, ⟨HI, HR⟩, Hp, Ht⟩⟩
  ihave Hc := (creds_intro (F := F) c) $$ Hcr
  imodintro
  isplitl
  · iexists K
    isplitl [HI HR Hlev]
    · isplitl [HI]; · iexact HI
      isplitl [HR] <;> iassumption
    iapply (ghostPre_intro (F := F) c)
    isplitl [Hp]; · iexact Hp
    isplitl [Ht] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

omit [FloatOps F] [Named F] in
theorem sems_back (c : Dev nD) : (semPost c : sProp 𝕄) ⊢ bigSep (Finset.Ico 0 97) (zero c) := by
  rw [cells_cut]
  unfold semPost
  iintro ⟨⟨Z0, Z1, Z96⟩, Z64, Z80⟩
  isplitl [Z0]; · iexact Z0
  isplitl [Z1]; · iexact Z1
  isplitl [Z64]; · iexact Z64
  isplitl [Z80]; · iexact Z80
  iexact Z96

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  iintro ⟨Hz, Hr⟩
  ihave Hz' := ((sems_back (F := F) c).trans (Entails.of_eq (sems_eq (F := F) c).symm)) $$ Hz
  icases Hz' with ⟨Ho, Hu⟩
  isplitl [Hu]; · iexact Hu
  isplitl [Ho] <;> iassumption

/-- The semaphores of the windows lie below everything owed. -/
theorem stage_low : ∀ (w : Fin 3) (s : Fin (cfg0.win w).nbuf), lvS (.dma ((cfg0.win w).sem s)) = 0 := by
  intro w s; fin_cases w <;> fin_cases s <;> decide

theorem payLv_pos (i : ℕ) : 0 < payLv i := by unfold payLv; (repeat' split) <;> omega

theorem waits (c : Dev nD) : (levAts L lv : sProp 𝕄) ⊢ Pipeline.cellsWaits cfgs (dats m) () 0 c :=
  Pipeline.cellsWaits_intro cfgs (dats m) () 0 c fun w s t => by
    rcases t with ⟨_ | k, ht⟩
    · exact mayWait c _ 0 fun _ => lt_of_eq_of_lt (stage_low w s) (payLv_pos 0)
    · have h := mayWait (F := F) c (.dma ((cfg0.win w).sem s)) 49 (fun h => absurd h (by decide))
      rw [owed_end] at h
      exact h

/-! ## The run -/

/-- What an array ends as. -/
def lastA (c : Dev nD) (w : Fin cfg0.W) : Buf (Elt F) ((cfg0.win w).arr.view.loc (c : Thread nD τ)) := (dats m 0 c).arrAt w cfg0.N

theorem last_out (c : Dev nD) : lastA m c (2 : Fin 3) = outOf m c := by
  have h : (win0_2.blk (0 : Fin 1)).view.read (Elt F) (lastA m c (2 : Fin 3)) = outOf m c := by
    unfold lastA
    rw [show cfg0.N = ((0 : Fin 1) : Fin cfg0.N).val + 1 from rfl, (dats m 0 c).arrAt_succ (2 : Fin 3) (0 : Fin 1),
      show (cfg0.win (2 : Fin 3)).flush (0 : Fin 1) = true from by decide, if_pos rfl]
    exact View.read_write_univ _ _
  refine Eq.trans (Eq.symm ?_) h
  exact Memref.read_access_unit_zero (Elt F) main_v1 origin2 (fun a => by fin_cases a <;> decide) _

set_option maxRecDepth 20000 in
theorem run_arrays : θ_run defs (onTc (τ := τ) (main (F := F))) ⟨m, fun _ => 0, ρ⟩
    (fun r => (∀ (c : Dev nD) (w : Fin cfg0.W), r.2.mem ((cfg0.win w).arr.view.loc (c : Thread nD τ)) = lastA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xOf m) (aOf m)) (G' := G' (xOf m) (aOf m)) (u₀ := u₀)
    (hu₀ := by
      unfold u₀
      iintro Hu
      ihave H := (ownU_pair _ _) $$ Hu
      icases H with ⟨HP, HX⟩
      imod (fund_all (xOf m) (aOf m)) $$ HX with HG
      imodintro
      isplitl [HP] <;> iassumption)
    (hglob := glob (xOf m) (aOf m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      ihave %hz := (tcUnscoped_read c s') $$ [Hu HSI]
      · isplitl [Hu] <;> iassumption
      imodintro
      isplitr; · ipureintro; exact hz
      iexact HSI)
    (hQ := fun _ h hs => ⟨fun c w => (h c).1 w, sem_eq_zero hs fun c => (h c).2.2⟩)

/-- From any memory with all semaphores at zero, every execution ends, its arguments unchanged, its results as computed,
    all semaphores at zero again. -/
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v1) = outOf m c) ∧ r.2.sem = fun _ => 0) :=
  (θ_run defs _ _).mono (fun _ h => ⟨fun c => ⟨⟨(h.1 c 0).trans ((dats m 0 c).arrAt_in 0 rfl _), (h.1 c 1).trans ((dats m 0 c).arrAt_in 1 rfl _)⟩,
    (h.1 c 2).trans (last_out m c)⟩, h.2⟩) (run_arrays m ρ)

end Cert.Mesh
end
-- ==== Proof.Literal.lean ====
/-
# The kernel as printed

Over the bits the program with the named constant is the kernel itself, once the name is read as its literal.
-/
module
public import proofs.«01_k».proof.Defs
public import proofs.«01_k».proof.Proof.Gen.Kernel
public import proofs.«01_k».proof.Proof.Gen.KernelIdeal
@[expose] public section
noncomputable section
namespace Cert.Proof
open Idealize.ShloMosaic Idealize.SL.Sem

/-- Names read as the literal they stand for. -/
@[reducible] def literal (F : FTy → Type) [FloatOps F] : Named F where
  named _ _ {φ} bits := FloatOps.ofBits φ bits

attribute [local instance] literal
theorem defs₀_eq : @Eq (Defs Cert.Kernel.nD Cert.Kernel.τ Cert.Kernel.sig (Elt Bits) Cert.Kernel.Λ₀) (Cert.KernelIdeal.defs₀ (F := Bits)) (Cert.Kernel.defs₀ (F := Bits)) := by
  refine congrArg Defs.onTc (funext fun l => funext fun a => ?_)
  have hl : l = (0 : Fin 1) := Subsingleton.elim (α := Fin 1) _ _
  subst hl
  obtain ⟨t, s⟩ := a
  rfl

theorem frame_kernel
  (H : ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) : Cert.quiescent_Kernel := by
  intro m ρ _
  unfold Cert.Kernel.defs
  rw [← defs₀_eq]
  exact H m ρ
end Cert.Proof
end
-- ==== Proof.Frames.lean ====
/-
# The frames, and that the ideal program is the kernel's
-/
module

public import proofs.«01_k».proof.Proof.Launch
public import proofs.«01_k».proof.Proof.Literal
public import proofs.«01_k».proof.Proof.Gen.ReferenceIdeal.Frame

@[expose] public section

noncomputable section

namespace Cert.Proof

open Idealize.ShloMosaic Idealize.SL.Sem

theorem frame_P : Cert.quiescent_Kernel := by
  letI := literal Bits
  exact frame_kernel fun m g => (θ_run Cert.KernelIdeal.defs _ _).mono (fun _ h => ⟨fun c => (h.1 c).1, h.2⟩) (Cert.Mesh.run_main (F := Bits) m g)

theorem frame_PI : Cert.quiescent_KernelIdeal := fun m g _ =>
  (θ_run Cert.KernelIdeal.defs _ _).mono (fun _ h => ⟨fun c => (h.1 c).1, h.2⟩) (Cert.Mesh.run_main (F := Ideal) m g)

theorem frame_RI : Cert.quiescent_ReferenceIdeal := fun m g _ => Cert.ReferenceIdeal.Gen.frame m g

theorem preserves : Cert.preserves_Kernel_KernelIdeal :=
  IdealRules.named_const.statement Cert.KernelIdeal.κ "inv_448" .f32 0x3B124925#32 ((1 / 448 : ℝ) : EReal) rfl

end Cert.Proof
end
-- ==== Proof.Value.lean ====
/-
# The result at the extended reals

The kernel's array on a device is its columns of the reference's: the products have the same entries, the largest entry
over all devices is the largest of the whole product, and dividing by the scale is the product with its reciprocal.
-/
module

public import proofs.«01_k».proof.Defs
public import proofs.«01_k».proof.Proof.Launch
public import proofs.«01_k».proof.Proof.Gen.ReferenceIdeal.Value
public import Idealize.ShloMosaic.PureOps.Reduce
public import Idealize.ShloMosaic.PureOps.Ideal.Laws
public import Idealize.ShloMosaic.Lib.MatmulPlain

@[expose] public section

noncomputable section

namespace Cert.Proof

open Idealize.ShloMosaic Idealize.ShloMosaic.TcCoe Idealize.ShloMosaic.ValueIdx Idealize.SL.Sem
open Cert.Mesh

/-! ## Constants -/

theorem bits_448 : Ideal.ofBits .f32 0x43E00000#32 = ((448 : ℝ) : EReal) := by
  simp [Ideal.ofBits, Ideal.ieee, -EReal.coe_mul]; norm_num
theorem bits_zero : Ideal.ofBits .f32 0x00000000#32 = 0 := by simp [Ideal.ofBits, Ideal.ieee]
theorem bits_one : Ideal.ofBits .f32 0x3F800000#32 = 1 := by
  rw [show (1 : EReal) = ((1 : ℝ) : EReal) by norm_cast]
  simp [Ideal.ofBits, Ideal.ieee, -EReal.coe_mul]; norm_num
theorem bits_bot : Ideal.ofBits .f32 0xFF800000#32 = ⊥ := by simp [Ideal.ofBits, Ideal.ieee]

/-! ## The quantiser -/

/-- The product with the reciprocal of the scale, cut at 448 and scaled back, against the quotient. -/
theorem quant (y s : EReal) (t : EReal) : min (y * Ideal.div 1 s) t * s = min (Ideal.div y s) t * s := by
  by_cases h : s = 0
  · rw [h, mul_zero, mul_zero]
  · unfold Ideal.div
    rw [if_neg h, if_neg h, one_mul]

/-! ## The largest entry -/

/-- A bound of the maximum over every axis is a bound of every entry. -/
theorem peak_le {s s' : Shape} {axes : List (Fin s'.rank)} (v : FVec Ideal s .f32) (hs : s.ShapeCasts s')
    (h : s'.Reduces axes ⟨1, ![1]⟩)
    (hφ : FKind.Formats .f32) (hacc : (0xFF800000#32 : BitVec 32) = FKind.maximumf.neutral .f32 hφ)
    (j : (⟨1, ![1]⟩ : Shape).Idx) (b : EReal) :
    multiReduction .maximumf axes ⟨1, ![1]⟩ (shapeCast s' v hs) 0xFF800000#32 h hφ hacc j ≤ b ↔ ∀ i : s.Idx, v i ≤ b := by
  have hall : ∀ i : s'.Idx, h.drop i = j := fun i => funext fun a => by
    fin_cases a; exact Subsingleton.elim (α := Fin 1) _ _
  rw [multiReduction_maximumf_eq_fold, Finset.filter_true_of_mem fun i _ => hall i]
  show Finset.fold max (Ideal.ofBits .f32 0xFF800000#32) (shapeCast s' v hs) Finset.univ ≤ b ↔ _
  rw [Finset.fold_max_le, bits_bot]
  exact ⟨fun g i => by simpa [shapeCast] using g.2 ((Shape.reshapeEquiv hs).symm i) (Finset.mem_univ _),
    fun g => ⟨bot_le, fun i _ => g _⟩⟩

/-- The same of what a kernel takes out of that maximum. -/
theorem taken_le {s s' t : Shape} {axes : List (Fin s'.rank)} (v : FVec Ideal s .f32) (hs : s.ShapeCasts s')
    (h : s'.Reduces axes ⟨1, ![1]⟩) (hφ : FKind.Formats .f32) (hacc : (0xFF800000#32 : BitVec 32) = FKind.maximumf.neutral .f32 hφ)
    (ht : (⟨1, ![1]⟩ : Shape).ShapeCasts t) (pos : Fin t.rank → ℕ) (hp : ∀ a, pos a < t.size a) (b : EReal) :
    extractAt pos (shapeCast t (multiReduction .maximumf axes ⟨1, ![1]⟩ (shapeCast s' v hs) 0xFF800000#32 h hφ hacc) ht) hp ≤ b ↔ ∀ i : s.Idx, v i ≤ b :=
  peak_le v hs h hφ hacc _ b

/-! ## The whole product -/

/-- An entry of the whole product after the cut at zero. -/
def act (x : (⟨2, ![4096, 4096]⟩ : Shape).Idx → EReal) (w : (⟨2, ![4096, 2048]⟩ : Shape).Idx → EReal) (i : Fin 4096) (j : Fin 2048) : EReal :=
  max (∑ k : Fin 4096, x (ix2 i k) * w (ix2 k j)) 0

theorem relu {M N : ℕ} (y : FVec Ideal ⟨2, ![M, 4096]⟩ .bf16) (w : FVec Ideal ⟨2, ![4096, N]⟩ .bf16) (r : Fin M) (j : Fin N) :
    max (FloatOps.matmul (DotDims.plain M 4096 N) none y w (constant ⟨2, ![M, N]⟩ .f32 0x00000000#32) (ix2 r j)) (Ideal.ofBits .f32 0x00000000#32)
      = max (∑ k : Fin 4096, y (ix2 r k) * w (ix2 k j)) 0 := by
  rw [Ideal.matmul_plain_apply]
  show max (Ideal.ofBits .f32 0x00000000#32 + _) _ = _
  rw [bits_zero, zero_add]

section Pay

open Cert.KernelIdeal Cert.KernelIdeal.Gen

theorem pay3_at (y : FVec Ideal S256x4096 .bf16) (w : FVec Ideal S4096x128 .bf16) (r : Fin 256) (j : Fin 128) :
    k0_pay3 (F := Ideal) y w (ix2 r j) = max (∑ k : Fin 4096, y (ix2 r k) * w (ix2 k j)) 0 := relu y w r j
theorem pay38_at (y : FVec Ideal S128x4096 .bf16) (w : FVec Ideal S4096x128 .bf16) (r : Fin 128) (j : Fin 128) :
    k0_pay38 (F := Ideal) y w (ix2 r j) = max (∑ k : Fin 4096, y (ix2 r k) * w (ix2 k j)) 0 := relu y w r j

end Pay

section Blocks

open Cert.KernelIdeal Cert.KernelIdeal.Gen

variable (x : (⟨2, ![4096, 4096]⟩ : Shape).Idx → EReal) (w : (⟨2, ![4096, 2048]⟩ : Shape).Idx → EReal)

/-- The rows of the left matrix on a device. -/
abbrev rowsOn (c : Dev nD) : S256x4096.Idx → EReal := Layout.block ⟨2, ![256, 4096]⟩ ⟨2, ![4096, 4096]⟩ 0 16 c x
/-- The columns of the right matrix on a device. -/
abbrev colsOn (c : Dev nD) : S4096x128.Idx → EReal := Layout.block ⟨2, ![4096, 128]⟩ ⟨2, ![4096, 2048]⟩ 1 16 c w
/-- A device's column in the whole array. -/
def col (c : Dev nD) (j : Fin 128) : Fin 2048 := ⟨128 * c.val + j.val, by have h1 : c.val < 16 := c.isLt; omega⟩

theorem rowsOn_at (e : Dev nD) (r : Fin 256) (k : Fin 4096) (i : Fin 4096) (hi : i.val = 256 * e.val + r.val) : rowsOn x e (ix2 r k) = x (ix2 i k) := by
  refine congrArg x (funext fun a => Fin.ext ?_)
  rw [Layout.Tiles.idx_val]
  match a with
  | ⟨0, _⟩ => show e.val * 256 + r.val = i.val; omega
  | ⟨1, _⟩ => rfl
theorem colsOn_idx (c : Dev nD) (h : Layout.Tiles ⟨2, ![4096, 128]⟩ ⟨2, ![4096, 2048]⟩ 1 16) (i : S4096x128.Idx) : h.idx c i = ix2 (i 0) (col c (i 1)) := by
  refine funext fun a => Fin.ext ?_
  rw [Layout.Tiles.idx_val]
  match a with
  | ⟨0, _⟩ => rfl
  | ⟨1, _⟩ => show c.val * 128 + (i 1).val = 128 * c.val + (i 1).val; omega
theorem colsOn_at (c : Dev nD) (k : Fin 4096) (j : Fin 128) : colsOn w c (ix2 k j) = w (ix2 k (col c j)) := congrArg w (colsOn_idx c _ _)

/-- The product on a device is its columns of the whole product. -/
theorem prod_at (c : Dev nD) (i : S4096x128.Idx) : prod (F := Ideal) (rowsOn x) (colsOn w) c i = act x w (i 0) (col c (i 1)) := by
  have hi : (i 0).val < 4096 := (i 0).isLt
  unfold prod act
  split_ifs with h
  · refine (pay38_at _ _ _ _).trans ?_
    refine congrArg (max · 0) (Finset.sum_congr rfl fun k _ => ?_)
    refine congrArg₂ (· * ·) (rowsOn_at x (orig false 7 c) _ k (i 0) ?_) (colsOn_at w c k (i 1))
    show (i 0).val = 256 * (orig false 7 c).val + (128 * ((i 0).val % 256 / 128) + (i 0).val % 128) % 256
    omega
  · refine (pay3_at _ _ _ _).trans ?_
    refine congrArg (max · 0) (Finset.sum_congr rfl fun k _ => ?_)
    refine congrArg₂ (· * ·) (rowsOn_at x _ _ k (i 0) ?_) (colsOn_at w c k (i 1))
    show (i 0).val = 256 * ((i 0).val / 256 % 16) + (i 0).val % 256
    omega

end Blocks

section Peak

open Cert.KernelIdeal Cert.KernelIdeal.Gen

variable (X : Dev nD → S256x4096.Idx → EReal) (W : Dev nD → S4096x128.Idx → EReal)

/-- A bound of the entries that the rows of device `e` make on `c`. -/
def Below (c e : Dev nD) (b : EReal) : Prop := ∀ i : S4096x128.Idx, (i 0).val / 256 = e.val → prod (F := Ideal) X W c i ≤ b

variable {X W}

theorem below_iff {c e : Dev nD} {b : EReal} {v : (⟨2, ![256, 128]⟩ : Shape).Idx → EReal}
    (hv : ∀ (x : (⟨2, ![256, 128]⟩ : Shape).Idx) (hr : 256 * e.val + (x 0).val < 4096), v x = prod (F := Ideal) X W c (ix2 ⟨256 * e.val + (x 0).val, hr⟩ (x 1))) :
    (∀ x, v x ≤ b) ↔ Below X W c e b := by
  have he : e.val < 16 := e.isLt
  constructor
  · intro g i hi
    have h0 : (i 0).val < 4096 := (i 0).isLt
    have h1 := g (ix2 ⟨(i 0).val % 256, by omega⟩ (i 1))
    rw [hv _ (by show 256 * e.val + (i 0).val % 256 < 4096; omega)] at h1
    refine le_of_eq_of_le (congrArg _ (funext fun a => Fin.ext ?_)) h1
    match a with
    | ⟨0, _⟩ => show (i 0).val = 256 * e.val + (i 0).val % 256; omega
    | ⟨1, _⟩ => rfl
  · intro g x
    have h0 : (x 0).val < 256 := (x 0).isLt
    rw [hv x (by omega)]
    exact g _ (by show (256 * e.val + (x 0).val) / 256 = e.val; omega)

variable (X W)

theorem own_le (c : Dev nD) (b : EReal) : k0_pay4 (F := Ideal) (X c) (W c) ≤ b ↔ Below X W c c b :=
  Iff.trans (peak_le (k0_pay3 (F := Ideal) (X c) (W c)) _ _ (.inl rfl) rfl _ b) (below_iff fun x hr => prod_own (F := Ideal) X W c c (self_ne c) x hr)
theorem block_le (d : Bool) (c : Dev nD) {h : ℕ} (hh : h < 7) (b : EReal) : blockMax (F := Ideal) X W d h c ≤ b ↔ Below X W c (orig d h c) b := by
  have l1 : blockMax (F := Ideal) X W d h c ≤ b ↔ ∀ x, k0_pay5 (F := Ideal) (rowsV (X (orig d h c)) 0 256) (W c) x ≤ b := peak_le _ _ _ (.inl rfl) rfl _ b
  exact l1.trans (below_iff fun x hr => pay_block (F := Ideal) X W d c hh x hr)

/-- The two halves of the rows of the device opposite. -/
theorem halves_le (c : Dev nD) (b : EReal) :
    (halfMax (F := Ideal) X W false 0 c ≤ b ∧ halfMax (F := Ideal) X W true 128 c ≤ b) ↔ Below X W c (orig false 7 c) b := by
  have he : (orig false 7 c).val < 16 := (orig false 7 c).isLt
  have l1 : halfMax (F := Ideal) X W false 0 c ≤ b ↔ ∀ x, k0_pay35 (F := Ideal) (rowsV (X (orig false 7 c)) 0 128) (W c) x ≤ b := peak_le _ _ _ (.inl rfl) rfl _ b
  have l2 : halfMax (F := Ideal) X W true 128 c ≤ b ↔ ∀ x, k0_pay38 (F := Ideal) (k0_pay37 (rowsV (X (orig true 7 c)) 128 128)) (W c) x ≤ b := peak_le _ _ _ (.inl rfl) rfl _ b
  rw [l1, l2]
  constructor
  · rintro ⟨g1, g2⟩ i hi
    have h0 : (i 0).val < 4096 := (i 0).isLt
    by_cases hlt : (i 0).val % 256 < 128
    · have h1 := g1 (ix2 ⟨(i 0).val % 256, hlt⟩ (i 1))
      rw [pay_first (F := Ideal) X W c _ (by show 256 * (orig false 7 c).val + (i 0).val % 256 < 4096; omega)] at h1
      refine le_of_eq_of_le (congrArg _ (funext fun a => Fin.ext ?_)) h1
      match a with
      | ⟨0, _⟩ => show (i 0).val = 256 * (orig false 7 c).val + (i 0).val % 256; omega
      | ⟨1, _⟩ => rfl
    · have h1 := g2 (ix2 ⟨(i 0).val % 256 - 128, by omega⟩ (i 1))
      rw [pay_second (F := Ideal) X W c _ (by show 256 * (orig false 7 c).val + 128 + ((i 0).val % 256 - 128) < 4096; omega)] at h1
      refine le_of_eq_of_le (congrArg _ (funext fun a => Fin.ext ?_)) h1
      match a with
      | ⟨0, _⟩ => show (i 0).val = 256 * (orig false 7 c).val + 128 + ((i 0).val % 256 - 128); omega
      | ⟨1, _⟩ => rfl
  · refine fun g => ⟨fun x => ?_, fun x => ?_⟩
    · have h0 : (x 0).val < 128 := (x 0).isLt
      rw [pay_first (F := Ideal) X W c x (by omega)]
      exact g _ (by show (256 * (orig false 7 c).val + (x 0).val) / 256 = _; omega)
    · have h0 : (x 0).val < 128 := (x 0).isLt
      rw [pay_second (F := Ideal) X W c x (by omega)]
      exact g _ (by show (256 * (orig false 7 c).val + 128 + (x 0).val) / 256 = _; omega)

/-- Every device is met once: itself, along the ring either way, or opposite. -/
theorem met : ∀ c e : Dev nD, e = c ∨ (∃ (d : Bool) (h : Fin 7), e = orig d h.val c) ∨ e = orig false 7 c := by decide +kernel

/-- What a device contributes is bounded when all of its product is. -/
theorem devMax_le (c : Dev nD) (j : S1x8x128.Idx) (b : EReal) : devMax (F := Ideal) X W c j ≤ b ↔ ∀ i, prod (F := Ideal) X W c i ≤ b := by
  have hchain : devMax (F := Ideal) X W c j ≤ b ↔ (k0_pay4 (F := Ideal) (X c) (W c) ≤ b ∧ (∀ (d : Bool) (h : Fin 7), blockMax (F := Ideal) X W d h.val c ≤ b)
      ∧ halfMax (F := Ideal) X W false 0 c ≤ b ∧ halfMax (F := Ideal) X W true 128 c ≤ b) := by
    unfold devMax
    generalize k0_pay4 (F := Ideal) (X c) (W c) = p
    generalize halfMax (F := Ideal) X W false 0 c = q1
    generalize halfMax (F := Ideal) X W true 128 c = q2
    generalize hB : (fun d h => blockMax (F := Ideal) X W d h c) = B
    have hb : ∀ d h, blockMax (F := Ideal) X W d h c = B d h := fun d h => congrFun (congrFun hB d) h
    simp only [hb]
    change max (max (max (max (max (max (max (max (max (max (max (max (max (max (max (max p (B false 0)) (B true 0)) (B false 1)) (B true 1)) (B false 2)) (B true 2))
      (B false 3)) (B true 3)) (B false 4)) (B true 4)) (B false 5)) (B true 5)) (B false 6)) (B true 6)) q1) q2 ≤ b ↔ _
    simp only [max_le_iff, Bool.forall_bool, Fin.forall_fin_succ, Fin.forall_fin_zero_pi]
    simp
    tauto
  rw [hchain, own_le, halves_le]
  constructor
  · rintro ⟨g1, g2, g3⟩ i
    have h0 : (i 0).val < 4096 := (i 0).isLt
    have hq : (i 0).val / 256 < 16 := by omega
    obtain he | ⟨d, h, he⟩ | he := met c ⟨(i 0).val / 256, hq⟩
    · exact g1 i (congrArg Fin.val he)
    · exact (block_le X W d c h.isLt b).mp (g2 d h) i (congrArg Fin.val he)
    · exact g3 i (congrArg Fin.val he)
  · exact fun g => ⟨fun i _ => g i, fun d h => (block_le X W d c h.isLt b).mpr fun i _ => g i, fun i _ => g i⟩

/-- The largest entry over all devices, as a device computes it. -/
theorem slots_le (c : Dev nD) (b : EReal) :
    (∀ i : S16x8x128.Idx, amaxes (F := Ideal) (devMax (F := Ideal) X W) c i ≤ b) ↔ ∀ d i, prod (F := Ideal) X W d i ≤ b := by
  unfold amaxes
  constructor
  · intro g d
    have h1 := g (ix3 (d - c : Fin 16) 0 0)
    rw [devMax_le] at h1
    rwa [show c + Fin.ofNat 16 ((ix3 (d - c : Fin 16) 0 0 : S16x8x128.Idx) 0).val = d by
      show c + Fin.ofNat 16 (d - c : Fin 16).val = d
      rw [show Fin.ofNat 16 (d - c : Fin 16).val = (d - c : Fin 16) from Fin.ext (Nat.mod_eq_of_lt (d - c : Fin 16).isLt)]
      exact add_sub_cancel c d] at h1
  · intro g i
    rw [devMax_le]
    exact g _

end Peak

section Result

open Cert.KernelIdeal Cert.KernelIdeal.Gen

variable (x : (⟨2, ![4096, 4096]⟩ : Shape).Idx → EReal) (w : (⟨2, ![4096, 2048]⟩ : Shape).Idx → EReal)

/-- The largest entry of the whole product. -/
def top : EReal := ⨆ (i : Fin 4096) (j : Fin 2048), act x w i j

theorem top_le (b : EReal) : top x w ≤ b ↔ ∀ i j, act x w i j ≤ b := iSup_le_iff.trans (forall_congr' fun _ => iSup_le_iff)

/-- An entry after the quantiser. -/
def snapped (i : Fin 4096) (j : Fin 2048) : EReal :=
  min (Ideal.div (act x w i j) (top x w * ((1 / 448 : ℝ) : EReal))) ((448 : ℝ) : EReal) * (top x w * ((1 / 448 : ℝ) : EReal))

/-- The scale is the largest slot over 448. -/
theorem pay42_peak (v : S16x8x128.Idx → EReal) : ∃ g : EReal, k0_pay42 (F := Ideal) v = g * ((1 / 448 : ℝ) : EReal) ∧ ∀ b, g ≤ b ↔ ∀ i, v i ≤ b := by
  have hn : Named.named (F := Ideal) (φ := .f32) κ "inv_448" 0x3B124925#32 = ((1 / 448 : ℝ) : EReal) :=
    IdealRules.named_const.ideal_named_scalar _ _ _ _ rfl
  refine ⟨_, ?_, taken_le v shapeCasts_S16x8x128_S1x16x8x128 reduces_S1x16x8x128_S1 (.inl rfl) rfl shapeCasts_S1_S1x1x1x1 _ inpos_S1x1x1x1_p0_0_0_0⟩
  rw [← hn]
  rfl

/-- The scale on a device. -/
theorem pay42_at (c : Dev nD) (A : Dev nD → S1x8x128.Idx → EReal) (hA : A = devMax (F := Ideal) (rowsOn x) (colsOn w)) :
    k0_pay42 (F := Ideal) (amaxes A c) = top x w * ((1 / 448 : ℝ) : EReal) := by
  obtain ⟨g, h1, hg⟩ := pay42_peak (amaxes (F := Ideal) A c)
  rw [h1]
  refine congrArg (fun u : EReal => u * _) (eq_of_forall_ge_iff fun b => (hg b).trans ?_)
  rw [hA, slots_le, top_le]
  constructor
  · intro g i j
    have hj : j.val < 2048 := j.isLt
    have h1 := g (⟨j.val / 128, by show j.val / 128 < 16; omega⟩ : Fin 16) (ix2 i ⟨j.val % 128, by omega⟩)
    rw [prod_at] at h1
    refine le_of_eq_of_le (congrArg _ (Fin.ext ?_)) h1
    show j.val = 128 * (j.val / 128) + j.val % 128
    omega
  · intro g d i
    rw [prod_at]
    exact g _ _

/-- An entry of the kernel's quantiser. -/
theorem pay44_at (v : S16x8x128.Idx → EReal) (y : S4096x128.Idx → EReal) (i : S4096x128.Idx) :
    k0_pay44 (F := Ideal) (k0_pay42 (F := Ideal) v) (k0_pay43 (F := Ideal) v y) (Scalar.ofBits .f32 0x43E00000#32) i
      = min (y i * Ideal.div 1 (k0_pay42 (F := Ideal) v)) ((448 : ℝ) : EReal) * k0_pay42 (F := Ideal) v := by
  have e : k0_pay44 (F := Ideal) (k0_pay42 (F := Ideal) v) (k0_pay43 (F := Ideal) v y) (Scalar.ofBits .f32 0x43E00000#32) i
      = min (y (Shape.reshapeEquiv shapeCasts_S4096x128_S4096x128 i) * Ideal.div (Ideal.ofBits .f32 0x3F800000#32) (k0_pay42 (F := Ideal) v))
        (Ideal.ofBits .f32 0x43E00000#32) * k0_pay42 (F := Ideal) v := by
    unfold k0_pay44 k0_pay43
    generalize k0_pay42 (F := Ideal) v = t
    rfl
  rw [e, Shape.reshapeEquiv_self, bits_one, bits_448]

/-- The kernel's result on a device. -/
theorem result_at (c : Dev nD) (i : S4096x128.Idx) :
    result (F := Ideal) (rowsOn x) (colsOn w) (devMax (F := Ideal) (rowsOn x) (colsOn w)) c i = snapped x w (i 0) (col c (i 1)) := by
  refine (pay44_at _ _ i).trans ?_
  rw [quant, pay42_at x w c _ rfl, prod_at]
  rfl

/-- The product the reference takes, after the cut at zero. -/
abbrev refProd : FVec Ideal Cert.ReferenceIdeal.S4096x2048 .f32 :=
  maximumf (matmul (F := Ideal) (φ₁ := .bf16) (φ₂ := .bf16) Cert.ReferenceIdeal.dot_S4096x4096_S4096x2048_S4096x2048_1_0_0_1_n_n none x w
    (constant _ .f32 0x00000000#32)) (broadcast _ (Scalar.ofBits .f32 0x00000000#32))

theorem refProd_at (i : Fin 4096) (j : Fin 2048) : refProd x w (ix2 i j) = act x w i j := relu x w i j

/-- The reference's result over its scale. -/
theorem pay1_peak : ∃ g : EReal, (∀ p, Cert.ReferenceIdeal.Gen.k0_pay1 (F := Ideal) x w p
      = min (Ideal.div (refProd x w p) (Ideal.div g (Ideal.ofBits .f32 0x43E00000#32))) (Ideal.ofBits .f32 0x43E00000#32) * Ideal.div g (Ideal.ofBits .f32 0x43E00000#32))
    ∧ ∀ b, g ≤ b ↔ ∀ p, absf (refProd x w) p ≤ b := by
  refine ⟨_, fun p => ?_, taken_le (absf (refProd x w)) Cert.ReferenceIdeal.Gen.shapeCasts_S4096x2048_S1x4096x2048 Cert.ReferenceIdeal.Gen.reduces_S1x4096x2048_S1 (.inl rfl) rfl
    Cert.ReferenceIdeal.Gen.shapeCasts_S1_S1x1x1 _ Cert.ReferenceIdeal.Gen.inpos_S1x1x1_p0_0_0⟩
  rfl

/-- The reference's result. -/
theorem pay1_at (i : Fin 4096) (j : Fin 2048) : Cert.ReferenceIdeal.Gen.k0_pay1 (F := Ideal) x w (ix2 i j) = snapped x w i j := by
  obtain ⟨g, h1, hg⟩ := pay1_peak x w
  have habs : ∀ i j, absf (refProd x w) (ix2 i j) = act x w i j := fun i j => by
    have h0 : 0 ≤ act x w i j := le_max_right _ _
    have h2 : absf (refProd x w) (ix2 i j) = max (refProd x w (ix2 i j)) (-(refProd x w (ix2 i j))) := rfl
    rw [h2, refProd_at]
    exact max_eq_left ((EReal.neg_le_zero.mpr h0).trans h0)
  have ht : g = top x w := eq_of_forall_ge_iff fun b => (hg b).trans <| Iff.trans
    ⟨fun h i j => le_of_eq_of_le (habs i j).symm (h (ix2 i j)), fun h p => by
      rw [show p = ix2 (p 0) (p 1) from funext fun a => by fin_cases a <;> rfl]
      exact le_of_eq_of_le (habs _ _) (h _ _)⟩ (top_le x w b).symm
  rw [h1, refProd_at, ht, bits_448, Ideal.div_coe (by norm_num)]
  rfl

end Result

/-! ## The claim -/

theorem agrees : Cert.algebraic_KernelIdeal_ReferenceIdeal := by
  intro m g m' g' _ hin
  refine ⟨Cert.ReferenceIdeal.Gen.k0_pay1 (F := Ideal) _ _, ?_, (θ_run Cert.ReferenceIdeal.defs _ _).mono (fun _ h => h 0) (Cert.ReferenceIdeal.Value.run (F := Ideal) m' g')⟩
  refine (θ_run Cert.KernelIdeal.defs _ _).mono (fun r h c => ⟨(h.1 c).2.trans ?_, (h.1 c).1⟩) (Cert.Mesh.run_main (F := Ideal) m g)
  have hX : xOf m = rowsOn _ := funext fun c => (hin c).1
  have hW : wOf m = colsOn _ := funext fun c => (hin c).2
  have hA : aOf m = devMax (F := Ideal) (xOf m) (wOf m) := rfl
  unfold outOf
  rw [hA, hX, hW]
  funext i
  refine (result_at _ _ c i).trans ?_
  rw [Layout.block_apply, colsOn_idx]
  exact (pay1_at _ _ _ _).symm

end Cert.Proof
end
-- ==== Proof.lean ====
module

public import proofs.«01_k».proof.Defs
public import proofs.«01_k».proof.Proof.Frames
public import proofs.«01_k».proof.Proof.Gen.ReferenceIdeal.Value
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, frame_P, frame_PI, frame_RI, preserves, agrees⟩

end Cert.Proof

end
